-- ==== Defs.lean ====
def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_mlp_finite [hPre_mlp_finite : Cert.Pre_mlp_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9))) = (fun _ => 1#1)

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_GateUpGrad (m : (ℓ : Loc Cert.GateUpGrad.nD Cert.GateUpGrad.τ Cert.GateUpGrad.sig) → Buf (Elt Bits) ℓ) : Prop :=
  True

def Pre_GateUpGradIdeal (m : (ℓ : Loc Cert.GateUpGradIdeal.nD Cert.GateUpGradIdeal.τ Cert.GateUpGradIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradIdeal_out_finite [hPre_out_finite : Cert.Pre_out_finite.Facts] (m : (ℓ : Loc Cert.OutGradIdeal.nD Cert.OutGradIdeal.τ Cert.OutGradIdeal.sig) → Buf (Elt Ideal) ℓ) : Prop :=
  ∀ c : Dev Cert.OutGradIdeal.nD,
    (Cert.Pre_out_finite.fn (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (m ((c.tc : Thread Cert.OutGradIdeal.nD Cert.OutGradIdeal.τ).loc Cert.OutGradIdeal.main_arg2)) (m ((c.tc : Thread Cert.OutGradIdeal.nD Cert.OutGradIdeal.τ).loc Cert.OutGradIdeal.main_arg3))) = (fun _ => 1#1)

def Pre_OutGradRefIdeal (m : (ℓ : Loc Cert.OutGradRefIdeal.nD Cert.OutGradRefIdeal.τ Cert.OutGradRefIdeal.sig) → Buf (Elt Ideal) ℓ) : Prop :=
  True

def Pre_OutGradRefIdeal_out_finite [hPre_out_finite : Cert.Pre_out_finite.Facts] (m : (ℓ : Loc Cert.OutGradRefIdeal.nD Cert.OutGradRefIdeal.τ Cert.OutGradRefIdeal.sig) → Buf (Elt Ideal) ℓ) : Prop :=
  ∀ c : Dev Cert.OutGradRefIdeal.nD,
    (Cert.Pre_out_finite.fn (F := Ideal) (m ((c.tc : Thread Cert.OutGradRefIdeal.nD Cert.OutGradRefIdeal.τ).loc Cert.OutGradRefIdeal.main_arg0)) (m ((c.tc : Thread Cert.OutGradRefIdeal.nD Cert.OutGradRefIdeal.τ).loc Cert.OutGradRefIdeal.main_arg1)) (m ((c.tc : Thread Cert.OutGradRefIdeal.nD Cert.OutGradRefIdeal.τ).loc Cert.OutGradRefIdeal.main_arg2)) (m ((c.tc : Thread Cert.OutGradRefIdeal.nD Cert.OutGradRefIdeal.τ).loc Cert.OutGradRefIdeal.main_arg3))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9)
      ∧ r.2.mem ((c.tc : Thread Cert.InProjBwd.nD Cert.InProjBwd.τ).loc Cert.InProjBwd.main_arg10) = m ((c.tc : Thread Cert.InProjBwd.nD Cert.InProjBwd.τ).loc Cert.InProjBwd.main_arg10))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5)
      ∧ r.2.mem ((c.tc : Thread Cert.MlpBwd.nD Cert.MlpBwd.τ).loc Cert.MlpBwd.main_arg6) = m ((c.tc : Thread Cert.MlpBwd.nD Cert.MlpBwd.τ).loc Cert.MlpBwd.main_arg6)
      ∧ r.2.mem ((c.tc : Thread Cert.MlpBwd.nD Cert.MlpBwd.τ).loc Cert.MlpBwd.main_arg7) = m ((c.tc : Thread Cert.MlpBwd.nD Cert.MlpBwd.τ).loc Cert.MlpBwd.main_arg7)
      ∧ r.2.mem ((c.tc : Thread Cert.MlpBwd.nD Cert.MlpBwd.τ).loc Cert.MlpBwd.main_arg8) = m ((c.tc : Thread Cert.MlpBwd.nD Cert.MlpBwd.τ).loc Cert.MlpBwd.main_arg8)
      ∧ r.2.mem ((c.tc : Thread Cert.MlpBwd.nD Cert.MlpBwd.τ).loc Cert.MlpBwd.main_arg9) = m ((c.tc : Thread Cert.MlpBwd.nD Cert.MlpBwd.τ).loc Cert.MlpBwd.main_arg9))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
      ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
      ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
      ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9))
      ∧ r.2.sem = fun _ => 0)

def quiescent_MlpBwdIdeal_pre_mlp_finite [hMlpBwdIdeal : Cert.MlpBwdIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_mlp_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
      ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
      ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
      ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5)
      ∧ r.2.mem ((c.tc : Thread Cert.MlpFwd.nD Cert.MlpFwd.τ).loc Cert.MlpFwd.main_arg6) = m ((c.tc : Thread Cert.MlpFwd.nD Cert.MlpFwd.τ).loc Cert.MlpFwd.main_arg6)
      ∧ r.2.mem ((c.tc : Thread Cert.MlpFwd.nD Cert.MlpFwd.τ).loc Cert.MlpFwd.main_arg7) = m ((c.tc : Thread Cert.MlpFwd.nD Cert.MlpFwd.τ).loc Cert.MlpFwd.main_arg7)
      ∧ r.2.mem ((c.tc : Thread Cert.MlpFwd.nD Cert.MlpFwd.τ).loc Cert.MlpFwd.main_arg8) = m ((c.tc : Thread Cert.MlpFwd.nD Cert.MlpFwd.τ).loc Cert.MlpFwd.main_arg8)
      ∧ r.2.mem ((c.tc : Thread Cert.MlpFwd.nD Cert.MlpFwd.τ).loc Cert.MlpFwd.main_arg9) = m ((c.tc : Thread Cert.MlpFwd.nD Cert.MlpFwd.τ).loc Cert.MlpFwd.main_arg9)
      ∧ r.2.mem ((c.tc : Thread Cert.MlpFwd.nD Cert.MlpFwd.τ).loc Cert.MlpFwd.main_arg10) = m ((c.tc : Thread Cert.MlpFwd.nD Cert.MlpFwd.τ).loc Cert.MlpFwd.main_arg10)
      ∧ r.2.mem ((c.tc : Thread Cert.MlpFwd.nD Cert.MlpFwd.τ).loc Cert.MlpFwd.main_arg11) = m ((c.tc : Thread Cert.MlpFwd.nD Cert.MlpFwd.τ).loc Cert.MlpFwd.main_arg11)
      ∧ r.2.mem ((c.tc : Thread Cert.MlpFwd.nD Cert.MlpFwd.τ).loc Cert.MlpFwd.main_arg12) = m ((c.tc : Thread Cert.MlpFwd.nD Cert.MlpFwd.τ).loc Cert.MlpFwd.main_arg12))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
      ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7)
      ∧ r.2.mem ((c.tc : Thread Cert.MlpFwdIdeal.nD Cert.MlpFwdIdeal.τ).loc Cert.MlpFwdIdeal.main_arg8) = m ((c.tc : Thread Cert.MlpFwdIdeal.nD Cert.MlpFwdIdeal.τ).loc Cert.MlpFwdIdeal.main_arg8)
      ∧ r.2.mem ((c.tc : Thread Cert.MlpFwdIdeal.nD Cert.MlpFwdIdeal.τ).loc Cert.MlpFwdIdeal.main_arg9) = m ((c.tc : Thread Cert.MlpFwdIdeal.nD Cert.MlpFwdIdeal.τ).loc Cert.MlpFwdIdeal.main_arg9)
      ∧ r.2.mem ((c.tc : Thread Cert.MlpFwdIdeal.nD Cert.MlpFwdIdeal.τ).loc Cert.MlpFwdIdeal.main_arg10) = m ((c.tc : Thread Cert.MlpFwdIdeal.nD Cert.MlpFwdIdeal.τ).loc Cert.MlpFwdIdeal.main_arg10)
      ∧ r.2.mem ((c.tc : Thread Cert.MlpFwdIdeal.nD Cert.MlpFwdIdeal.τ).loc Cert.MlpFwdIdeal.main_arg11) = m ((c.tc : Thread Cert.MlpFwdIdeal.nD Cert.MlpFwdIdeal.τ).loc Cert.MlpFwdIdeal.main_arg11)
      ∧ r.2.mem ((c.tc : Thread Cert.MlpFwdIdeal.nD Cert.MlpFwdIdeal.τ).loc Cert.MlpFwdIdeal.main_arg12) = m ((c.tc : Thread Cert.MlpFwdIdeal.nD Cert.MlpFwdIdeal.τ).loc Cert.MlpFwdIdeal.main_arg12))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6)
      ∧ r.2.mem ((c.tc : Thread Cert.MlpFwdRefIdeal.nD Cert.MlpFwdRefIdeal.τ).loc Cert.MlpFwdRefIdeal.main_arg7) = m ((c.tc : Thread Cert.MlpFwdRefIdeal.nD Cert.MlpFwdRefIdeal.τ).loc Cert.MlpFwdRefIdeal.main_arg7)
      ∧ r.2.mem ((c.tc : Thread Cert.MlpFwdRefIdeal.nD Cert.MlpFwdRefIdeal.τ).loc Cert.MlpFwdRefIdeal.main_arg8) = m ((c.tc : Thread Cert.MlpFwdRefIdeal.nD Cert.MlpFwdRefIdeal.τ).loc Cert.MlpFwdRefIdeal.main_arg8)
      ∧ r.2.mem ((c.tc : Thread Cert.MlpFwdRefIdeal.nD Cert.MlpFwdRefIdeal.τ).loc Cert.MlpFwdRefIdeal.main_arg9) = m ((c.tc : Thread Cert.MlpFwdRefIdeal.nD Cert.MlpFwdRefIdeal.τ).loc Cert.MlpFwdRefIdeal.main_arg9)
      ∧ r.2.mem ((c.tc : Thread Cert.MlpFwdRefIdeal.nD Cert.MlpFwdRefIdeal.τ).loc Cert.MlpFwdRefIdeal.main_arg10) = m ((c.tc : Thread Cert.MlpFwdRefIdeal.nD Cert.MlpFwdRefIdeal.τ).loc Cert.MlpFwdRefIdeal.main_arg10)
      ∧ r.2.mem ((c.tc : Thread Cert.MlpFwdRefIdeal.nD Cert.MlpFwdRefIdeal.τ).loc Cert.MlpFwdRefIdeal.main_arg11) = m ((c.tc : Thread Cert.MlpFwdRefIdeal.nD Cert.MlpFwdRefIdeal.τ).loc Cert.MlpFwdRefIdeal.main_arg11)
      ∧ r.2.mem ((c.tc : Thread Cert.MlpFwdRefIdeal.nD Cert.MlpFwdRefIdeal.τ).loc Cert.MlpFwdRefIdeal.main_arg12) = m ((c.tc : Thread Cert.MlpFwdRefIdeal.nD Cert.MlpFwdRefIdeal.τ).loc Cert.MlpFwdRefIdeal.main_arg12))
      ∧ r.2.sem = fun _ => 0)

def quiescent_GateUpGrad [hGateUpGrad : Cert.GateUpGrad.Facts] : Prop :=
  ∀ (m : (ℓ : Loc Cert.GateUpGrad.nD Cert.GateUpGrad.τ Cert.GateUpGrad.sig) → Buf (Elt Bits) ℓ) (g : Dev Cert.GateUpGrad.nD → PrngReg), Pre_GateUpGrad m →
    θ_run (Cert.GateUpGrad.defs (F := Bits)) (onTc (τ := Cert.GateUpGrad.τ) (Cert.GateUpGrad.main (F := Bits))) ⟨m, fun _ => 0, g⟩ (fun r => (∀ c : Dev Cert.GateUpGrad.nD,
      r.2.mem ((c.tc : Thread Cert.GateUpGrad.nD Cert.GateUpGrad.τ).loc Cert.GateUpGrad.main_arg0) = m ((c.tc : Thread Cert.GateUpGrad.nD Cert.GateUpGrad.τ).loc Cert.GateUpGrad.main_arg0)
      ∧ r.2.mem ((c.tc : Thread Cert.GateUpGrad.nD Cert.GateUpGrad.τ).loc Cert.GateUpGrad.main_arg1) = m ((c.tc : Thread Cert.GateUpGrad.nD Cert.GateUpGrad.τ).loc Cert.GateUpGrad.main_arg1))
      ∧ r.2.sem = fun _ => 0)

def quiescent_GateUpGradIdeal [hGateUpGradIdeal : Cert.GateUpGradIdeal.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg), Pre_GateUpGradIdeal m →
    θ_run (Cert.GateUpGradIdeal.defs (F := Ideal)) (onTc (τ := Cert.GateUpGradIdeal.τ) (Cert.GateUpGradIdeal.main (F := Ideal))) ⟨m, fun _ => 0, g⟩ (fun r => (∀ c : Dev Cert.GateUpGradIdeal.nD,
      r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
      ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4)
      ∧ r.2.mem ((c.tc : Thread Cert.InGradRefIdeal.nD Cert.InGradRefIdeal.τ).loc Cert.InGradRefIdeal.main_arg5) = m ((c.tc : Thread Cert.InGradRefIdeal.nD Cert.InGradRefIdeal.τ).loc Cert.InGradRefIdeal.main_arg5))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2)
      ∧ r.2.mem ((c.tc : Thread Cert.OutGrad.nD Cert.OutGrad.τ).loc Cert.OutGrad.main_arg3) = m ((c.tc : Thread Cert.OutGrad.nD Cert.OutGrad.τ).loc Cert.OutGrad.main_arg3))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3))
      ∧ r.2.sem = fun _ => 0)

def quiescent_OutGradIdeal_pre_out_finite [hOutGradIdeal : Cert.OutGradIdeal.Facts] [hPre_out_finite : Cert.Pre_out_finite.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal_out_finite m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2)
      ∧ r.2.mem ((c.tc : Thread Cert.OutGradRefIdeal.nD Cert.OutGradRefIdeal.τ).loc Cert.OutGradRefIdeal.main_arg3) = m ((c.tc : Thread Cert.OutGradRefIdeal.nD Cert.OutGradRefIdeal.τ).loc Cert.OutGradRefIdeal.main_arg3))
      ∧ r.2.sem = fun _ => 0)

def quiescent_OutGradRefIdeal_pre_out_finite [hOutGradRefIdeal : Cert.OutGradRefIdeal.Facts] [hPre_out_finite : Cert.Pre_out_finite.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal_out_finite m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2)
      ∧ r.2.mem ((c.tc : Thread Cert.OutGradRefIdeal.nD Cert.OutGradRefIdeal.τ).loc Cert.OutGradRefIdeal.main_arg3) = m ((c.tc : Thread Cert.OutGradRefIdeal.nD Cert.OutGradRefIdeal.τ).loc Cert.OutGradRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4))
      ∧ r.2.sem = fun _ => 0)

def preserves_InProjBwd_InProjBwdIdeal : Prop :=
  True

def algebraic_InProjBwdIdeal_InProjRefIdeal [hInProjBwdIdeal : Cert.InProjBwdIdeal.Facts] [hInProjRefIdeal : Cert.InProjRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjBwdIdeal m →
    (∀ c : Dev Cert.InProjBwdIdeal.nD,
      m' ((c.tc : Thread Cert.InProjRefIdeal.nD Cert.InProjRefIdeal.τ).loc Cert.InProjRefIdeal.main_arg0) = m ((c.tc : Thread Cert.InProjBwdIdeal.nD Cert.InProjBwdIdeal.τ).loc Cert.InProjBwdIdeal.main_arg0)
      ∧ m' ((c.tc : Thread Cert.InProjRefIdeal.nD Cert.InProjRefIdeal.τ).loc Cert.InProjRefIdeal.main_arg1) = m ((c.tc : Thread Cert.InProjBwdIdeal.nD Cert.InProjBwdIdeal.τ).loc Cert.InProjBwdIdeal.main_arg1)
      ∧ m' ((c.tc : Thread Cert.InProjRefIdeal.nD Cert.InProjRefIdeal.τ).loc Cert.InProjRefIdeal.main_arg2) = m ((c.tc : Thread Cert.InProjBwdIdeal.nD Cert.InProjBwdIdeal.τ).loc Cert.InProjBwdIdeal.main_arg2)
      ∧ m' ((c.tc : Thread Cert.InProjRefIdeal.nD Cert.InProjRefIdeal.τ).loc Cert.InProjRefIdeal.main_arg3) = m ((c.tc : Thread Cert.InProjBwdIdeal.nD Cert.InProjBwdIdeal.τ).loc Cert.InProjBwdIdeal.main_arg3)
      ∧ m' ((c.tc : Thread Cert.InProjRefIdeal.nD Cert.InProjRefIdeal.τ).loc Cert.InProjRefIdeal.main_arg4) = m ((c.tc : Thread Cert.InProjBwdIdeal.nD Cert.InProjBwdIdeal.τ).loc Cert.InProjBwdIdeal.main_arg4)
      ∧ m' ((c.tc : Thread Cert.InProjRefIdeal.nD Cert.InProjRefIdeal.τ).loc Cert.InProjRefIdeal.main_arg5) = m ((c.tc : Thread Cert.InProjBwdIdeal.nD Cert.InProjBwdIdeal.τ).loc Cert.InProjBwdIdeal.main_arg5)
      ∧ m' ((c.tc : Thread Cert.InProjRefIdeal.nD Cert.InProjRefIdeal.τ).loc Cert.InProjRefIdeal.main_arg6) = m ((c.tc : Thread Cert.InProjBwdIdeal.nD Cert.InProjBwdIdeal.τ).loc Cert.InProjBwdIdeal.main_arg6)
      ∧ m' ((c.tc : Thread Cert.InProjRefIdeal.nD Cert.InProjRefIdeal.τ).loc Cert.InProjRefIdeal.main_arg7) = m ((c.tc : Thread Cert.InProjBwdIdeal.nD Cert.InProjBwdIdeal.τ).loc Cert.InProjBwdIdeal.main_arg7)
      ∧ m' ((c.tc : Thread Cert.InProjRefIdeal.nD Cert.InProjRefIdeal.τ).loc Cert.InProjRefIdeal.main_arg8) = m ((c.tc : Thread Cert.InProjBwdIdeal.nD Cert.InProjBwdIdeal.τ).loc Cert.InProjBwdIdeal.main_arg8)
      ∧ m' ((c.tc : Thread Cert.InProjRefIdeal.nD Cert.InProjRefIdeal.τ).loc Cert.InProjRefIdeal.main_arg9) = m ((c.tc : Thread Cert.InProjBwdIdeal.nD Cert.InProjBwdIdeal.τ).loc Cert.InProjBwdIdeal.main_arg9)
      ∧ m' ((c.tc : Thread Cert.InProjRefIdeal.nD Cert.InProjRefIdeal.τ).loc Cert.InProjRefIdeal.main_arg10) = m ((c.tc : Thread Cert.InProjBwdIdeal.nD Cert.InProjBwdIdeal.τ).loc Cert.InProjBwdIdeal.main_arg10)) →
    ∃ (v0 : (c : Dev Cert.InProjBwdIdeal.nD) → Buf (Elt Ideal) ((c.tc : Thread Cert.InProjBwdIdeal.nD Cert.InProjBwdIdeal.τ).loc Cert.InProjBwdIdeal.main_v7_0)) (v1 : (c : Dev Cert.InProjBwdIdeal.nD) → Buf (Elt Ideal) ((c.tc : Thread Cert.InProjBwdIdeal.nD Cert.InProjBwdIdeal.τ).loc Cert.InProjBwdIdeal.main_v7_1)) (v2 : (c : Dev Cert.InProjBwdIdeal.nD) → Buf (Elt Ideal) ((c.tc : Thread Cert.InProjBwdIdeal.nD Cert.InProjBwdIdeal.τ).loc Cert.InProjBwdIdeal.main_v7_2)) (v3 : (c : Dev Cert.InProjBwdIdeal.nD) → Buf (Elt Ideal) ((c.tc : Thread Cert.InProjBwdIdeal.nD Cert.InProjBwdIdeal.τ).loc Cert.InProjBwdIdeal.main_v7_3)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v7_0) = v0 c
          ∧ r.2.mem ((c.tc : Thread Cert.InProjBwdIdeal.nD Cert.InProjBwdIdeal.τ).loc Cert.InProjBwdIdeal.main_v7_1) = v1 c
          ∧ r.2.mem ((c.tc : Thread Cert.InProjBwdIdeal.nD Cert.InProjBwdIdeal.τ).loc Cert.InProjBwdIdeal.main_v7_2) = v2 c
          ∧ r.2.mem ((c.tc : Thread Cert.InProjBwdIdeal.nD Cert.InProjBwdIdeal.τ).loc Cert.InProjBwdIdeal.main_v7_3) = v3 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
          ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v50) = v0 c
          ∧ r.2.mem ((c.tc : Thread Cert.InProjRefIdeal.nD Cert.InProjRefIdeal.τ).loc Cert.InProjRefIdeal.main_v66) = v1 c
          ∧ r.2.mem ((c.tc : Thread Cert.InProjRefIdeal.nD Cert.InProjRefIdeal.τ).loc Cert.InProjRefIdeal.main_v67) = v2 c
          ∧ r.2.mem ((c.tc : Thread Cert.InProjRefIdeal.nD Cert.InProjRefIdeal.τ).loc Cert.InProjRefIdeal.main_v68) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_MlpBwd_MlpBwdIdeal : Prop :=
  True

def algebraic_MlpBwdIdeal_MlpRefIdeal_pre_mlp_finite [hMlpBwdIdeal : Cert.MlpBwdIdeal.Facts] [hMlpRefIdeal : Cert.MlpRefIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpBwdIdeal_mlp_finite m →
    (∀ c : Dev Cert.MlpBwdIdeal.nD,
      m' ((c.tc : Thread Cert.MlpRefIdeal.nD Cert.MlpRefIdeal.τ).loc Cert.MlpRefIdeal.main_arg0) = m ((c.tc : Thread Cert.MlpBwdIdeal.nD Cert.MlpBwdIdeal.τ).loc Cert.MlpBwdIdeal.main_arg0)
      ∧ m' ((c.tc : Thread Cert.MlpRefIdeal.nD Cert.MlpRefIdeal.τ).loc Cert.MlpRefIdeal.main_arg1) = m ((c.tc : Thread Cert.MlpBwdIdeal.nD Cert.MlpBwdIdeal.τ).loc Cert.MlpBwdIdeal.main_arg1)
      ∧ m' ((c.tc : Thread Cert.MlpRefIdeal.nD Cert.MlpRefIdeal.τ).loc Cert.MlpRefIdeal.main_arg2) = m ((c.tc : Thread Cert.MlpBwdIdeal.nD Cert.MlpBwdIdeal.τ).loc Cert.MlpBwdIdeal.main_arg2)
      ∧ m' ((c.tc : Thread Cert.MlpRefIdeal.nD Cert.MlpRefIdeal.τ).loc Cert.MlpRefIdeal.main_arg3) = m ((c.tc : Thread Cert.MlpBwdIdeal.nD Cert.MlpBwdIdeal.τ).loc Cert.MlpBwdIdeal.main_arg3)
      ∧ m' ((c.tc : Thread Cert.MlpRefIdeal.nD Cert.MlpRefIdeal.τ).loc Cert.MlpRefIdeal.main_arg4) = m ((c.tc : Thread Cert.MlpBwdIdeal.nD Cert.MlpBwdIdeal.τ).loc Cert.MlpBwdIdeal.main_arg4)
      ∧ m' ((c.tc : Thread Cert.MlpRefIdeal.nD Cert.MlpRefIdeal.τ).loc Cert.MlpRefIdeal.main_arg5) = m ((c.tc : Thread Cert.MlpBwdIdeal.nD Cert.MlpBwdIdeal.τ).loc Cert.MlpBwdIdeal.main_arg5)
      ∧ m' ((c.tc : Thread Cert.MlpRefIdeal.nD Cert.MlpRefIdeal.τ).loc Cert.MlpRefIdeal.main_arg6) = m ((c.tc : Thread Cert.MlpBwdIdeal.nD Cert.MlpBwdIdeal.τ).loc Cert.MlpBwdIdeal.main_arg6)
      ∧ m' ((c.tc : Thread Cert.MlpRefIdeal.nD Cert.MlpRefIdeal.τ).loc Cert.MlpRefIdeal.main_arg7) = m ((c.tc : Thread Cert.MlpBwdIdeal.nD Cert.MlpBwdIdeal.τ).loc Cert.MlpBwdIdeal.main_arg7)
      ∧ m' ((c.tc : Thread Cert.MlpRefIdeal.nD Cert.MlpRefIdeal.τ).loc Cert.MlpRefIdeal.main_arg8) = m ((c.tc : Thread Cert.MlpBwdIdeal.nD Cert.MlpBwdIdeal.τ).loc Cert.MlpBwdIdeal.main_arg8)
      ∧ m' ((c.tc : Thread Cert.MlpRefIdeal.nD Cert.MlpRefIdeal.τ).loc Cert.MlpRefIdeal.main_arg9) = m ((c.tc : Thread Cert.MlpBwdIdeal.nD Cert.MlpBwdIdeal.τ).loc Cert.MlpBwdIdeal.main_arg9)) →
    ∃ (v0 : (c : Dev Cert.MlpBwdIdeal.nD) → Buf (Elt Ideal) ((c.tc : Thread Cert.MlpBwdIdeal.nD Cert.MlpBwdIdeal.τ).loc Cert.MlpBwdIdeal.main_v42_0)) (v1 : (c : Dev Cert.MlpBwdIdeal.nD) → Buf (Elt Ideal) ((c.tc : Thread Cert.MlpBwdIdeal.nD Cert.MlpBwdIdeal.τ).loc Cert.MlpBwdIdeal.main_v42_1)) (v2 : (c : Dev Cert.MlpBwdIdeal.nD) → Buf (Elt Ideal) ((c.tc : Thread Cert.MlpBwdIdeal.nD Cert.MlpBwdIdeal.τ).loc Cert.MlpBwdIdeal.main_v42_2)) (v3 : (c : Dev Cert.MlpBwdIdeal.nD) → Buf (Elt Ideal) ((c.tc : Thread Cert.MlpBwdIdeal.nD Cert.MlpBwdIdeal.τ).loc Cert.MlpBwdIdeal.main_v42_3)) (v4 : (c : Dev Cert.MlpBwdIdeal.nD) → Buf (Elt Ideal) ((c.tc : Thread Cert.MlpBwdIdeal.nD Cert.MlpBwdIdeal.τ).loc Cert.MlpBwdIdeal.main_v42_4)) (v5 : (c : Dev Cert.MlpBwdIdeal.nD) → Buf (Elt Ideal) ((c.tc : Thread Cert.MlpBwdIdeal.nD Cert.MlpBwdIdeal.τ).loc Cert.MlpBwdIdeal.main_v42_5)) (v6 : (c : Dev Cert.MlpBwdIdeal.nD) → Buf (Elt Ideal) ((c.tc : Thread Cert.MlpBwdIdeal.nD Cert.MlpBwdIdeal.τ).loc Cert.MlpBwdIdeal.main_v42_6)) (v7 : (c : Dev Cert.MlpBwdIdeal.nD) → Buf (Elt Ideal) ((c.tc : Thread Cert.MlpBwdIdeal.nD Cert.MlpBwdIdeal.τ).loc Cert.MlpBwdIdeal.main_v42_7)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v42_0) = v0 c
          ∧ r.2.mem ((c.tc : Thread Cert.MlpBwdIdeal.nD Cert.MlpBwdIdeal.τ).loc Cert.MlpBwdIdeal.main_v42_1) = v1 c
          ∧ r.2.mem ((c.tc : Thread Cert.MlpBwdIdeal.nD Cert.MlpBwdIdeal.τ).loc Cert.MlpBwdIdeal.main_v42_2) = v2 c
          ∧ r.2.mem ((c.tc : Thread Cert.MlpBwdIdeal.nD Cert.MlpBwdIdeal.τ).loc Cert.MlpBwdIdeal.main_v42_3) = v3 c
          ∧ r.2.mem ((c.tc : Thread Cert.MlpBwdIdeal.nD Cert.MlpBwdIdeal.τ).loc Cert.MlpBwdIdeal.main_v42_4) = v4 c
          ∧ r.2.mem ((c.tc : Thread Cert.MlpBwdIdeal.nD Cert.MlpBwdIdeal.τ).loc Cert.MlpBwdIdeal.main_v42_5) = v5 c
          ∧ r.2.mem ((c.tc : Thread Cert.MlpBwdIdeal.nD Cert.MlpBwdIdeal.τ).loc Cert.MlpBwdIdeal.main_v42_6) = v6 c
          ∧ r.2.mem ((c.tc : Thread Cert.MlpBwdIdeal.nD Cert.MlpBwdIdeal.τ).loc Cert.MlpBwdIdeal.main_v42_7) = v7 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
          ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
          ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
          ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
          ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v74) = v0 c
          ∧ r.2.mem ((c.tc : Thread Cert.MlpRefIdeal.nD Cert.MlpRefIdeal.τ).loc Cert.MlpRefIdeal.main_v83) = v1 c
          ∧ r.2.mem ((c.tc : Thread Cert.MlpRefIdeal.nD Cert.MlpRefIdeal.τ).loc Cert.MlpRefIdeal.main_v84) = v2 c
          ∧ r.2.mem ((c.tc : Thread Cert.MlpRefIdeal.nD Cert.MlpRefIdeal.τ).loc Cert.MlpRefIdeal.main_v89) = v3 c
          ∧ r.2.mem ((c.tc : Thread Cert.MlpRefIdeal.nD Cert.MlpRefIdeal.τ).loc Cert.MlpRefIdeal.main_v90) = v4 c
          ∧ r.2.mem ((c.tc : Thread Cert.MlpRefIdeal.nD Cert.MlpRefIdeal.τ).loc Cert.MlpRefIdeal.main_v105) = v5 c
          ∧ r.2.mem ((c.tc : Thread Cert.MlpRefIdeal.nD Cert.MlpRefIdeal.τ).loc Cert.MlpRefIdeal.main_v106) = v6 c
          ∧ r.2.mem ((c.tc : Thread Cert.MlpRefIdeal.nD Cert.MlpRefIdeal.τ).loc Cert.MlpRefIdeal.main_v107) = v7 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)
      ∧ m' ((c.tc : Thread Cert.MlpFwdRefIdeal.nD Cert.MlpFwdRefIdeal.τ).loc Cert.MlpFwdRefIdeal.main_arg6) = m ((c.tc : Thread Cert.MlpFwdIdeal.nD Cert.MlpFwdIdeal.τ).loc Cert.MlpFwdIdeal.main_arg6)
      ∧ m' ((c.tc : Thread Cert.MlpFwdRefIdeal.nD Cert.MlpFwdRefIdeal.τ).loc Cert.MlpFwdRefIdeal.main_arg7) = m ((c.tc : Thread Cert.MlpFwdIdeal.nD Cert.MlpFwdIdeal.τ).loc Cert.MlpFwdIdeal.main_arg7)
      ∧ m' ((c.tc : Thread Cert.MlpFwdRefIdeal.nD Cert.MlpFwdRefIdeal.τ).loc Cert.MlpFwdRefIdeal.main_arg8) = m ((c.tc : Thread Cert.MlpFwdIdeal.nD Cert.MlpFwdIdeal.τ).loc Cert.MlpFwdIdeal.main_arg8)
      ∧ m' ((c.tc : Thread Cert.MlpFwdRefIdeal.nD Cert.MlpFwdRefIdeal.τ).loc Cert.MlpFwdRefIdeal.main_arg9) = m ((c.tc : Thread Cert.MlpFwdIdeal.nD Cert.MlpFwdIdeal.τ).loc Cert.MlpFwdIdeal.main_arg9)
      ∧ m' ((c.tc : Thread Cert.MlpFwdRefIdeal.nD Cert.MlpFwdRefIdeal.τ).loc Cert.MlpFwdRefIdeal.main_arg10) = m ((c.tc : Thread Cert.MlpFwdIdeal.nD Cert.MlpFwdIdeal.τ).loc Cert.MlpFwdIdeal.main_arg10)
      ∧ m' ((c.tc : Thread Cert.MlpFwdRefIdeal.nD Cert.MlpFwdRefIdeal.τ).loc Cert.MlpFwdRefIdeal.main_arg11) = m ((c.tc : Thread Cert.MlpFwdIdeal.nD Cert.MlpFwdIdeal.τ).loc Cert.MlpFwdIdeal.main_arg11)
      ∧ m' ((c.tc : Thread Cert.MlpFwdRefIdeal.nD Cert.MlpFwdRefIdeal.τ).loc Cert.MlpFwdRefIdeal.main_arg12) = m ((c.tc : Thread Cert.MlpFwdIdeal.nD Cert.MlpFwdIdeal.τ).loc Cert.MlpFwdIdeal.main_arg12)) →
    ∃ (v0 : (c : Dev Cert.MlpFwdIdeal.nD) → Buf (Elt Ideal) ((c.tc : Thread Cert.MlpFwdIdeal.nD Cert.MlpFwdIdeal.τ).loc Cert.MlpFwdIdeal.main_v27_0)) (v1 : (c : Dev Cert.MlpFwdIdeal.nD) → Buf (Elt Ideal) ((c.tc : Thread Cert.MlpFwdIdeal.nD Cert.MlpFwdIdeal.τ).loc Cert.MlpFwdIdeal.main_v27_1)) (v2 : (c : Dev Cert.MlpFwdIdeal.nD) → Buf (Elt Ideal) ((c.tc : Thread Cert.MlpFwdIdeal.nD Cert.MlpFwdIdeal.τ).loc Cert.MlpFwdIdeal.main_v27_2)) (v3 : (c : Dev Cert.MlpFwdIdeal.nD) → Buf (Elt Ideal) ((c.tc : Thread Cert.MlpFwdIdeal.nD Cert.MlpFwdIdeal.τ).loc Cert.MlpFwdIdeal.main_v27_3)) (v4 : (c : Dev Cert.MlpFwdIdeal.nD) → Buf (Elt Ideal) ((c.tc : Thread Cert.MlpFwdIdeal.nD Cert.MlpFwdIdeal.τ).loc Cert.MlpFwdIdeal.main_v27_4)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v27_0) = v0 c
          ∧ r.2.mem ((c.tc : Thread Cert.MlpFwdIdeal.nD Cert.MlpFwdIdeal.τ).loc Cert.MlpFwdIdeal.main_v27_1) = v1 c
          ∧ r.2.mem ((c.tc : Thread Cert.MlpFwdIdeal.nD Cert.MlpFwdIdeal.τ).loc Cert.MlpFwdIdeal.main_v27_2) = v2 c
          ∧ r.2.mem ((c.tc : Thread Cert.MlpFwdIdeal.nD Cert.MlpFwdIdeal.τ).loc Cert.MlpFwdIdeal.main_v27_3) = v3 c
          ∧ r.2.mem ((c.tc : Thread Cert.MlpFwdIdeal.nD Cert.MlpFwdIdeal.τ).loc Cert.MlpFwdIdeal.main_v27_4) = v4 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
          ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
          ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7)
          ∧ r.2.mem ((c.tc : Thread Cert.MlpFwdIdeal.nD Cert.MlpFwdIdeal.τ).loc Cert.MlpFwdIdeal.main_arg8) = m ((c.tc : Thread Cert.MlpFwdIdeal.nD Cert.MlpFwdIdeal.τ).loc Cert.MlpFwdIdeal.main_arg8)
          ∧ r.2.mem ((c.tc : Thread Cert.MlpFwdIdeal.nD Cert.MlpFwdIdeal.τ).loc Cert.MlpFwdIdeal.main_arg9) = m ((c.tc : Thread Cert.MlpFwdIdeal.nD Cert.MlpFwdIdeal.τ).loc Cert.MlpFwdIdeal.main_arg9)
          ∧ r.2.mem ((c.tc : Thread Cert.MlpFwdIdeal.nD Cert.MlpFwdIdeal.τ).loc Cert.MlpFwdIdeal.main_arg10) = m ((c.tc : Thread Cert.MlpFwdIdeal.nD Cert.MlpFwdIdeal.τ).loc Cert.MlpFwdIdeal.main_arg10)
          ∧ r.2.mem ((c.tc : Thread Cert.MlpFwdIdeal.nD Cert.MlpFwdIdeal.τ).loc Cert.MlpFwdIdeal.main_arg11) = m ((c.tc : Thread Cert.MlpFwdIdeal.nD Cert.MlpFwdIdeal.τ).loc Cert.MlpFwdIdeal.main_arg11)
          ∧ r.2.mem ((c.tc : Thread Cert.MlpFwdIdeal.nD Cert.MlpFwdIdeal.τ).loc Cert.MlpFwdIdeal.main_arg12) = m ((c.tc : Thread Cert.MlpFwdIdeal.nD Cert.MlpFwdIdeal.τ).loc Cert.MlpFwdIdeal.main_arg12))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v6) = v0 c
          ∧ r.2.mem ((c.tc : Thread Cert.MlpFwdRefIdeal.nD Cert.MlpFwdRefIdeal.τ).loc Cert.MlpFwdRefIdeal.main_v84) = v1 c
          ∧ r.2.mem ((c.tc : Thread Cert.MlpFwdRefIdeal.nD Cert.MlpFwdRefIdeal.τ).loc Cert.MlpFwdRefIdeal.main_v83) = v2 c
          ∧ r.2.mem ((c.tc : Thread Cert.MlpFwdRefIdeal.nD Cert.MlpFwdRefIdeal.τ).loc Cert.MlpFwdRefIdeal.main_v85) = v3 c
          ∧ r.2.mem ((c.tc : Thread Cert.MlpFwdRefIdeal.nD Cert.MlpFwdRefIdeal.τ).loc Cert.MlpFwdRefIdeal.main_v88) = v4 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5)
          ∧ r.2.mem ((c.tc : Thread Cert.MlpFwdRefIdeal.nD Cert.MlpFwdRefIdeal.τ).loc Cert.MlpFwdRefIdeal.main_arg6) = m' ((c.tc : Thread Cert.MlpFwdRefIdeal.nD Cert.MlpFwdRefIdeal.τ).loc Cert.MlpFwdRefIdeal.main_arg6)
          ∧ r.2.mem ((c.tc : Thread Cert.MlpFwdRefIdeal.nD Cert.MlpFwdRefIdeal.τ).loc Cert.MlpFwdRefIdeal.main_arg7) = m' ((c.tc : Thread Cert.MlpFwdRefIdeal.nD Cert.MlpFwdRefIdeal.τ).loc Cert.MlpFwdRefIdeal.main_arg7)
          ∧ r.2.mem ((c.tc : Thread Cert.MlpFwdRefIdeal.nD Cert.MlpFwdRefIdeal.τ).loc Cert.MlpFwdRefIdeal.main_arg8) = m' ((c.tc : Thread Cert.MlpFwdRefIdeal.nD Cert.MlpFwdRefIdeal.τ).loc Cert.MlpFwdRefIdeal.main_arg8)
          ∧ r.2.mem ((c.tc : Thread Cert.MlpFwdRefIdeal.nD Cert.MlpFwdRefIdeal.τ).loc Cert.MlpFwdRefIdeal.main_arg9) = m' ((c.tc : Thread Cert.MlpFwdRefIdeal.nD Cert.MlpFwdRefIdeal.τ).loc Cert.MlpFwdRefIdeal.main_arg9)
          ∧ r.2.mem ((c.tc : Thread Cert.MlpFwdRefIdeal.nD Cert.MlpFwdRefIdeal.τ).loc Cert.MlpFwdRefIdeal.main_arg10) = m' ((c.tc : Thread Cert.MlpFwdRefIdeal.nD Cert.MlpFwdRefIdeal.τ).loc Cert.MlpFwdRefIdeal.main_arg10)
          ∧ r.2.mem ((c.tc : Thread Cert.MlpFwdRefIdeal.nD Cert.MlpFwdRefIdeal.τ).loc Cert.MlpFwdRefIdeal.main_arg11) = m' ((c.tc : Thread Cert.MlpFwdRefIdeal.nD Cert.MlpFwdRefIdeal.τ).loc Cert.MlpFwdRefIdeal.main_arg11)
          ∧ r.2.mem ((c.tc : Thread Cert.MlpFwdRefIdeal.nD Cert.MlpFwdRefIdeal.τ).loc Cert.MlpFwdRefIdeal.main_arg12) = m' ((c.tc : Thread Cert.MlpFwdRefIdeal.nD Cert.MlpFwdRefIdeal.τ).loc Cert.MlpFwdRefIdeal.main_arg12))

def preserves_GateUpGrad_GateUpGradIdeal : Prop :=
  True

def algebraic_GateUpGradIdeal_GateUpRefIdeal [hGateUpGradIdeal : Cert.GateUpGradIdeal.Facts] [hGateUpRefIdeal : Cert.GateUpRefIdeal.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpGradIdeal m →
    (∀ c : Dev Cert.GateUpGradIdeal.nD,
      m' ((c.tc : Thread Cert.GateUpRefIdeal.nD Cert.GateUpRefIdeal.τ).loc Cert.GateUpRefIdeal.main_arg0) = m ((c.tc : Thread Cert.GateUpGradIdeal.nD Cert.GateUpGradIdeal.τ).loc Cert.GateUpGradIdeal.main_arg0)
      ∧ m' ((c.tc : Thread Cert.GateUpRefIdeal.nD Cert.GateUpRefIdeal.τ).loc Cert.GateUpRefIdeal.main_arg1) = m ((c.tc : Thread Cert.GateUpGradIdeal.nD Cert.GateUpGradIdeal.τ).loc Cert.GateUpGradIdeal.main_arg1)) →
    ∃ (v0 : (c : Dev Cert.GateUpGradIdeal.nD) → Buf (Elt Ideal) ((c.tc : Thread Cert.GateUpGradIdeal.nD Cert.GateUpGradIdeal.τ).loc Cert.GateUpGradIdeal.main_v0)),
      θ_run (Cert.GateUpGradIdeal.defs (F := Ideal)) (onTc (τ := Cert.GateUpGradIdeal.τ) (Cert.GateUpGradIdeal.main (F := Ideal))) ⟨m, fun _ => 0, g⟩ (fun r => ∀ c : Dev Cert.GateUpGradIdeal.nD,
          r.2.mem ((c.tc : Thread Cert.GateUpGradIdeal.nD Cert.GateUpGradIdeal.τ).loc Cert.GateUpGradIdeal.main_v0) = v0 c
          ∧ r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
          ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v14) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)
      ∧ m' ((c.tc : Thread Cert.InGradRefIdeal.nD Cert.InGradRefIdeal.τ).loc Cert.InGradRefIdeal.main_arg5) = m ((c.tc : Thread Cert.InGradIdeal.nD Cert.InGradIdeal.τ).loc Cert.InGradIdeal.main_arg5)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v13) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4)
          ∧ r.2.mem ((c.tc : Thread Cert.InGradRefIdeal.nD Cert.InGradRefIdeal.τ).loc Cert.InGradRefIdeal.main_arg5) = m' ((c.tc : Thread Cert.InGradRefIdeal.nD Cert.InGradRefIdeal.τ).loc Cert.InGradRefIdeal.main_arg5))

def preserves_OutGrad_OutGradIdeal : Prop :=
  True

def algebraic_OutGradIdeal_OutGradRefIdeal_pre_out_finite [hOutGradIdeal : Cert.OutGradIdeal.Facts] [hOutGradRefIdeal : Cert.OutGradRefIdeal.Facts] [hPre_out_finite : Cert.Pre_out_finite.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal_out_finite m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)
      ∧ m' ((c.tc : Thread Cert.OutGradRefIdeal.nD Cert.OutGradRefIdeal.τ).loc Cert.OutGradRefIdeal.main_arg2) = m ((c.tc : Thread Cert.OutGradIdeal.nD Cert.OutGradIdeal.τ).loc Cert.OutGradIdeal.main_arg2)
      ∧ m' ((c.tc : Thread Cert.OutGradRefIdeal.nD Cert.OutGradRefIdeal.τ).loc Cert.OutGradRefIdeal.main_arg3) = m ((c.tc : Thread Cert.OutGradIdeal.nD Cert.OutGradIdeal.τ).loc Cert.OutGradIdeal.main_arg3)) →
    ∃ (v0 : (c : Dev Cert.OutGradIdeal.nD) → Buf (Elt Ideal) ((c.tc : Thread Cert.OutGradIdeal.nD Cert.OutGradIdeal.τ).loc Cert.OutGradIdeal.main_v1_0)) (v1 : (c : Dev Cert.OutGradIdeal.nD) → Buf (Elt Ideal) ((c.tc : Thread Cert.OutGradIdeal.nD Cert.OutGradIdeal.τ).loc Cert.OutGradIdeal.main_v1_1)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v1_0) = v0 c
          ∧ r.2.mem ((c.tc : Thread Cert.OutGradIdeal.nD Cert.OutGradIdeal.τ).loc Cert.OutGradIdeal.main_v1_1) = v1 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
          ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v10) = v0 c
          ∧ r.2.mem ((c.tc : Thread Cert.OutGradRefIdeal.nD Cert.OutGradRefIdeal.τ).loc Cert.OutGradRefIdeal.main_v12) = v1 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1)
          ∧ r.2.mem ((c.tc : Thread Cert.OutGradRefIdeal.nD Cert.OutGradRefIdeal.τ).loc Cert.OutGradRefIdeal.main_arg2) = m' ((c.tc : Thread Cert.OutGradRefIdeal.nD Cert.OutGradRefIdeal.τ).loc Cert.OutGradRefIdeal.main_arg2)
          ∧ r.2.mem ((c.tc : Thread Cert.OutGradRefIdeal.nD Cert.OutGradRefIdeal.τ).loc Cert.OutGradRefIdeal.main_arg3) = m' ((c.tc : Thread Cert.OutGradRefIdeal.nD Cert.OutGradRefIdeal.τ).loc Cert.OutGradRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)) →
    ∃ (v0 : (c : Dev Cert.InFwdIdeal.nD) → Buf (Elt Ideal) ((c.tc : Thread Cert.InFwdIdeal.nD Cert.InFwdIdeal.τ).loc Cert.InFwdIdeal.main_v7_0)) (v1 : (c : Dev Cert.InFwdIdeal.nD) → Buf (Elt Ideal) ((c.tc : Thread Cert.InFwdIdeal.nD Cert.InFwdIdeal.τ).loc Cert.InFwdIdeal.main_v7_1)) (v2 : (c : Dev Cert.InFwdIdeal.nD) → Buf (Elt Ideal) ((c.tc : Thread Cert.InFwdIdeal.nD Cert.InFwdIdeal.τ).loc Cert.InFwdIdeal.main_v7_2)) (v3 : (c : Dev Cert.InFwdIdeal.nD) → Buf (Elt Ideal) ((c.tc : Thread Cert.InFwdIdeal.nD Cert.InFwdIdeal.τ).loc Cert.InFwdIdeal.main_v7_3)) (v4 : (c : Dev Cert.InFwdIdeal.nD) → Buf (Elt Ideal) ((c.tc : Thread Cert.InFwdIdeal.nD Cert.InFwdIdeal.τ).loc Cert.InFwdIdeal.main_v7_4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v7_0) = v0 c
          ∧ r.2.mem ((c.tc : Thread Cert.InFwdIdeal.nD Cert.InFwdIdeal.τ).loc Cert.InFwdIdeal.main_v7_1) = v1 c
          ∧ r.2.mem ((c.tc : Thread Cert.InFwdIdeal.nD Cert.InFwdIdeal.τ).loc Cert.InFwdIdeal.main_v7_2) = v2 c
          ∧ r.2.mem ((c.tc : Thread Cert.InFwdIdeal.nD Cert.InFwdIdeal.τ).loc Cert.InFwdIdeal.main_v7_3) = v3 c
          ∧ r.2.mem ((c.tc : Thread Cert.InFwdIdeal.nD Cert.InFwdIdeal.τ).loc Cert.InFwdIdeal.main_v7_4) = v4 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v22) = v0 c
          ∧ r.2.mem ((c.tc : Thread Cert.InFwdRefIdeal.nD Cert.InFwdRefIdeal.τ).loc Cert.InFwdRefIdeal.main_v24) = v1 c
          ∧ r.2.mem ((c.tc : Thread Cert.InFwdRefIdeal.nD Cert.InFwdRefIdeal.τ).loc Cert.InFwdRefIdeal.main_v25) = v2 c
          ∧ r.2.mem ((c.tc : Thread Cert.InFwdRefIdeal.nD Cert.InFwdRefIdeal.τ).loc Cert.InFwdRefIdeal.main_v26) = v3 c
          ∧ r.2.mem ((c.tc : Thread Cert.InFwdRefIdeal.nD Cert.InFwdRefIdeal.τ).loc Cert.InFwdRefIdeal.main_v20) = v4 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4))

def Claim : Prop :=
  ∃ (hInProjBwd : Cert.InProjBwd.Facts) (hInProjBwdIdeal : Cert.InProjBwdIdeal.Facts) (hInProjRefIdeal : Cert.InProjRefIdeal.Facts) (hMlpBwd : Cert.MlpBwd.Facts) (hMlpBwdIdeal : Cert.MlpBwdIdeal.Facts) (hMlpRefIdeal : Cert.MlpRefIdeal.Facts) (hMlpFwd : Cert.MlpFwd.Facts) (hMlpFwdIdeal : Cert.MlpFwdIdeal.Facts) (hMlpFwdRefIdeal : Cert.MlpFwdRefIdeal.Facts) (hGateUpGrad : Cert.GateUpGrad.Facts) (hGateUpGradIdeal : Cert.GateUpGradIdeal.Facts) (hGateUpRefIdeal : Cert.GateUpRefIdeal.Facts) (hInGrad : Cert.InGrad.Facts) (hInGradIdeal : Cert.InGradIdeal.Facts) (hInGradRefIdeal : Cert.InGradRefIdeal.Facts) (hOutGrad : Cert.OutGrad.Facts) (hOutGradIdeal : Cert.OutGradIdeal.Facts) (hOutGradRefIdeal : Cert.OutGradRefIdeal.Facts) (hInFwd : Cert.InFwd.Facts) (hInFwdIdeal : Cert.InFwdIdeal.Facts) (hInFwdRefIdeal : Cert.InFwdRefIdeal.Facts) (hPre_mlp_finite : Cert.Pre_mlp_finite.Facts) (hPre_out_finite : Cert.Pre_out_finite.Facts),
    quiescent_InProjBwd (hInProjBwd := hInProjBwd)
    ∧ quiescent_InProjBwdIdeal (hInProjBwdIdeal := hInProjBwdIdeal)
    ∧ quiescent_InProjRefIdeal (hInProjRefIdeal := hInProjRefIdeal)
    ∧ quiescent_MlpBwd (hMlpBwd := hMlpBwd)
    ∧ quiescent_MlpBwdIdeal (hMlpBwdIdeal := hMlpBwdIdeal)
    ∧ quiescent_MlpBwdIdeal_pre_mlp_finite (hMlpBwdIdeal := hMlpBwdIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_GateUpGrad (hGateUpGrad := hGateUpGrad)
    ∧ quiescent_GateUpGradIdeal (hGateUpGradIdeal := hGateUpGradIdeal)
    ∧ quiescent_GateUpRefIdeal (hGateUpRefIdeal := hGateUpRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_OutGrad (hOutGrad := hOutGrad)
    ∧ quiescent_OutGradIdeal (hOutGradIdeal := hOutGradIdeal)
    ∧ quiescent_OutGradIdeal_pre_out_finite (hOutGradIdeal := hOutGradIdeal) (hPre_out_finite := hPre_out_finite)
    ∧ quiescent_OutGradRefIdeal (hOutGradRefIdeal := hOutGradRefIdeal)
    ∧ quiescent_OutGradRefIdeal_pre_out_finite (hOutGradRefIdeal := hOutGradRefIdeal) (hPre_out_finite := hPre_out_finite)
    ∧ quiescent_InFwd (hInFwd := hInFwd)
    ∧ quiescent_InFwdIdeal (hInFwdIdeal := hInFwdIdeal)
    ∧ quiescent_InFwdRefIdeal (hInFwdRefIdeal := hInFwdRefIdeal)
    ∧ preserves_InProjBwd_InProjBwdIdeal
    ∧ algebraic_InProjBwdIdeal_InProjRefIdeal (hInProjBwdIdeal := hInProjBwdIdeal) (hInProjRefIdeal := hInProjRefIdeal)
    ∧ preserves_MlpBwd_MlpBwdIdeal
    ∧ algebraic_MlpBwdIdeal_MlpRefIdeal_pre_mlp_finite (hMlpBwdIdeal := hMlpBwdIdeal) (hMlpRefIdeal := hMlpRefIdeal) (hPre_mlp_finite := hPre_mlp_finite)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_GateUpGrad_GateUpGradIdeal
    ∧ algebraic_GateUpGradIdeal_GateUpRefIdeal (hGateUpGradIdeal := hGateUpGradIdeal) (hGateUpRefIdeal := hGateUpRefIdeal)
    ∧ preserves_InGrad_InGradIdeal
    ∧ algebraic_InGradIdeal_InGradRefIdeal (hInGradIdeal := hInGradIdeal) (hInGradRefIdeal := hInGradRefIdeal)
    ∧ preserves_OutGrad_OutGradIdeal
    ∧ algebraic_OutGradIdeal_OutGradRefIdeal_pre_out_finite (hOutGradIdeal := hOutGradIdeal) (hOutGradRefIdeal := hOutGradRefIdeal) (hPre_out_finite := hPre_out_finite)
    ∧ preserves_InFwd_InFwdIdeal
    ∧ algebraic_InFwdIdeal_InFwdRefIdeal (hInFwdIdeal := hInFwdIdeal) (hInFwdRefIdeal := hInFwdRefIdeal)
-- ==== Pre_mlp_finite.lean ====
abbrev S8192x1024 : Shape := ⟨2, ![8192, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg9 : FVec F S1x1024 .f32) (main_v33 : IVec S_ 1) : IVec S_ 1 :=
  let main_v34 : FVec F S1x1024 .f32 := Host.absf main_arg9
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg6 : FVec F S1x1024 .f32) (main_arg7 : FVec F S1x1024 .f32) (main_arg8 : FVec F S1x1024 .f32) (main_arg9 : FVec F S1x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x1024 .f32 := Host.absf main_arg6
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg7
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg8
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg9 main_v33

def fn {F : FTy → Type} [FloatOps F] (main_arg0 : FVec F S8192x1024 .f32) (main_arg1 : FVec F S8192x1024 .f32) (main_arg2 : FVec F S1024x1024 .f32) (main_arg3 : FVec F S1024x5632 .f32) (main_arg4 : FVec F S2816x1024 .f32) (main_arg5 : FVec F S1x1024 .f32) (main_arg6 : FVec F S1x1024 .f32) (main_arg7 : FVec F S1x1024 .f32) (main_arg8 : FVec F S1x1024 .f32) (main_arg9 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg6 main_arg7 main_arg8 main_arg9 main_v13 main_v16
-- ==== Pre_out_finite.lean ====
abbrev S8192x512 : Shape := ⟨2, ![8192, 512]⟩
abbrev S8192x1024 : Shape := ⟨2, ![8192, 1024]⟩
abbrev S1x1024 : Shape := ⟨2, ![1, 1024]⟩
abbrev S512x1024 : Shape := ⟨2, ![512, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_v14 : IVec S_ 1) (main_v15 : FVec F S512x1024 .f32) (main_v16 : FVec F S512x1024 .f32) : IVec S_ 1 :=
  let main_v17 : IVec S512x1024 1 := cmpf .olt main_v15 main_v16
  let main_c_5 : IVec S_ 1 := constantI S_ 1 1#1
  let main_v18 : IVec S_ 1 := (fun x v => Host.reduce IntOp.andi x v reducesTo_S512x1024_S_d0_1 h_S_) main_v17 main_c_5
  let main_v19 : IVec S_ 1 := andi main_v14 main_v18
  main_v19

def fn {F : FTy → Type} [FloatOps F] (main_arg0 : FVec F S8192x512 .bf16) (main_arg1 : FVec F S8192x1024 .f32) (main_arg2 : FVec F S1x1024 .f32) (main_arg3 : FVec F S512x1024 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S512x1024 .f32 := Host.absf main_arg3
  let main_cst_4 : FVec F S_ .f32 := constant S_ .f32 0x7F800000#32
  let main_v16 : FVec F S512x1024 .f32 := broadcastInDim S512x1024 ![] bcast_S_S512x1024 main_cst_4
  fn_part1 (F := F) main_v14 main_v15 main_v16
-- ==== InProjBwd.lean ====
abbrev S8192x1024 : Shape := ⟨2, ![8192, 1024]⟩
abbrev S1x1024 : Shape := ⟨2, ![1, 1024]⟩
abbrev S1024x2312 : Shape := ⟨2, ![1024, 2312]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S2312x1024 : Shape := ⟨2, ![2312, 1024]⟩
abbrev S120x1024 : Shape := ⟨2, ![120, 1024]⟩
abbrev S2432x1024 : Shape := ⟨2, ![2432, 1024]⟩
abbrev S8x1024 : Shape := ⟨2, ![8, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x512 : Shape := ⟨2, ![256, 512]⟩
abbrev S256x256 : Shape := ⟨2, ![256, 256]⟩
abbrev S256x1024 : Shape := ⟨2, ![256, 1024]⟩
abbrev S256x128 : Shape := ⟨2, ![256, 128]⟩
abbrev S256x2432 : Shape := ⟨2, ![256, 2432]⟩
abbrev S256 : Shape := ⟨1, ![256]⟩
abbrev S256x1 : Shape := ⟨2, ![256, 1]⟩
abbrev S1024 : Shape := ⟨1, ![1024]⟩

abbrev nBuf : Space → Nat
  | .hbm => 24
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2312, .f32⟩
  | .hbm, ⟨5, _⟩ => ⟨S8192x1024, .f32⟩
  | .hbm, ⟨6, _⟩ => ⟨S8192x512, .bf16⟩
  | .hbm, ⟨7, _⟩ => ⟨S8192x256, .bf16⟩
  | .hbm, ⟨8, _⟩ => ⟨S8192x512, .bf16⟩
  | .hbm, ⟨9, _⟩ => ⟨S8192x1024, .bf16⟩
  | .hbm, ⟨10, _⟩ => ⟨S8192x128, .bf16⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S2312x1024, .f32⟩
  | .hbm, ⟨16, _⟩ => ⟨S2312x1024, .bf16⟩
  | .hbm, ⟨17, _⟩ => ⟨S_, .bf16⟩
  | .hbm, ⟨18, _⟩ => ⟨S120x1024, .bf16⟩
  | .hbm, ⟨19, _⟩ => ⟨S2432x1024, .bf16⟩
  | .hbm, ⟨20, _⟩ => ⟨S8192x1024, .f32⟩
  | .hbm, ⟨21, _⟩ => ⟨S8192x1024, .bf16⟩
  | .hbm, ⟨22, _⟩ => ⟨S8x1024, .f32⟩
  | .hbm, ⟨23, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2432x1024, .bf16⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x256, .bf16⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x128, .bf16⟩
  | .local _ .vmem, ⟨16, _⟩ => ⟨S512x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2432x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InProjRefIdeal.lean ====
abbrev S8192x1024 : Shape := ⟨2, ![8192, 1024]⟩
abbrev S1x1024 : Shape := ⟨2, ![1, 1024]⟩
abbrev S1024x2312 : Shape := ⟨2, ![1024, 2312]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S8192x8 : Shape := ⟨2, ![8192, 8]⟩
abbrev S8192x2312 : Shape := ⟨2, ![8192, 2312]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2312, .f32⟩
  | .hbm, ⟨5, _⟩ => ⟨S8192x1024, .f32⟩
  | .hbm, ⟨6, _⟩ => ⟨S8192x512, .bf16⟩
  | .hbm, ⟨7, _⟩ => ⟨S8192x256, .bf16⟩
  | .hbm, ⟨8, _⟩ => ⟨S8192x512, .bf16⟩
  | .hbm, ⟨9, _⟩ => ⟨S8192x1024, .bf16⟩
  | .hbm, ⟨10, _⟩ => ⟨S8192x128, .bf16⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x8, .bf16⟩
  | .hbm, ⟨16, _⟩ => ⟨S8192x512, .f32⟩
  | .hbm, ⟨17, _⟩ => ⟨S8192x256, .f32⟩
  | .hbm, ⟨18, _⟩ => ⟨S8192x512, .f32⟩
  | .hbm, ⟨19, _⟩ => ⟨S8192x1024, .f32⟩
  | .hbm, ⟨20, _⟩ => ⟨S8192x8, .f32⟩
  | .hbm, ⟨21, _⟩ => ⟨S8192x2312, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2312, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S7x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | .hbm, ⟨92, _⟩ => ⟨S8x1024, .f32⟩
  | .hbm, ⟨93, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== MlpBwd.lean ====
abbrev S8192x1024 : Shape := ⟨2, ![8192, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S512x5632 : Shape := ⟨2, ![512, 5632]⟩
abbrev S512x1408 : Shape := ⟨2, ![512, 1408]⟩
abbrev S1x512x1408 : Shape := ⟨3, ![1, 512, 1408]⟩
abbrev S4x512x1408 : Shape := ⟨3, ![4, 512, 1408]⟩
abbrev S8192 : Shape := ⟨1, ![8192]⟩
abbrev S8192x1 : Shape := ⟨2, ![8192, 1]⟩
abbrev S8192x5632 : Shape := ⟨2, ![8192, 5632]⟩
abbrev S8192x512 : Shape := ⟨2, ![8192, 512]⟩
abbrev S8192x2816 : Shape := ⟨2, ![8192, 2816]⟩
abbrev S8x1024 : Shape := ⟨2, ![8, 1024]⟩
abbrev S256x1024 : Shape := ⟨2, ![256, 1024]⟩
abbrev S256x5632 : Shape := ⟨2, ![256, 5632]⟩
abbrev S256x512 : Shape := ⟨2, ![256, 512]⟩
abbrev S256x2816 : Shape := ⟨2, ![256, 2816]⟩
abbrev S4 : Shape := ⟨1, ![4]⟩
abbrev S1 : Shape := ⟨1, ![1]⟩
abbrev S256x1408 : Shape := ⟨2, ![256, 1408]⟩
abbrev S256 : Shape := ⟨1, ![256]⟩
abbrev S256x1 : Shape := ⟨2, ![256, 1]⟩
abbrev S1024 : Shape := ⟨1, ![1024]⟩

abbrev nBuf : Space → Nat
  | .hbm => 64
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x5632, .bf16⟩
  | .hbm, ⟨15, _⟩ => ⟨S512x5632, .bf16⟩
  | .hbm, ⟨16, _⟩ => ⟨S512x5632, .bf16⟩
  | .hbm, ⟨17, _⟩ => ⟨S512x1408, .bf16⟩
  | .hbm, ⟨18, _⟩ => ⟨S512x1408, .bf16⟩
  | .hbm, ⟨19, _⟩ => ⟨S512x1408, .bf16⟩
  | .hbm, ⟨20, _⟩ => ⟨S512x1408, .bf16⟩
  | .hbm, ⟨21, _⟩ => ⟨S1x512x1408, .bf16⟩
  | .hbm, ⟨22, _⟩ => ⟨S1x512x1408, .bf16⟩
  | .hbm, ⟨23, _⟩ => ⟨S1x512x1408, .bf16⟩
  | .hbm, ⟨24, _⟩ => ⟨S1x512x1408, .bf16⟩
  | .hbm, ⟨25, _⟩ => ⟨S4x512x1408, .bf16⟩
  | .hbm, ⟨26, _⟩ => ⟨S512x1408, .bf16⟩
  | .hbm, ⟨27, _⟩ => ⟨S512x1408, .bf16⟩
  | .hbm, ⟨28, _⟩ => ⟨S512x1408, .bf16⟩
  | .hbm, ⟨29, _⟩ => ⟨S512x1408, .bf16⟩
  | .hbm, ⟨30, _⟩ => ⟨S1x512x1408, .bf16⟩
  | .hbm, ⟨31, _⟩ => ⟨S1x512x1408, .bf16⟩
  | .hbm, ⟨32, _⟩ => ⟨S1x512x1408, .bf16⟩
  | .hbm, ⟨33, _⟩ => ⟨S1x512x1408, .bf16⟩
  | .hbm, ⟨34, _⟩ => ⟨S4x512x1408, .bf16⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x5632, .f32⟩
  | .hbm, ⟨53, _⟩ => ⟨S8192x5632, .bf16⟩
  | .hbm, ⟨54, _⟩ => ⟨S1024x1024, .bf16⟩
  | .hbm, ⟨55, _⟩ => ⟨S2816x1024, .bf16⟩
  | .hbm, ⟨56, _⟩ => ⟨S8192x1024, .f32⟩
  | .hbm, ⟨57, _⟩ => ⟨S8192x512, .f32⟩
  | .hbm, ⟨58, _⟩ => ⟨S8192x512, .f32⟩
  | .hbm, ⟨59, _⟩ => ⟨S8192x2816, .bf16⟩
  | .hbm, ⟨60, _⟩ => ⟨S8192x5632, .bf16⟩
  | .hbm, ⟨61, _⟩ => ⟨S8192x1024, .bf16⟩
  | .hbm, ⟨62, _⟩ => ⟨S8x1024, .f32⟩
  | .hbm, ⟨63, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x2816, .bf16⟩
  | .local _ .vmem, ⟨17, _⟩ => ⟨S256x2816, .bf16⟩
  | .local _ .vmem, ⟨18, _⟩ => ⟨S256x5632, .bf16⟩
  | .local _ .vmem, ⟨19, _⟩ => ⟨S256x5632, .bf16⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | .local _ .vmem, ⟨23, _⟩ => ⟨S8x1024, .f32⟩
  | .local _ .vmem, ⟨24, _⟩ => ⟨S1024x1024, .bf16⟩
  | .local _ .vmem, ⟨25, _⟩ => ⟨S4x512x1408, .bf16⟩
  | .local _ .vmem, ⟨26, _⟩ => ⟨S4x512x1408, .bf16⟩
  | .local _ .vmem, ⟨27, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev main_v42_3 : Ref sig .tc := ⟨.hbm, 59, rfl⟩
abbrev main_v42_4 : Ref sig .tc := ⟨.hbm, 60, rfl⟩
abbrev main_v42_5 : Ref sig .tc := ⟨.hbm, 61, rfl⟩
abbrev main_v42_6 : Ref sig .tc := ⟨.hbm, 62, rfl⟩
abbrev main_v42_7 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MlpRefIdeal.lean ====
abbrev S8192x1024 : Shape := ⟨2, ![8192, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S7x1024 : Shape := ⟨2, ![7, 1024]⟩
abbrev S8192x512 : Shape := ⟨2, ![8192, 512]⟩
abbrev S8x1024 : Shape := ⟨2, ![8, 1024]⟩

abbrev nBuf : Space → Nat
  | .hbm => 161
  | .vmem => 0
  | .smem => 0
  | _ => 0

abbrev hbmTy0_0 (i : Nat) : BufTy := match i % 128 with
  | 0 => ⟨S8192x1024, .f32⟩
  | 1 => ⟨S8192x1024, .f32⟩
  | 2 => ⟨S1024x1024, .f32⟩
  | 3 => ⟨S1024x5632, .f32⟩
  | 4 => ⟨S2816x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x5632, .f32⟩
  | 32 => ⟨S8192x2816, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S_, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S8192x2816, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x2816, .f32⟩
  | 54 => ⟨S8192x2816, .f32⟩
  | 55 => ⟨S8192x2816, .f32⟩
  | 56 => ⟨S_, .f32⟩
  | 57 => ⟨S8192x5632, .f32⟩
  | 58 => ⟨S8192x2816, .f32⟩
  | 59 => ⟨S8192x2816, .f32⟩
  | 60 => ⟨S8192x2816, .f32⟩
  | 61 => ⟨S8192x2816, .f32⟩
  | 62 => ⟨S_, .f32⟩
  | 63 => ⟨S8192x5632, .f32⟩
  | 64 => ⟨S8192x5632, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x5632, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S7x1024, .f32⟩
  | 125 => ⟨S8192x512, .f32⟩
  | 126 => ⟨S8192x512, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S_, .f32⟩
  | 3 => ⟨S8192x2816, .f32⟩
  | 4 => ⟨S8192x2816, .f32⟩
  | 5 => ⟨S_, .f32⟩
  | 6 => ⟨S8192x2816, .f32⟩
  | 7 => ⟨S8192x2816, .f32⟩
  | 8 => ⟨S8192x2816, .f32⟩
  | 9 => ⟨S8192x2816, .f32⟩
  | 10 => ⟨S8192x2816, .f32⟩
  | 11 => ⟨S8192x2816, .bf16⟩
  | 12 => ⟨S8192x5632, .bf16⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .bf16⟩
  | 31 => ⟨S8x1024, .f32⟩
  | 32 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v19_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v19_1 : Ref sig .tc := ⟨.hbm, 44, rfl⟩
abbrev main_v19_0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_12 : Ref sig .tc := ⟨.hbm, 105, rfl⟩
abbrev main_v67 : Ref sig .tc := ⟨.hbm, 106, rfl⟩
abbrev main_v68 : Ref sig .tc := ⟨.hbm, 107, rfl⟩
abbrev main_cst_13 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_14 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_15 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_16 : Ref sig .tc := ⟨.hbm, 142, rfl⟩
abbrev main_v92 : Ref sig .tc := ⟨.hbm, 143, rfl⟩
abbrev main_v93 : Ref sig .tc := ⟨.hbm, 144, rfl⟩
abbrev main_cst_17 : Ref sig .tc := ⟨.hbm, 145, rfl⟩
abbrev main_v94 : Ref sig .tc := ⟨.hbm, 146, rfl⟩
abbrev main_v95 : Ref sig .tc := ⟨.hbm, 147, rfl⟩
abbrev main_cst_18 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩

abbrev nD : Nat := 1
abbrev τ : Topo := Topo.v7x

variable {F : FTy → Type} [FloatOps F]
-- ==== MlpFwd.lean ====
abbrev S8192x1024 : Shape := ⟨2, ![8192, 1024]⟩
abbrev S8192x512 : Shape := ⟨2, ![8192, 512]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S512x5632 : Shape := ⟨2, ![512, 5632]⟩
abbrev S512x1408 : Shape := ⟨2, ![512, 1408]⟩
abbrev S1x512x1408 : Shape := ⟨3, ![1, 512, 1408]⟩
abbrev S4x512x1408 : Shape := ⟨3, ![4, 512, 1408]⟩
abbrev S_ : Shape := ⟨0, ![]⟩
abbrev S8192x5632 : Shape := ⟨2, ![8192, 5632]⟩
abbrev S8x128 : Shape := ⟨2, ![8, 128]⟩
abbrev S8x1024 : Shape := ⟨2, ![8, 1024]⟩
abbrev S512x1024 : Shape := ⟨2, ![512, 1024]⟩
abbrev S512x512 : Shape := ⟨2, ![512, 512]⟩
abbrev S4 : Shape := ⟨1, ![4]⟩
abbrev S1 : Shape := ⟨1, ![1]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x1408 : Shape := ⟨2, ![256, 1408]⟩
abbrev S256x5632 : Shape := ⟨2, ![256, 5632]⟩
abbrev S256x2816 : Shape := ⟨2, ![256, 2816]⟩
abbrev S1x256x1024 : Shape := ⟨3, ![1, 256, 1024]⟩
abbrev S1x1x1 : Shape := ⟨3, ![1, 1, 1]⟩

abbrev nBuf : Space → Nat
  | .hbm => 46
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S1024x1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1024x5632, .bf16⟩
  | .hbm, ⟨14, _⟩ => ⟨S512x5632, .bf16⟩
  | .hbm, ⟨15, _⟩ => ⟨S512x5632, .bf16⟩
  | .hbm, ⟨16, _⟩ => ⟨S512x1408, .bf16⟩
  | .hbm, ⟨17, _⟩ => ⟨S512x1408, .bf16⟩
  | .hbm, ⟨18, _⟩ => ⟨S512x1408, .bf16⟩
  | .hbm, ⟨19, _⟩ => ⟨S512x1408, .bf16⟩
  | .hbm, ⟨20, _⟩ => ⟨S1x512x1408, .bf16⟩
  | .hbm, ⟨21, _⟩ => ⟨S1x512x1408, .bf16⟩
  | .hbm, ⟨22, _⟩ => ⟨S1x512x1408, .bf16⟩
  | .hbm, ⟨23, _⟩ => ⟨S1x512x1408, .bf16⟩
  | .hbm, ⟨24, _⟩ => ⟨S4x512x1408, .bf16⟩
  | .hbm, ⟨25, _⟩ => ⟨S512x1408, .bf16⟩
  | .hbm, ⟨26, _⟩ => ⟨S512x1408, .bf16⟩
  | .hbm, ⟨27, _⟩ => ⟨S512x1408, .bf16⟩
  | .hbm, ⟨28, _⟩ => ⟨S512x1408, .bf16⟩
  | .hbm, ⟨29, _⟩ => ⟨S1x512x1408, .bf16⟩
  | .hbm, ⟨30, _⟩ => ⟨S1x512x1408, .bf16⟩
  | .hbm, ⟨31, _⟩ => ⟨S1x512x1408, .bf16⟩
  | .hbm, ⟨32, _⟩ => ⟨S1x512x1408, .bf16⟩
  | .hbm, ⟨33, _⟩ => ⟨S4x512x1408, .bf16⟩
  | .hbm, ⟨34, _⟩ => ⟨S1024x1024, .bf16⟩
  | .hbm, ⟨35, _⟩ => ⟨S2816x1024, .bf16⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S8192x1024, .f32⟩
  | .hbm, ⟨42, _⟩ => ⟨S8192x5632, .bf16⟩
  | .hbm, ⟨43, _⟩ => ⟨S8192x1024, .f32⟩
  | .hbm, ⟨44, _⟩ => ⟨S8x128, .f32⟩
  | .hbm, ⟨45, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x5632, .bf16⟩
  | .local _ .vmem, ⟨16, _⟩ => ⟨S512x5632, .bf16⟩
  | .local _ .vmem, ⟨17, _⟩ => ⟨S512x1024, .f32⟩
  | .local _ .vmem, ⟨18, _⟩ => ⟨S512x1024, .f32⟩
  | .local _ .vmem, ⟨19, _⟩ => ⟨S8x128, .f32⟩
  | .local _ .vmem, ⟨20, _⟩ => ⟨S8x1024, .f32⟩
  | .local _ .vmem, ⟨21, _⟩ => ⟨S1024x1024, .bf16⟩
  | .local _ .vmem, ⟨22, _⟩ => ⟨S4x512x1408, .bf16⟩
  | .local _ .vmem, ⟨23, _⟩ => ⟨S4x512x1408, .bf16⟩
  | .local _ .vmem, ⟨24, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpFwdRefIdeal.lean ====
abbrev S8192x1024 : Shape := ⟨2, ![8192, 1024]⟩
abbrev S8192x512 : Shape := ⟨2, ![8192, 512]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .bf16⟩
  | 3 => ⟨S8192x1024, .f32⟩
  | 4 => ⟨S1024x1024, .f32⟩
  | 5 => ⟨S1024x5632, .f32⟩
  | 6 => ⟨S2816x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1024, .f32⟩
  | 13 => ⟨S8192x512, .f32⟩
  | 14 => ⟨S8192x512, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S1x1024, .f32⟩
  | 22 => ⟨S1x1024, .f32⟩
  | 23 => ⟨S1x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x5632, .f32⟩
  | 42 => ⟨S8192x2816, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192, .f32⟩
  | 85 => ⟨S_, .f32⟩
  | 86 => ⟨S8192, .f32⟩
  | 87 => ⟨S8192, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S8192, .f32⟩
  | 96 => ⟨S_, .f32⟩
  | 97 => ⟨S8192, .f32⟩
  | 98 => ⟨S8192, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S_, .f32⟩
  | 108 => ⟨S1024, .f32⟩
  | 109 => ⟨S8192x1024, .f32⟩
  | 110 => ⟨S_, .f32⟩
  | 111 => ⟨S8192, .f32⟩
  | 112 => ⟨S8192x1, .f32⟩
  | 113 => ⟨S8192x1024, .f32⟩
  | 114 => ⟨S8192x1024, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x5632, .bf16⟩
  | 127 => ⟨S8x128, .f32⟩
  | _ => ⟨S8192x1024, .f32⟩

abbrev hbmTy0_1 (i : Nat) : BufTy := match i % 128 with
  | 0 => ⟨S1x1024, .f32⟩
  | 1 => ⟨S_, .f32⟩
  | 2 => ⟨S7x1024, .f32⟩
  | 3 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_cst_12 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_16 : Ref sig .tc := ⟨.hbm, 107, rfl⟩
abbrev main_v69 : Ref sig .tc := ⟨.hbm, 108, rfl⟩
abbrev main_v70 : Ref sig .tc := ⟨.hbm, 109, rfl⟩
abbrev main_cst_17 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_18 : Ref sig .tc := ⟨.hbm, 116, rfl⟩
abbrev main_v76 : Ref sig .tc := ⟨.hbm, 117, rfl⟩
abbrev main_v77 : Ref sig .tc := ⟨.hbm, 118, rfl⟩
abbrev main_cst_19 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_20 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== GateUpGrad.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x5632 : Shape := ⟨2, ![1024, 5632]⟩
abbrev S4 : Shape := ⟨1, ![4]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x5632, .bf16⟩
  | .local _ .vmem, ⟨3, _⟩ => ⟨S1024x5632, .bf16⟩
  | .local _ .vmem, ⟨4, _⟩ => ⟨S1024x5632, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GateUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== InGrad.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S4x578x1024 : Shape := ⟨3, ![4, 578, 1024]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S1024x2432 : Shape := ⟨2, ![1024, 2432]⟩
abbrev S2432x1024 : Shape := ⟨2, ![2432, 1024]⟩
abbrev S_ : Shape := ⟨0, ![]⟩
abbrev S128x1024 : Shape := ⟨2, ![128, 1024]⟩
abbrev S578x1024 : Shape := ⟨2, ![578, 1024]⟩
abbrev S1x578x1024 : Shape := ⟨3, ![1, 578, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x512, .bf16⟩
  | .hbm, ⟨4, _⟩ => ⟨S8192x1024, .bf16⟩
  | .hbm, ⟨5, _⟩ => ⟨S8192x128, .bf16⟩
  | .hbm, ⟨6, _⟩ => ⟨S4x578x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S1024x2432, .f32⟩
  | .local _ .vmem, ⟨13, _⟩ => ⟨S2432x1024, .f32⟩
  | .local _ .vmem, ⟨14, _⟩ => ⟨S4x578x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InGradRefIdeal.lean ====
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S8192x8 : Shape := ⟨2, ![8192, 8]⟩
abbrev S8192x2312 : Shape := ⟨2, ![8192, 2312]⟩
abbrev S_ : Shape := ⟨0, ![]⟩
abbrev S1024x2312 : Shape := ⟨2, ![1024, 2312]⟩
abbrev S2312x1024 : Shape := ⟨2, ![2312, 1024]⟩
abbrev S4x578x1024 : Shape := ⟨3, ![4, 578, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x512, .bf16⟩
  | .hbm, ⟨4, _⟩ => ⟨S8192x1024, .bf16⟩
  | .hbm, ⟨5, _⟩ => ⟨S8192x128, .bf16⟩
  | .hbm, ⟨6, _⟩ => ⟨S8192x8, .bf16⟩
  | .hbm, ⟨7, _⟩ => ⟨S8192x512, .f32⟩
  | .hbm, ⟨8, _⟩ => ⟨S8192x256, .f32⟩
  | .hbm, ⟨9, _⟩ => ⟨S8192x512, .f32⟩
  | .hbm, ⟨10, _⟩ => ⟨S8192x1024, .f32⟩
  | .hbm, ⟨11, _⟩ => ⟨S8192x8, .f32⟩
  | .hbm, ⟨12, _⟩ => ⟨S8192x2312, .f32⟩
  | .hbm, ⟨13, _⟩ => ⟨S_, .f32⟩
  | .hbm, ⟨14, _⟩ => ⟨S1024x2312, .f32⟩
  | .hbm, ⟨15, _⟩ => ⟨S8192x1024, .f32⟩
  | .hbm, ⟨16, _⟩ => ⟨S8192x2312, .f32⟩
  | .hbm, ⟨17, _⟩ => ⟨S2312x1024, .f32⟩
  | .hbm, ⟨18, _⟩ => ⟨S1024x2312, .f32⟩
  | .hbm, ⟨19, _⟩ => ⟨S2312x1024, .f32⟩
  | .hbm, ⟨20, _⟩ => ⟨S4x578x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== OutGrad.lean ====
abbrev S8192x512 : Shape := ⟨2, ![8192, 512]⟩
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S1024x512 : Shape := ⟨2, ![1024, 512]⟩
abbrev S1024x1024 : Shape := ⟨2, ![1024, 1024]⟩
abbrev S_ : Shape := ⟨0, ![]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S1x1024, .f32⟩
  | .hbm, ⟨3, _⟩ => ⟨S512x1024, .f32⟩
  | .hbm, ⟨4, _⟩ => ⟨S512x1024, .bf16⟩
  | .hbm, ⟨5, _⟩ => ⟨S512x1024, .f32⟩
  | .hbm, ⟨6, _⟩ => ⟨S8x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S512x1024, .bf16⟩
  | .local _ .vmem, ⟨6, _⟩ => ⟨S8x1024, .f32⟩
  | .local _ .vmem, ⟨7, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== OutGradRefIdeal.lean ====
abbrev S8192x512 : Shape := ⟨2, ![8192, 512]⟩
abbrev S8192x1024 : Shape := ⟨2, ![8192, 1024]⟩
abbrev S1x1024 : Shape := ⟨2, ![1, 1024]⟩
abbrev S512x1024 : Shape := ⟨2, ![512, 1024]⟩
abbrev S_ : Shape := ⟨0, ![]⟩
abbrev S1024 : Shape := ⟨1, ![1024]⟩
abbrev S1024x512 : Shape := ⟨2, ![1024, 512]⟩
abbrev S7x1024 : Shape := ⟨2, ![7, 1024]⟩
abbrev S8x1024 : Shape := ⟨2, ![8, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S1x1024, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x512, .f32⟩
  | .hbm, ⟨15, _⟩ => ⟨S512x1024, .f32⟩
  | .hbm, ⟨16, _⟩ => ⟨S_, .f32⟩
  | .hbm, ⟨17, _⟩ => ⟨S7x1024, .f32⟩
  | .hbm, ⟨18, _⟩ => ⟨S8x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== InFwd.lean ====
abbrev S8192x1024 : Shape := ⟨2, ![8192, 1024]⟩
abbrev S1x1024 : Shape := ⟨2, ![1, 1024]⟩
abbrev S1024x2312 : Shape := ⟨2, ![1024, 2312]⟩
abbrev S_ : Shape := ⟨0, ![]⟩
abbrev S2312x1024 : Shape := ⟨2, ![2312, 1024]⟩
abbrev S120x1024 : Shape := ⟨2, ![120, 1024]⟩
abbrev S2432x1024 : Shape := ⟨2, ![2432, 1024]⟩
abbrev S8192x512 : Shape := ⟨2, ![8192, 512]⟩
abbrev S8192x256 : Shape := ⟨2, ![8192, 256]⟩
abbrev S8192x128 : Shape := ⟨2, ![8192, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S256x2432 : Shape := ⟨2, ![256, 2432]⟩
abbrev S256x512 : Shape := ⟨2, ![256, 512]⟩
abbrev S256x256 : Shape := ⟨2, ![256, 256]⟩
abbrev S256x128 : Shape := ⟨2, ![256, 128]⟩

abbrev nBuf : Space → Nat
  | .hbm => 19
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2312, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2312x1024, .f32⟩
  | .hbm, ⟨10, _⟩ => ⟨S2312x1024, .bf16⟩
  | .hbm, ⟨11, _⟩ => ⟨S_, .bf16⟩
  | .hbm, ⟨12, _⟩ => ⟨S120x1024, .bf16⟩
  | .hbm, ⟨13, _⟩ => ⟨S2432x1024, .bf16⟩
  | .hbm, ⟨14, _⟩ => ⟨S8192x512, .bf16⟩
  | .hbm, ⟨15, _⟩ => ⟨S8192x256, .bf16⟩
  | .hbm, ⟨16, _⟩ => ⟨S8192x512, .f32⟩
  | .hbm, ⟨17, _⟩ => ⟨S8192x1024, .f32⟩
  | .hbm, ⟨18, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2432x1024, .bf16⟩
  | .local _ .vmem, ⟨5, _⟩ => ⟨S512x512, .bf16⟩
  | .local _ .vmem, ⟨6, _⟩ => ⟨S512x512, .bf16⟩
  | .local _ .vmem, ⟨7, _⟩ => ⟨S512x256, .bf16⟩
  | .local _ .vmem, ⟨8, _⟩ => ⟨S512x256, .bf16⟩
  | .local _ .vmem, ⟨9, _⟩ => ⟨S512x512, .f32⟩
  | .local _ .vmem, ⟨10, _⟩ => ⟨S512x512, .f32⟩
  | .local _ .vmem, ⟨11, _⟩ => ⟨S512x1024, .f32⟩
  | .local _ .vmem, ⟨12, _⟩ => ⟨S512x1024, .f32⟩
  | .local _ .vmem, ⟨13, _⟩ => ⟨S512x128, .f32⟩
  | .local _ .vmem, ⟨14, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2432x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InFwdRefIdeal.lean ====
abbrev S8192x1024 : Shape := ⟨2, ![8192, 1024]⟩
abbrev S1x1024 : Shape := ⟨2, ![1, 1024]⟩
abbrev S1024x2312 : Shape := ⟨2, ![1024, 2312]⟩
abbrev S_ : Shape := ⟨0, ![]⟩
abbrev S8192 : Shape := ⟨1, ![8192]⟩
abbrev S8192x1 : Shape := ⟨2, ![8192, 1]⟩
abbrev S8192x2312 : Shape := ⟨2, ![8192, 2312]⟩
abbrev S8192x8 : Shape := ⟨2, ![8192, 8]⟩
abbrev S8192x120 : Shape := ⟨2, ![8192, 120]⟩
abbrev S8192x128 : Shape := ⟨2, ![8192, 128]⟩
abbrev S8192x512 : Shape := ⟨2, ![8192, 512]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2312, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2312, .f32⟩
  | .hbm, ⟨27, _⟩ => ⟨S8192x8, .f32⟩
  | .hbm, ⟨28, _⟩ => ⟨S_, .f32⟩
  | .hbm, ⟨29, _⟩ => ⟨S8192x120, .f32⟩
  | .hbm, ⟨30, _⟩ => ⟨S8192x128, .f32⟩
  | .hbm, ⟨31, _⟩ => ⟨S8192x512, .f32⟩
  | .hbm, ⟨32, _⟩ => ⟨S8192x512, .bf16⟩
  | .hbm, ⟨33, _⟩ => ⟨S8192x256, .f32⟩
  | .hbm, ⟨34, _⟩ => ⟨S8192x256, .bf16⟩
  | .hbm, ⟨35, _⟩ => ⟨S8192x512, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.InProj.Row.lean ====
/- The arithmetic of one token's row, over the reals with infinities: the root-mean-square norm of a row, the five gradients of a row laid side by side,
   and the gradient of the norm in the form the kernel computes it. -/
module

public import Idealize.ShloMosaic.PureOps.Ideal.Laws
public import Idealize.ShloMosaic.Lib.Pointwise

@[expose] public section

noncomputable section

namespace Cert.InProj

open Idealize.ShloMosaic

/-- The length of a row, as the programs write it. -/
abbrev width : EReal := Ideal.ofBits .f32 0x44800000#32

/-- The norm's small constant. -/
abbrev small : EReal := Ideal.ofBits .f32 0x358637BD#32

/-- The mean of the squares of one row, plus the small constant. -/
def meanSq (X : Fin 1024 → EReal) : EReal := Ideal.div (∑ k, X k * X k) width + small

/-- The reciprocal root mean square of one row. -/
def inv (X : Fin 1024 → EReal) : EReal := Ideal.rsqrt (meanSq X)

/-- One row, normed, scaled and shifted. -/
def modulated (X A B : Fin 1024 → EReal) (k : Fin 1024) : EReal := X k * inv X * A k + B k

/-- The gradient of one row: `g` comes through the residual, `D` is the gradient of the modulated row, `A` the scale. -/
def gradRow (g : EReal) (X D A : Fin 1024 → EReal) (k : Fin 1024) : EReal :=
  g + inv X * (D k * A k) - X k * inv X * (inv X * Ideal.div (∑ l, D l * A l * (X l * inv X)) width)

/-- Column `x` of the five gradients of one row laid side by side. -/
def cat (q : Fin 512 → EReal) (kv : Fin 256 → EReal) (z : Fin 512 → EReal) (xbc : Fin 1024 → EReal) (dt : Fin 128 → EReal)
    (x : Fin 2432) : EReal :=
  if h : (x : ℕ) < 512 then q ⟨x, h⟩
  else if h : (x : ℕ) - 512 < 256 then kv ⟨(x : ℕ) - 512, h⟩
  else if h : (x : ℕ) - 512 - 256 < 512 then z ⟨(x : ℕ) - 512 - 256, h⟩
  else if h : (x : ℕ) - 512 - 256 - 512 < 1024 then xbc ⟨(x : ℕ) - 512 - 256 - 512, h⟩
  else dt ⟨(x : ℕ) - 512 - 256 - 512 - 1024, by omega⟩

end Cert.InProj

end
-- ==== Proof.Common.RowStore.lean ====
/- One row stored into the top of a buffer of several rows, read back: the row at the top, what was there before below it.
   Stated for any element, so that every accumulator of the certificate's kernels reads by it. -/
module

public import Idealize.ShloMosaic.Lib.Pipeline.ValueKit
public import Idealize.ShloMosaic.Lib.WritesUnit

@[expose] public section

noncomputable section

namespace Cert.Common

open Idealize.ShloMosaic

variable {sig : RefSig} {κ : Kind} {sp : Space} {e : EltTy} {Val : EltTy → Type} {R W : ℕ}

/-- Reading after a store of the top row: row 0 is the stored row, every other row is what was there before. -/
theorem read_top_row (v : View sig κ sp (⟨2, ![R, W]⟩ : Shape) e) (f : v.ty.Contents Val)
    (inb : ∀ a : Fin 2, (![0, 0] : Fin 2 → ℕ) a + (![1, W] : Fin 2 → ℕ) a ≤ (![R, W] : Fin 2 → ℕ) a)
    (w : (⟨2, ![1, W]⟩ : Shape).Idx → Val e) (L : List (View.Piece Val (⟨2, ![R, W]⟩ : Shape) e)) (y : (⟨2, ![R, W]⟩ : Shape).Idx) :
    v.read Val (v.writes Val f (⟨Rect.unit (s := ⟨2, ![R, W]⟩) ![0, 0] ![1, W] inb, w⟩ :: L)) y
      = if (y (0 : Fin 2)).val = 0 then w (ix2 0 (y 1)) else v.read Val (v.writes Val f L) y := by
  by_cases h : (y (0 : Fin 2)).val = 0
  · rw [if_pos h]
    refine View.read_writes_cons_unit_of_mem v f inb w L y (ix2 0 (y 1)) rfl (Fin.forall_fin_two.mpr ⟨?_, ?_⟩)
    · rw [h]; rfl
    · exact (Nat.zero_add _).symm
  · rw [if_neg h]
    exact View.read_writes_cons_unit_of_not_mem v f inb w L y rfl (0 : Fin 2)
      (Or.inr (by show 0 + 1 ≤ _; omega))

/-- The same over stores that began on nothing known. -/
theorem canon_top_row [∀ e, Nonempty (Val e)]
    (inb : ∀ a : Fin 2, (![0, 0] : Fin 2 → ℕ) a + (![1, W] : Fin 2 → ℕ) a ≤ (![R, W] : Fin 2 → ℕ) a)
    (w : (⟨2, ![1, W]⟩ : Shape).Idx → Val e) (L : List (View.Piece Val (⟨2, ![R, W]⟩ : Shape) e)) (y : (⟨2, ![R, W]⟩ : Shape).Idx) :
    View.canon (⟨Rect.unit (s := ⟨2, ![R, W]⟩) ![0, 0] ![1, W] inb, w⟩ :: L) y
      = if (y (0 : Fin 2)).val = 0 then w (ix2 0 (y 1)) else View.canon L y := by
  by_cases h : (y (0 : Fin 2)).val = 0
  · rw [if_pos h]
    have hy : (Rect.unit (s := ⟨2, ![R, W]⟩) ![0, 0] ![1, W] inb).emb (ix2 0 (y 1)) = y := by
      refine funext (Fin.forall_fin_two.mpr ⟨Fin.ext ?_, Fin.ext ?_⟩)
      · show 0 + 1 * 0 = _; rw [h]
      · show 0 + 1 * (y 1).val = _; omega
    have := View.canon_cons_emb (Rect.unit (s := ⟨2, ![R, W]⟩) ![0, 0] ![1, W] inb) w L (ix2 0 (y 1))
    rwa [hy] at this
  · rw [if_neg h]
    refine View.canon_cons_of_not_mem _ L fun hm => h ?_
    have := ((Rect.mem_set_unit (inb := inb)).mp hm) (0 : Fin 2)
    have h2 : (y (0 : Fin 2)).val < 0 + 1 := this.2
    omega

end Cert.Common

end
-- ==== Proof.InProj.Block.lean ====
/- What one grid point of the input projection's backward kernel computes, at an index: the gradient of a row of its block, the modulated row, and what it
   adds to the two running sums of a column. -/
module

public import proofs.«01_k».proof.Proof.Gen.InProjBwdIdeal.Value
public import proofs.«01_k».proof.Proof.InProj.Row
public import proofs.«01_k».proof.Proof.Common.RowStore
public import Idealize.ShloMosaic.Lib.Pointwise
public import Idealize.ShloMosaic.Lib.Pipeline.ReadBack

@[expose] public section

set_option maxRecDepth 16384

noncomputable section

namespace Cert.InProj

open Cert.InProjBwdIdeal Cert.InProjBwdIdeal.Gen Idealize.ShloMosaic Idealize.ShloMosaic.TcCoe Idealize.SL.Sem Idealize.ShloMosaic.Pipeline

variable (m : (ℓ : Loc nD τ sig) → Buf (Elt Ideal) ℓ)

/-- Row `p` of the tokens of block `t`. -/
def xB (c : Dev nD) (t : Fin cfg0.N) (p : Fin 512) (k : Fin 1024) : EReal :=
  (show FVec Ideal S512x1024 .f32 from iblk m c 0 t) (ix2 p k)

/-- The scale, as block `t` reads it. -/
def aB (c : Dev nD) (t : Fin cfg0.N) (k : Fin 1024) : EReal := (show FVec Ideal S1x1024 .f32 from iblk m c 2 t) (ix2 0 k)

/-- The shift, as block `t` reads it. -/
def sB (c : Dev nD) (t : Fin cfg0.N) (k : Fin 1024) : EReal := (show FVec Ideal S1x1024 .f32 from iblk m c 3 t) (ix2 0 k)

/-- Row `p` of block `t` of the five gradients laid side by side. -/
def catB (c : Dev nD) (t : Fin cfg0.N) (p : Fin 512) : Fin 2432 → EReal :=
  cat (fun l => (show FVec Ideal S512x512 .bf16 from iblk m c 5 t) (ix2 p l)) (fun l => (show FVec Ideal S512x256 .bf16 from iblk m c 6 t) (ix2 p l))
    (fun l => (show FVec Ideal S512x512 .bf16 from iblk m c 7 t) (ix2 p l)) (fun l => (show FVec Ideal S512x1024 .bf16 from iblk m c 8 t) (ix2 p l))
    (fun l => (show FVec Ideal S512x128 .bf16 from iblk m c 9 t) (ix2 p l))

/-- The gradient of the modulated row `p` of block `t`. -/
def dhB (c : Dev nD) (t : Fin cfg0.N) (p : Fin 512) (k : Fin 1024) : EReal :=
  ∑ x : Fin 2432, catB m c t p x * (show FVec Ideal S2432x1024 .bf16 from iblk m c 4 t) (ix2 x k)

/-- What block `t` adds to a column of the shift's gradient. -/
def shiftPart (c : Dev nD) (t : Fin cfg0.N) (k : Fin 1024) : EReal :=
  ∑ p : Fin 512, dhB m c t p k

/-- What block `t` adds to a column of the scale's gradient. -/
def scalePart (c : Dev nD) (t : Fin cfg0.N) (k : Fin 1024) : EReal :=
  ∑ p : Fin 512, dhB m c t p k * (xB m c t p k * inv (xB m c t p))

/-- Rows of the lower and the upper half of a block, together all its rows. -/
theorem sum_halves (f : Fin 512 → EReal) :
    ∑ p : Fin 256, f ⟨p, by omega⟩ + ∑ p : Fin 256, f ⟨256 + p, by omega⟩ = ∑ p, f p :=
  (Fin.sum_univ_add (a := 256) (b := 256) f).symm

/-- The gradient of a row of block `t`. -/
theorem grad_at (c : Dev nD) (t : Fin cfg0.N) (y) :
    (outsAt0 m c t.val t.isLt).1 y
      = gradRow ((show FVec Ideal S512x1024 .f32 from iblk m c 1 t) y) (xB m c t (y 0)) (dhB m c t (y 0)) (aB m c t) (y 1) := by
  by_cases h : t.val % 16 = 0
  · rw [outsAt0_A m c t h]; frame_out
    canon_tiles x h
    · obtain rfl : y = ix2 ⟨256 + (x 0 : ℕ), Nat.add_lt_add_left x0_lt 256⟩ (x 1) := by idx_ext
      pointwise [k0_pay22, k0_pay15, k0_pay6, k0_pay16, k0_pay17, k0_pay18, k0_pay19]
      rfl
    · obtain rfl : y = ix2 ⟨(x 0 : ℕ), Nat.lt_trans x0_lt (by decide)⟩ (x 1) := by idx_ext
      pointwise [k0_pay14, k0_pay5, k0_pay7, k0_pay8, k0_pay9, k0_pay10]
      rfl
  · rw [outsAt0_B m c t h]; frame_out
    canon_tiles x h
    · obtain rfl : y = ix2 ⟨256 + (x 0 : ℕ), Nat.add_lt_add_left x0_lt 256⟩ (x 1) := by idx_ext
      pointwise [k0_pay22, k0_pay15, k0_pay6, k0_pay16, k0_pay17, k0_pay18, k0_pay19]
      rfl
    · obtain rfl : y = ix2 ⟨(x 0 : ℕ), Nat.lt_trans x0_lt (by decide)⟩ (x 1) := by idx_ext
      pointwise [k0_pay14, k0_pay5, k0_pay7, k0_pay8, k0_pay9, k0_pay10]
      rfl

/-- The modulated row of block `t`. -/
theorem act_at (c : Dev nD) (t : Fin cfg0.N) (y) :
    (outsAt0 m c t.val t.isLt).2.1 y = modulated (xB m c t (y 0)) (aB m c t) (sB m c t) (y 1) := by
  by_cases h : t.val % 16 = 0
  · rw [outsAt0_A m c t h]; frame_out
    canon_tiles x h
    · obtain rfl : y = ix2 ⟨256 + (x 0 : ℕ), Nat.add_lt_add_left x0_lt 256⟩ (x 1) := by idx_ext
      pointwise [k0_pay20, k0_pay16, k0_pay17, k0_pay18, k0_pay19]
      rfl
    · obtain rfl : y = ix2 ⟨(x 0 : ℕ), Nat.lt_trans x0_lt (by decide)⟩ (x 1) := by idx_ext
      pointwise [k0_pay11, k0_pay7, k0_pay8, k0_pay9, k0_pay10]
      rfl
  · rw [outsAt0_B m c t h]; frame_out
    canon_tiles x h
    · obtain rfl : y = ix2 ⟨256 + (x 0 : ℕ), Nat.add_lt_add_left x0_lt 256⟩ (x 1) := by idx_ext
      pointwise [k0_pay20, k0_pay16, k0_pay17, k0_pay18, k0_pay19]
      rfl
    · obtain rfl : y = ix2 ⟨(x 0 : ℕ), Nat.lt_trans x0_lt (by decide)⟩ (x 1) := by idx_ext
      pointwise [k0_pay11, k0_pay7, k0_pay8, k0_pay9, k0_pay10]
      rfl

/-- The first block puts its part of the shift's gradient into the top row and zero below. -/
theorem shift_first (c : Dev nD) (t : Fin cfg0.N) (h : t.val % 16 = 0) (y) :
    (outsAt0 m c t.val t.isLt).2.2.1 y = 0 + if (y 0 : ℕ) = 0 then shiftPart m c t (y 1) else 0 := by
  rw [outsAt0_A m c t h]; frame_out
  rw [Common.canon_top_row, View.readCov_fill _ _ _ _ _ (by decide), View.canon_cons_unit_lit _ _ _ (by decide)]
  split
  · pointwise [k0_pay1, k0_pay3, k0_pay23, k0_pay24, k0_pay12, k0_pay5, k0_pay15, k0_pay6]
    exact sum_halves fun p => dhB m c t p _
  · pointwise [k0_pay3]

/-- Every later block adds its part of the shift's gradient to the top row. -/
theorem shift_later (c : Dev nD) (t : Fin cfg0.N) (h : ¬t.val % 16 = 0) (y) :
    (outsAt0 m c t.val t.isLt).2.2.1 y
      = (outsAt0 m c (t.val - 1) (by have := t.isLt; omega)).2.2.1 y + if (y 0 : ℕ) = 0 then shiftPart m c t (y 1) else 0 := by
  rw [outsAt0_B m c t h]; frame_out
  rw [Common.read_top_row]
  split
  · rename_i h0
    obtain ⟨k, rfl⟩ : ∃ k, y = ix2 0 k := ⟨y 1, by idx_ext⟩
    pointwise [k0_pay1, k0_pay3, k0_pay23, k0_pay24, k0_pay12, k0_pay5, k0_pay15, k0_pay6]
    refine congrArg (_ + ·) ?_
    exact sum_halves fun p => dhB m c t p _
  · rw [add_zero]
    exact congrFun (Memref.IsWhole.read_unread _ _) y

/-- The first block puts its part of the scale's gradient into the top row and zero below. -/
theorem scale_first (c : Dev nD) (t : Fin cfg0.N) (h : t.val % 16 = 0) (y) :
    (outsAt0 m c t.val t.isLt).2.2.2 y = 0 + if (y 0 : ℕ) = 0 then scalePart m c t (y 1) else 0 := by
  rw [outsAt0_A m c t h]; frame_out
  rw [Common.canon_top_row, View.readCov_fill _ _ _ _ _ (by decide), View.canon_cons_unit_lit _ _ _ (by decide)]
  split
  · pointwise [k0_pay2, k0_pay4, k0_pay13, k0_pay21, k0_pay5, k0_pay9, k0_pay7, k0_pay8, k0_pay15, k0_pay16, k0_pay17, k0_pay18, k0_pay6]
    exact sum_halves fun p => dhB m c t p _ * (xB m c t p _ * inv (xB m c t p))
  · pointwise [k0_pay4]

/-- Every later block adds its part of the scale's gradient to the top row. -/
theorem scale_later (c : Dev nD) (t : Fin cfg0.N) (h : ¬t.val % 16 = 0) (y) :
    (outsAt0 m c t.val t.isLt).2.2.2 y
      = (outsAt0 m c (t.val - 1) (by have := t.isLt; omega)).2.2.2 y + if (y 0 : ℕ) = 0 then scalePart m c t (y 1) else 0 := by
  rw [outsAt0_B m c t h]; frame_out
  rw [Common.read_top_row]
  split
  · rename_i h0
    obtain ⟨k, rfl⟩ : ∃ k, y = ix2 0 k := ⟨y 1, by idx_ext⟩
    pointwise [k0_pay2, k0_pay4, k0_pay13, k0_pay21, k0_pay5, k0_pay9, k0_pay7, k0_pay8, k0_pay15, k0_pay16, k0_pay17, k0_pay18, k0_pay6]
    refine congrArg (_ + ·) ?_
    exact sum_halves fun p => dhB m c t p _ * (xB m c t p _ * inv (xB m c t p))
  · rw [add_zero]
    exact congrFun (Memref.IsWhole.read_unread _ _) y

end Cert.InProj

end
-- ==== Proof.InProj.Args.lean ====
/- The arguments of the input projection's backward, shared by the two programs, and what each result holds in the form the kernel computes it. -/
module

public import proofs.«01_k».proof.Proof.InProj.Row

@[expose] public section

noncomputable section

namespace Cert.InProj

open Idealize.ShloMosaic

/-- The arrays both programs are given. -/
structure Args where
  x : FVec Ideal (⟨2, ![8192, 1024]⟩ : Shape) .f32
  norm : FVec Ideal (⟨2, ![1, 1024]⟩ : Shape) .f32
  scale : FVec Ideal (⟨2, ![1, 1024]⟩ : Shape) .f32
  shift : FVec Ideal (⟨2, ![1, 1024]⟩ : Shape) .f32
  w : FVec Ideal (⟨2, ![1024, 2312]⟩ : Shape) .f32
  dx : FVec Ideal (⟨2, ![8192, 1024]⟩ : Shape) .f32
  dq : FVec Ideal (⟨2, ![8192, 512]⟩ : Shape) .bf16
  dkv : FVec Ideal (⟨2, ![8192, 256]⟩ : Shape) .bf16
  dz : FVec Ideal (⟨2, ![8192, 512]⟩ : Shape) .bf16
  dxbc : FVec Ideal (⟨2, ![8192, 1024]⟩ : Shape) .bf16
  ddt : FVec Ideal (⟨2, ![8192, 128]⟩ : Shape) .bf16

namespace Args

variable (a : Args)

/-- Token `n`. -/
def row (n : Fin 8192) (k : Fin 1024) : EReal := a.x (ix2 n k)

/-- The norm's scale. -/
def gain (k : Fin 1024) : EReal := a.norm (ix2 0 k) * (1 + a.scale (ix2 0 k))

/-- The five gradients of token `n` laid side by side. -/
def dproj (n : Fin 8192) : Fin 2432 → EReal :=
  cat (fun l => a.dq (ix2 n l)) (fun l => a.dkv (ix2 n l)) (fun l => a.dz (ix2 n l)) (fun l => a.dxbc (ix2 n l)) (fun l => a.ddt (ix2 n l))

/-- The transposed weight, with rows of zeros below. -/
def weight (x : Fin 2432) (k : Fin 1024) : EReal := if h : (x : ℕ) < 2312 then a.w (ix2 k ⟨x, h⟩) else 0

/-- The gradient of the modulated row `n`. -/
def dh (n : Fin 8192) (k : Fin 1024) : EReal := ∑ x, a.dproj n x * a.weight x k

/-- The gradient of token `n`. -/
def grad (n : Fin 8192) (k : Fin 1024) : EReal := gradRow (a.dx (ix2 n k)) (a.row n) (a.dh n) a.gain k

/-- The modulated row `n`. -/
def act (n : Fin 8192) (k : Fin 1024) : EReal := modulated (a.row n) a.gain (fun l => a.shift (ix2 0 l)) k

/-- The shift's gradient, in the top row of eight. -/
def shiftGrad (r : Fin 8) (k : Fin 1024) : EReal := if (r : ℕ) = 0 then ∑ n, a.dh n k else 0

/-- The scale's gradient, in the top row of eight. -/
def scaleGrad (r : Fin 8) (k : Fin 1024) : EReal := if (r : ℕ) = 0 then ∑ n, a.dh n k * (a.row n k * inv (a.row n)) else 0

end Args

end Cert.InProj

end
-- ==== Proof.InProj.Array.lean ====
/- What the input projection's backward kernel leaves in its four result arrays, over the arrays it is launched with. -/
module

public import proofs.«01_k».proof.Proof.InProj.Block
public import proofs.«01_k».proof.Proof.InProj.Args

@[expose] public section

set_option maxRecDepth 16384

noncomputable section

namespace Cert.InProj

open Cert.InProjBwdIdeal Cert.InProjBwdIdeal.Gen Idealize.ShloMosaic Idealize.ShloMosaic.TcCoe Idealize.SL.Sem Idealize.ShloMosaic.Pipeline

variable (m : (ℓ : Loc nD τ sig) → Buf (Elt Ideal) ℓ)

/-- The arrays the kernel is launched with. -/
def launched (c : Dev nD) : Args where
  x := m ((c : Thread nD τ).loc main_arg0)
  norm := m ((c : Thread nD τ).loc main_arg1)
  scale := m ((c : Thread nD τ).loc main_arg2)
  shift := m ((c : Thread nD τ).loc main_arg3)
  w := m ((c : Thread nD τ).loc main_arg4)
  dx := m ((c : Thread nD τ).loc main_arg5)
  dq := m ((c : Thread nD τ).loc main_arg6)
  dkv := m ((c : Thread nD τ).loc main_arg7)
  dz := m ((c : Thread nD τ).loc main_arg8)
  dxbc := m ((c : Thread nD τ).loc main_arg9)
  ddt := m ((c : Thread nD τ).loc main_arg10)

/-- Every window's block index. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

/-- Row `p` of block `t` is a row of the whole array. -/
def token (t : Fin cfg0.N) (p : Fin 512) : Fin 8192 := ⟨t.val * 512 + p.val, by have : t.val < 16 := t.isLt; omega⟩

/-- The scale the host prepares. -/
theorem host_gain (c : Dev nD) (k : Fin 1024) :
    (show FVec Ideal S1x1024 .f32 from V m c main_v2) (ix2 0 k) = (launched m c).gain k := by
  entry_read
  pointwise [Args.gain, launched]

/-- The weight the host prepares. -/
theorem host_weight (c : Dev nD) (x : Fin 2432) (k : Fin 1024) :
    (show FVec Ideal S2432x1024 .bf16 from V m c main_v6) (ix2 x k) = (launched m c).weight x k := by
  entry_read
  pointwise [Args.weight, launched]

theorem x_eq (c : Dev nD) (t : Fin cfg0.N) (p : Fin 512) : xB m c t p = (launched m c).row (token t p) := by
  funext k
  unfold xB Args.row launched token
  blk_point [iblk, V, idx t]

theorem a_eq (c : Dev nD) (t : Fin cfg0.N) : aB m c t = (launched m c).gain := by
  funext k
  rw [← host_gain]
  unfold aB
  blk_point [iblk, idx t]

theorem s_eq (c : Dev nD) (t : Fin cfg0.N) : sB m c t = fun k => (launched m c).shift (ix2 0 k) := by
  funext k
  unfold sB launched
  blk_point [iblk, V, idx t]

theorem cat_eq (c : Dev nD) (t : Fin cfg0.N) (p : Fin 512) : catB m c t p = (launched m c).dproj (token t p) := by
  unfold catB Args.dproj launched token
  congr 1 <;> funext l
  all_goals blk_point [iblk, V, idx t]

theorem dh_eq (c : Dev nD) (t : Fin cfg0.N) (p : Fin 512) : dhB m c t p = (launched m c).dh (token t p) := by
  funext k
  unfold dhB Args.dh
  rw [cat_eq]
  refine Finset.sum_congr rfl fun x _ => congrArg (_ * ·) ?_
  rw [← host_weight]
  blk_point [iblk, idx t]

/-- All blocks' rows together are all rows. -/
theorem sum_tokens (f : Fin 8192 → EReal) : ∑ t : Fin cfg0.N, ∑ p : Fin 512, f (token t p) = ∑ n, f n :=
  Fin.sum_mul_add_congr (fun t p h => rfl)

theorem shiftPart_eq (c : Dev nD) (t : Fin cfg0.N) (k : Fin 1024) :
    shiftPart m c t k = ∑ p, (launched m c).dh (token t p) k := by
  unfold shiftPart
  exact Finset.sum_congr rfl fun p _ => by rw [dh_eq]

theorem scalePart_eq (c : Dev nD) (t : Fin cfg0.N) (k : Fin 1024) :
    scalePart m c t k = ∑ p, (launched m c).dh (token t p) k * ((launched m c).row (token t p) k * inv ((launched m c).row (token t p))) := by
  unfold scalePart
  exact Finset.sum_congr rfl fun p _ => by rw [dh_eq, x_eq]

/-- A row of block `t` of the tokens' gradient. -/
theorem grad_point (c : Dev nD) (t : Fin cfg0.N) (y : S512x1024.Idx) :
    (outsAt0 m c t.val t.isLt).1 y = (launched m c).grad (token t (y 0)) (y 1) := by
  obtain ⟨p, k, rfl⟩ : ∃ (p : Fin 512) (k : Fin 1024), y = ix2 p k := ⟨y 0, y 1, by idx_ext⟩
  refine (grad_at m c t _).trans ?_
  show gradRow _ (xB m c t p) (dhB m c t p) (aB m c t) k = (launched m c).grad (token t p) k
  rw [x_eq, dh_eq, a_eq]
  unfold Args.grad
  congr 1
  unfold launched token
  blk_point [iblk, V, idx t]

/-- A row of block `t` of the modulated rows. -/
theorem act_point (c : Dev nD) (t : Fin cfg0.N) (y : S512x1024.Idx) :
    (outsAt0 m c t.val t.isLt).2.1 y = (launched m c).act (token t (y 0)) (y 1) := by
  refine (act_at m c t y).trans ?_
  show modulated (xB m c t (show Fin 512 from y 0)) (aB m c t) (sB m c t) _ = _
  rw [x_eq, a_eq, s_eq]
  rfl

/-- The tokens' gradient. -/
theorem grad_array (c : Dev nD) : (dats m 0 c).arrAt 10 cfg0.N
    = fun y : S8192x1024.Idx => (launched m c).grad (y 0) (y 1) := by
  refine (dats m 0 c).arrAt_eq_of_covers 10 _ (by decide +kernel) fun t _ y => ?_
  blk_simp
  rw [after0_10]
  refine (grad_point m c t y).trans (congrArg₂ _ (Fin.ext ?_) (Fin.ext ?_))
  all_goals blk_simp [idx t, token]

/-- The modulated rows. -/
theorem act_array (c : Dev nD) : (dats m 0 c).arrAt 11 cfg0.N
    = fun y : S8192x1024.Idx => (launched m c).act (y 0) (y 1) := by
  refine (dats m 0 c).arrAt_eq_of_covers 11 _ (by decide +kernel) fun t _ y => ?_
  blk_simp
  rw [after0_11]
  refine (act_point m c t y).trans (congrArg₂ _ (Fin.ext ?_) (Fin.ext ?_))
  all_goals blk_simp [idx t, token]

/-- The shift's gradient. -/
theorem shift_array (c : Dev nD) : (dats m 0 c).arrAt 12 cfg0.N
    = fun y : S8x1024.Idx => (launched m c).shiftGrad (y 0) (y 1) := by
  refine (dats m 0 c).arrAt_eq_of_after_last 12 t0_15 (by decide +kernel) _ fun y => ?_
  blk_simp
  rw [after0_12, Pipeline.eq_sum_fin_of_reset_step_apply_last (fun n h => (outsAt0 m c n h).2.2.1) 16 (fun _ => 0)
    (fun t y => if (y 0 : ℕ) = 0 then shiftPart m c t (y 1) else 0) (fun t h y => shift_first m c t h y) (fun t h y => shift_later m c t h y)
    (le_of_eq N_0) t0_15 rfl _, zero_add]
  show (∑ t : Fin cfg0.N, if (y 0 : ℕ) = 0 then shiftPart m c t (y 1) else 0) = if (y 0 : ℕ) = 0 then _ else _
  split
  · rw [← sum_tokens]
    exact Finset.sum_congr rfl fun t _ => shiftPart_eq m c t _
  · exact Finset.sum_const_zero

/-- The scale's gradient. -/
theorem scale_array (c : Dev nD) : (dats m 0 c).arrAt 13 cfg0.N
    = fun y : S8x1024.Idx => (launched m c).scaleGrad (y 0) (y 1) := by
  refine (dats m 0 c).arrAt_eq_of_after_last 13 t0_15 (by decide +kernel) _ fun y => ?_
  blk_simp
  rw [after0_13, Pipeline.eq_sum_fin_of_reset_step_apply_last (fun n h => (outsAt0 m c n h).2.2.2) 16 (fun _ => 0)
    (fun t y => if (y 0 : ℕ) = 0 then scalePart m c t (y 1) else 0) (fun t h y => scale_first m c t h y) (fun t h y => scale_later m c t h y)
    (le_of_eq N_0) t0_15 rfl _, zero_add]
  show (∑ t : Fin cfg0.N, if (y 0 : ℕ) = 0 then scalePart m c t (y 1) else 0) = if (y 0 : ℕ) = 0 then _ else _
  split
  · rw [← sum_tokens]
    exact Finset.sum_congr rfl fun t _ => scalePart_eq m c t _
  · exact Finset.sum_const_zero

end Cert.InProj

end
-- ==== Proof.Common.Reals.lean ====
/- Arithmetic of the reals with infinities that the certificate's equations use: a nonnegative real factor through a sum, sums of reals, quotients by a real,
   and a sum of nonnegative terms of which one is infinite. -/
module

public import Idealize.ShloMosaic.PureOps.Ideal.Laws
public import Idealize.ShloMosaic.Lib.IdealHost

@[expose] public section

noncomputable section

namespace Cert.Common

open Idealize.ShloMosaic

theorem coe_sum {ι : Type} (s : Finset ι) (f : ι → ℝ) : ((∑ i ∈ s, f i : ℝ) : EReal) = ∑ i ∈ s, (f i : EReal) :=
  map_sum (⟨⟨fun r => (r : EReal), EReal.coe_zero⟩, EReal.coe_add⟩ : ℝ →+ EReal) f s

/-- A nonnegative real factor goes through a sum. -/
theorem mul_sum_of_nonneg {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem sum_mul_of_nonneg {ι : Type} (s : Finset ι) {r : ℝ} (hr : 0 ≤ r) (f : ι → EReal) :
    (∑ i ∈ s, f i) * (r : EReal) = ∑ i ∈ s, f i * (r : EReal) := by
  rw [mul_comm, mul_sum_of_nonneg s hr]
  exact Finset.sum_congr rfl fun i _ => mul_comm _ _

/-- A quotient by a real that is not zero is a product. -/
theorem div_coe (x : EReal) {r : ℝ} (hr : r ≠ 0) : Ideal.div x (r : EReal) = x * ((r⁻¹ : ℝ) : EReal) := by
  rw [Ideal.div, if_neg (by exact_mod_cast hr), EReal.coe_inv]

theorem rsqrt_coe {r : ℝ} (hr : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg hr.le.not_gt, if_neg hr.ne']

/-- A sum of nonnegative terms, one of them infinite, is infinite. -/
theorem sum_eq_top {ι : Type} (s : Finset ι) (f : ι → EReal) (h0 : ∀ i ∈ s, 0 ≤ f i) {i : ι} (hi : i ∈ s) (ht : f i = ⊤) :
    ∑ i ∈ s, f i = ⊤ := by
  refine top_le_iff.mp ?_
  rw [← ht]
  exact Finset.single_le_sum h0 hi

theorem add_self (x : EReal) : x + x = ((2 : ℝ) : EReal) * x := by
  induction x with
  | bot => exact (EReal.coe_mul_bot_of_pos (by norm_num)).symm
  | top => exact (EReal.coe_mul_top_of_pos (by norm_num)).symm
  | coe x => exact_mod_cast (two_mul x).symm

/-- A square is not negative. -/
theorem mul_self_nonneg (x : EReal) : 0 ≤ x * x := by
  induction x with
  | bot => exact le_top
  | top => exact le_top
  | coe x => exact_mod_cast _root_.mul_self_nonneg x

/-- An infinite number's square. -/
theorem mul_self_of_infinite {x : EReal} (h : ¬∃ r : ℝ, x = r) : x * x = ⊤ := by
  induction x with
  | bot => rfl
  | top => rfl
  | coe x => exact absurd ⟨x, rfl⟩ h

end Cert.Common

end
-- ==== Proof.InProj.Equation.lean ====
/- The gradient of a row's norm in the form the reference differentiates it equals the form the kernel computes, for every row of reals and infinities. -/
module

public import proofs.«01_k».proof.Proof.Common.Reals
public import proofs.«01_k».proof.Proof.InProj.Row

@[expose] public section

noncomputable section

namespace Cert.InProj

open Idealize.ShloMosaic Cert.Common

/-- Minus one half, as the reference writes it. -/
abbrev minusHalf : EReal := Ideal.ofBits .f32 0xBF000000#32

/-- What the mean of squares passes back to one element, as the reference differentiates it, before the factor two of a square. -/
def meanGrad (X D A : Fin 1024 → EReal) : EReal :=
  Ideal.div ((∑ l, X l * (D l * A l)) * (minusHalf * Ideal.div (inv X) (meanSq X))) width

/-- The gradient of one row, as the reference differentiates it. -/
def gradRowRef (g : EReal) (X D A : Fin 1024 → EReal) (k : Fin 1024) : EReal :=
  g + D k * A k * inv X + X k * meanGrad X D A + meanGrad X D A * X k

theorem width_eq : width = ((1024 : ℝ) : EReal) := by
  simp [Ideal.ofBits, Ideal.ieee]
  show ((8388608 : ℝ) : EReal) * ((2 ^ 13 : ℝ) : EReal)⁻¹ = ((1024 : ℝ) : EReal)
  rw [← EReal.coe_inv, ← EReal.coe_mul]
  norm_num

theorem small_eq : ∃ e : ℝ, 0 < e ∧ small = (e : EReal) := by
  refine ⟨_, ?_, by simp [Ideal.ofBits, Ideal.ieee]; norm_cast⟩
  norm_num

theorem minusHalf_eq : minusHalf = ((-(1 / 2) : ℝ) : EReal) := by
  simp [Ideal.ofBits, Ideal.ieee]
  show ((8388608 : ℝ) : EReal) * ((2 ^ 24 : ℝ) : EReal)⁻¹ = ((2⁻¹ : ℝ) : EReal)
  rw [← EReal.coe_inv, ← EReal.coe_mul]
  norm_num

theorem width_ne : (1024 : ℝ) ≠ 0 := by norm_num

/-- A row with an infinite element has no gradient through the norm. -/
theorem grad_of_infinite (g : EReal) (X D A : Fin 1024 → EReal) (k : Fin 1024) {i : Fin 1024} (hi : ¬∃ r : ℝ, X i = r) :
    gradRow g X D A k = gradRowRef g X D A k := by
  obtain ⟨e, he, hs⟩ := small_eq
  have hz : meanSq X = ⊤ := by
    rw [meanSq, sum_eq_top Finset.univ _ (fun l _ => mul_self_nonneg (X l)) (Finset.mem_univ i) (mul_self_of_infinite hi), width_eq,
      div_coe _ width_ne, hs, EReal.top_mul_coe_of_pos (by norm_num)]
    exact EReal.top_add_coe e
  have hr : inv X = 0 := by rw [inv, hz]; rfl
  have hd : Ideal.div 0 (⊤ : EReal) = 0 := by rw [Ideal.div, if_neg EReal.top_ne_zero, zero_mul]
  rw [gradRow, gradRowRef, meanGrad, hr, hz, hd, width_eq]
  simp only [mul_zero, zero_mul, div_coe _ width_ne, add_zero, sub_zero]

/-- A row of reals: both are the same real multiple of the sum. -/
theorem grad_of_real (g : EReal) (X D A : Fin 1024 → EReal) (k : Fin 1024) (h : ∀ i, ∃ r : ℝ, X i = r) :
    gradRow g X D A k = gradRowRef g X D A k := by
  obtain ⟨e, he, hs⟩ := small_eq
  choose x hx using h
  obtain ⟨z, hz0, hz⟩ : ∃ z : ℝ, 0 < z ∧ meanSq X = z := by
    refine ⟨(∑ l, x l * x l) * 1024⁻¹ + e, add_pos_of_nonneg_of_pos (mul_nonneg (Finset.sum_nonneg fun l _ => _root_.mul_self_nonneg _) (by norm_num)) he, ?_⟩
    rw [meanSq, width_eq, div_coe _ width_ne, hs, EReal.coe_add, EReal.coe_mul, coe_sum]
    simp only [hx, EReal.coe_mul]
  have hr : inv X = (((Real.sqrt z)⁻¹ : ℝ) : EReal) := by rw [inv, hz, rsqrt_coe hz0]
  have hrp : 0 ≤ (Real.sqrt z)⁻¹ := inv_nonneg.mpr (Real.sqrt_nonneg z)
  have hrz : (Real.sqrt z)⁻¹ * (Real.sqrt z)⁻¹ = z⁻¹ := by rw [← mul_inv, Real.mul_self_sqrt hz0.le]
  set r := (Real.sqrt z)⁻¹ with hrdef
  have hS : ∑ l, D l * A l * (X l * inv X) = (∑ l, X l * (D l * A l)) * (r : EReal) := by
    rw [sum_mul_of_nonneg _ hrp, hr]
    exact Finset.sum_congr rfl fun l _ => by rw [← mul_assoc, mul_comm (D l * A l)]
  rw [gradRow, gradRowRef, meanGrad, hS, hr, hz, width_eq, minusHalf_eq, div_coe _ width_ne, div_coe _ width_ne, div_coe _ hz0.ne']
  generalize (∑ l, X l * (D l * A l)) = S
  have neg_eq (w : EReal) : -w = ((-1 : ℝ) : EReal) * w := by rw [EReal.coe_neg, EReal.coe_one, EReal.neg_mul, one_mul]
  rw [sub_eq_add_neg, add_assoc (g + _), mul_comm _ (X k), add_self, mul_comm (r : EReal) (D k * A k), neg_eq]
  refine congrArg (g + D k * A k * (r : EReal) + ·) ?_
  have hc : ((-1 : ℝ) : EReal) * (r * (r * (r * ((1024⁻¹ : ℝ) : EReal))))
      = ((2 : ℝ) : EReal) * (((-(1 / 2) : ℝ) : EReal) * (r * ((z⁻¹ : ℝ) : EReal)) * ((1024⁻¹ : ℝ) : EReal)) := by
    rw [← hrz]
    simp only [← EReal.coe_mul]
    refine congrArg _ ?_
    ring
  calc _ = X k * S * (((-1 : ℝ) : EReal) * (r * (r * (r * ((1024⁻¹ : ℝ) : EReal))))) := by ac_rfl
    _ = _ := by rw [hc]; ac_rfl

/-- The two forms of a row's gradient. -/
theorem grad_eq (g : EReal) (X D A : Fin 1024 → EReal) (k : Fin 1024) : gradRow g X D A k = gradRowRef g X D A k := by
  by_cases h : ∀ i, ∃ r : ℝ, X i = r
  · exact grad_of_real g X D A k h
  · obtain ⟨i, hi⟩ := not_forall.mp h
    exact grad_of_infinite g X D A k hi

end Cert.InProj

end
-- ==== Proof.InProj.Ref.lean ====
/- What the reference's backward of the input projection computes, at an index. -/
module

public import proofs.«01_k».proof.Proof.Gen.InProjRefIdeal.Read
public import proofs.«01_k».proof.Proof.InProj.Args
public import proofs.«01_k».proof.Proof.InProj.Equation

@[expose] public section

set_option maxRecDepth 16384

noncomputable section

namespace Cert.InProj

open Cert.InProjRefIdeal Cert.InProjRefIdeal.Gen Cert.InProjRefIdeal.Read Idealize.ShloMosaic Idealize.ShloMosaic.TcCoe Idealize.SL.Sem

/-- The five gradients of a token laid side by side, without the last block's padding. -/
theorem ref_dproj (a : Args) (n : Fin 8192) (x : Fin 2312) :
    val_main_v9 (F := Ideal) a.dq a.dkv a.dz a.dxbc a.ddt (ix2 n x) = a.dproj n ⟨x, Nat.lt_trans x.isLt (by decide)⟩ := by
  pointwise [val_main_v9, val_main_v8, val_main_v7, val_main_v6, val_main_v5, val_main_v4, val_main_v3]
  rfl

/-- The padded rows of the weight are zero, so they add nothing. -/
theorem sum_weight (a : Args) (n : Fin 8192) (k : Fin 1024) :
    ∑ x : Fin 2312, a.dproj n ⟨x, Nat.lt_trans x.isLt (by decide)⟩ * a.w (ix2 k x) = a.dh n k := by
  unfold Args.dh
  refine Eq.trans ?_ (Fin.sum_univ_add (a := 2312) (b := 120) fun x : Fin 2432 => a.dproj n x * a.weight x k).symm
  rw [show ∑ x : Fin 120, a.dproj n (Fin.natAdd 2312 x) * a.weight (Fin.natAdd 2312 x) k = 0 from
    Finset.sum_eq_zero fun x _ => by
      rw [Args.weight, dif_neg (by show ¬2312 + (x : ℕ) < 2312; omega), mul_zero], add_zero]
  refine Finset.sum_congr rfl fun x _ => congrArg (_ * ·) ?_
  rw [Args.weight, dif_pos (show ((Fin.castAdd 120 x : Fin 2432) : ℕ) < 2312 from x.isLt)]
  rfl

/-- The gradient of the modulated row. -/
theorem ref_dh (a : Args) (n : Fin 8192) (k : Fin 1024) :
    val_main_v28 (F := Ideal) a.w a.dq a.dkv a.dz a.dxbc a.ddt (ix2 n k) = a.dh n k := by
  pointwise [val_main_v28]
  rw [← sum_weight]
  exact Finset.sum_congr rfl fun x _ => by rw [← ref_dproj]

/-- A normed token. -/
theorem ref_norm (a : Args) (n : Fin 8192) (k : Fin 1024) :
    val_main_v22 (F := Ideal) a.x (ix2 n k) = a.row n k * inv (a.row n) := by
  pointwise [val_main_v22, val_main_v21, val_main_v18, val_main_v17, val_main_v16, val_main_v14, val_main_v15, val_main_v13, val_main_v12, val_main_v11, val_main_v10,
    val_main_cst_0, val_main_cst_1, val_main_cst_2]
  rfl

/-- The modulated row. -/
theorem ref_act (a : Args) (n : Fin 8192) (k : Fin 1024) :
    val_main_v66 (F := Ideal) a.x a.norm a.scale a.shift (ix2 n k) = a.act n k := by
  pointwise [val_main_v66, val_main_v65, val_main_v64, val_main_v63, val_main_v62, val_main_v61, val_main_v60, val_main_v59, val_main_v58, val_main_v57,
    val_main_v56, val_main_v55, val_main_v54, val_main_v53, val_main_v52, val_main_cst_10, val_main_cst_11, val_main_cst_12, val_main_v2, val_main_v1, val_main_v0,
    val_main_cst]
  rfl

/-- The shift's gradient, with seven rows of zeros below. -/
theorem ref_shift (a : Args) (r : Fin 8) (k : Fin 1024) :
    val_main_v67 (F := Ideal) a.w a.dq a.dkv a.dz a.dxbc a.ddt (ix2 r k) = a.shiftGrad r k := by
  pointwise [val_main_v67, val_main_v51, val_main_cst_9, val_main_v30, val_main_v29, val_main_cst_4]
  simp only [ref_dh, Args.shiftGrad, dite_eq_ite, Nat.lt_one_iff]

/-- The scale's gradient, with seven rows of zeros below. -/
theorem ref_scale (a : Args) (r : Fin 8) (k : Fin 1024) :
    val_main_v68 (F := Ideal) a.x a.w a.dq a.dkv a.dz a.dxbc a.ddt (ix2 r k) = a.scaleGrad r k := by
  pointwise [val_main_v68, val_main_v51, val_main_cst_9, val_main_v33, val_main_v32, val_main_v31, val_main_cst_5]
  simp only [ref_dh, ref_norm, Args.scaleGrad, dite_eq_ite, Nat.lt_one_iff, mul_comm]

/-- The tokens' gradient. -/
theorem ref_grad (a : Args) (n : Fin 8192) (k : Fin 1024) :
    val_main_v50 (F := Ideal) a.x a.norm a.scale a.w a.dx a.dq a.dkv a.dz a.dxbc a.ddt (ix2 n k) = a.grad n k := by
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v20, val_main_v19, val_main_v18, val_main_v17,
    val_main_v16, val_main_v14, val_main_v15, val_main_v13, val_main_v12, val_main_v11, val_main_v10, val_main_v2, val_main_v1, val_main_v0, val_main_cst,
    val_main_cst_0, val_main_cst_1, val_main_cst_2, val_main_cst_3, val_main_cst_6, val_main_cst_7, val_main_cst_8]
  simp only [ref_dh, Finset.univ_unique, Finset.sum_singleton]
  exact (grad_eq (a.dx (ix2 n k)) (a.row n) (a.dh n) a.gain k).symm

/-- The arrays the reference is launched with. -/
def given (m : (ℓ : Loc nD τ sig) → Buf (Elt Ideal) ℓ) (c : Dev nD) : Args where
  x := m ((c : Thread nD τ).loc main_arg0)
  norm := m ((c : Thread nD τ).loc main_arg1)
  scale := m ((c : Thread nD τ).loc main_arg2)
  shift := m ((c : Thread nD τ).loc main_arg3)
  w := m ((c : Thread nD τ).loc main_arg4)
  dx := m ((c : Thread nD τ).loc main_arg5)
  dq := m ((c : Thread nD τ).loc main_arg6)
  dkv := m ((c : Thread nD τ).loc main_arg7)
  dz := m ((c : Thread nD τ).loc main_arg8)
  dxbc := m ((c : Thread nD τ).loc main_arg9)
  ddt := m ((c : Thread nD τ).loc main_arg10)

/-- An array is known by its elements. -/
theorem array_ext {M N : ℕ} {f : (⟨2, ![M, N]⟩ : Shape).Idx → EReal} {F : Fin M → Fin N → EReal} (h : ∀ i j, f (ix2 i j) = F i j) :
    f = fun y => F (y 0) (y 1) := by
  funext y
  exact (congrArg f (show y = ix2 (y 0) (y 1) by idx_ext)).trans (h (y 0) (y 1))

theorem ref_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v50) = (fun y : S8192x1024.Idx => (given m c).grad (y 0) (y 1))
      ∧ r.2.mem ((c.tc : Thread nD τ).loc main_v66) = (fun y : S8192x1024.Idx => (given m c).act (y 0) (y 1))
      ∧ r.2.mem ((c.tc : Thread nD τ).loc main_v67) = (fun y : S8x1024.Idx => (given m c).shiftGrad (y 0) (y 1))
      ∧ r.2.mem ((c.tc : Thread nD τ).loc main_v68) = (fun y : S8x1024.Idx => (given m c).scaleGrad (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨h0, h1, h2, h3, hargs⟩ := h c
    exact ⟨h0.trans ((val_main_v50_eq m c).trans (array_ext (ref_grad (given m c)))),
      h1.trans ((val_main_v66_eq _ _ _ _).trans (array_ext (ref_act (given m c)))),
      h2.trans ((val_main_v67_eq _ _ _ _ _ _).trans (array_ext (ref_shift (given m c)))),
      h3.trans ((val_main_v68_eq _ _ _ _ _ _ _).trans (array_ext (ref_scale (given m c)))), hargs⟩) (Value.run m g)

end Cert.InProj

end
-- ==== Proof.InProj.Claim.lean ====
/- The input projection's backward: the kernel and the reference, launched with the same arrays, end with equal results. -/
module

public import proofs.«01_k».proof.Defs
public import proofs.«01_k».proof.Proof.Gen.InProjRefIdeal.Run
public import proofs.«01_k».proof.Proof.InProj.Array
public import proofs.«01_k».proof.Proof.InProj.Ref
public import Idealize.ShloMosaic.Lib.Claim

@[expose] public section

noncomputable section

namespace Cert.InProj

open Cert.InProjBwdIdeal Idealize.ShloMosaic Idealize.SL.Sem

theorem ref_frame : Cert.quiescent_InProjRefIdeal := fun m g _ =>
  (θ_run _ _ _).mono (fun r h => ⟨fun c => (h c).2.2.2.2, sem_eq_zero_of_no_sems (by decide) r.2⟩) (ref_run m g)

theorem agree : Cert.algebraic_InProjBwdIdeal_InProjRefIdeal := by
  intro m g m' g' _ hargs
  have he (c) : given m' c = launched m c := by
    obtain ⟨h0, h1, h2, h3, h4, h5, h6, h7, h8, h9, h10⟩ := hargs c
    unfold given launched
    congr 1
  refine ⟨fun c => (fun y : S8192x1024.Idx => (launched m c).grad (y 0) (y 1)), fun c => (fun y : S8192x1024.Idx => (launched m c).act (y 0) (y 1)),
    fun c => (fun y : S8x1024.Idx => (launched m c).shiftGrad (y 0) (y 1)), fun c => (fun y : S8x1024.Idx => (launched m c).scaleGrad (y 0) (y 1)),
    (θ_run _ _ _).mono (fun r h c => ?_) (Cert.InProjBwdIdeal.Value.run_blocks m g),
    (θ_run _ _ _).mono (fun r h c => ?_) (ref_run m' g')⟩
  · obtain ⟨h0, h1, h2, h3, hkept⟩ := h c
    exact ⟨h0.trans (grad_array m c), h1.trans (act_array m c), h2.trans (shift_array m c), h3.trans (scale_array m c), hkept⟩
  · have hc := h c
    rw [he c] at hc
    exact hc

end Cert.InProj

end
-- ==== Proof.Mlp.Same.lean ====
/- The kernel's program and its reading over the reals are one text: every part of the one is the same part of the other, so one run serves both. -/
module

public import proofs.«01_k».proof.Proof.Gen.MlpBwd
public import proofs.«01_k».proof.Proof.Gen.MlpBwdIdeal

@[expose] public section
set_option maxRecDepth 16384
set_option maxHeartbeats 1000000

noncomputable section

namespace Cert.Mlp

open Idealize.ShloMosaic Idealize.SL.Sem

variable {F : FTy → Type} [FloatOps F]

theorem part1_same : @Cert.MlpBwd.k0_part1 F _ _ = @Cert.MlpBwdIdeal.k0_part1 F _ _ := by
  delta Cert.MlpBwd.k0_part1 Cert.MlpBwdIdeal.k0_part1; rfl

theorem part2_same : @Cert.MlpBwd.k0_part2 F _ _ = @Cert.MlpBwdIdeal.k0_part2 F _ _ := by
  delta Cert.MlpBwd.k0_part2 Cert.MlpBwdIdeal.k0_part2; rfl

theorem part3_same : @Cert.MlpBwd.k0_part3 F _ _ = @Cert.MlpBwdIdeal.k0_part3 F _ _ := by
  delta Cert.MlpBwd.k0_part3 Cert.MlpBwdIdeal.k0_part3; rfl

theorem part4_same : @Cert.MlpBwd.k0_part4 F _ _ = @Cert.MlpBwdIdeal.k0_part4 F _ _ := by
  delta Cert.MlpBwd.k0_part4 Cert.MlpBwdIdeal.k0_part4; rfl

theorem body_same : @Cert.MlpBwd.cc0_mlp_bwd F _ _ = @Cert.MlpBwdIdeal.cc0_mlp_bwd F _ _ := by
  delta Cert.MlpBwd.cc0_mlp_bwd
  rw [part1_same, part2_same, part3_same, part4_same]
  rfl

theorem calls_same : @Cert.MlpBwd.defs₀ F _ _ = @Cert.MlpBwdIdeal.defs₀ F _ _ := by
  delta Cert.MlpBwd.defs₀ Cert.MlpBwdIdeal.defs₀
  rw [body_same]
  exact congrArg Defs.onTc (funext fun l => match l with
    | 0 => funext fun ⟨t, s⟩ => rfl
    | ⟨n + 1, h⟩ => absurd h (Nat.not_lt.2 (Nat.le_add_left _ _)))

theorem defs_same : @Cert.MlpBwd.defs F _ _ = @Cert.MlpBwdIdeal.defs F _ _ := by
  delta Cert.MlpBwd.defs
  rw [calls_same]
  rfl

theorem main_same : @Cert.MlpBwd.main F _ _ = @Cert.MlpBwdIdeal.main F _ _ := by
  delta Cert.MlpBwd.main Cert.MlpBwdIdeal.main
  rfl

end Cert.Mlp

end
-- ==== Proof.Mlp.Left.lean ====
/- What the backward kernel of the gated layer leaves in its buffers after each of its 32 points: in the eight output blocks and in the four
   arrays that the first point copies the weights into. Over any float values. -/
module

public import proofs.«01_k».proof.Proof.Gen.MlpBwdIdeal.Frame.RunB
public import Idealize.ShloMosaic.Lib.Claim

@[expose] public section

set_option maxRecDepth 16384

noncomputable section

namespace Cert.Mlp.Run

open Cert.MlpBwdIdeal Cert.MlpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point leaves: its eight output blocks and the four copied weights. -/
structure Left (F : FTy → Type) where
  /-- The gradient of the input. -/
  dx : Vec F S256x1024 .f32
  /-- The gradient of the attention's output. -/
  dya : Vec F S256x512 .f32
  /-- The gradient of the recurrence's output. -/
  dys : Vec F S256x512 .f32
  /-- The activations. -/
  act : Vec F S256x2816 .bf16
  /-- The gradient of gates and ups. -/
  dgu : Vec F S256x5632 .bf16
  /-- The modulated rows. -/
  mod : Vec F S256x1024 .bf16
  /-- The running sum of the shift's gradient. -/
  shift : Vec F S8x1024 .f32
  /-- The running sum of the scale's gradient. -/
  prod : Vec F S8x1024 .f32
  /-- The output projection, as copied. -/
  wo : Vec F S1024x1024 .bf16
  /-- The first chunks of gates and ups, as copied. -/
  wga : Vec F S4x512x1408 .bf16
  /-- The last chunks of gates and ups, as copied. -/
  wgb : Vec F S4x512x1408 .bf16
  /-- The down projection, as copied. -/
  wd : Vec F S2816x1024 .bf16

/-- The run of the body at the first point: the stores it makes, with the proof that it makes them. -/
def runFirst (c : Dev nD) (t : Fin cfg0.N) (h : t.val % 32 = 0) :=
  kernelRun0_A c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t)
    (hs0_13 t) (ms0_14 t) (hs0_14 t) scM0_0 (Memref.isWhole_whole _) scM0_1 (Memref.isWhole_whole _) scM0_2 (Memref.isWhole_whole _) scM0_3
    (Memref.isWhole_whole _) ((hcond0_0 t).mpr h) ((hcond0_1 t).mpr h) (iblk m c 0 t) (iblk m c 1 t) (iblk m c 2 t) (iblk m c 3 t) (iblk m c 4 t)
    (iblk m c 5 t) (iblk m c 6 t) (V m c main_v40) (V m c main_v14) (V m c main_v23) (V m c main_v41)

/-- The run of the body at a later point, over the sums and the weights that the point before left. -/
def runLater (c : Dev nD) (t : Fin cfg0.N) (h : ¬t.val % 32 = 0) (l : Left F) :=
  kernelRun0_B c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t)
    (hs0_13 t) (ms0_14 t) (hs0_14 t) scM0_0 (Memref.isWhole_whole _) scM0_1 (Memref.isWhole_whole _) scM0_2 (Memref.isWhole_whole _) scM0_3
    (Memref.isWhole_whole _) (fun e => h ((hcond0_0 t).mp e) ) (fun e => h ((hcond0_1 t).mp e) ) (iblk m c 0 t) (iblk m c 1 t) (iblk m c 2 t)
    (iblk m c 3 t) (iblk m c 4 t) (iblk m c 5 t) (iblk m c 6 t) l.shift l.prod l.wo l.wga l.wgb l.wd (V m c main_v40) (V m c main_v14)
    (V m c main_v23) (V m c main_v41)

/-! Every block that a run stores is stored whole. -/

theorem first_dx_covers (c : Dev nD) (t : Fin cfg0.N) (h : t.val % 32 = 0) (y : S256x1024.Idx) : ∃ pc ∈ (runFirst m c t h).1, y ∈ pc.1.set :=
  View.cover_of_tiledL (runFirst m c t h).1 S256x1024.size (by sl_kernel_rfl) y

theorem first_dya_covers (c : Dev nD) (t : Fin cfg0.N) (h : t.val % 32 = 0) (y : S256x512.Idx) : ∃ pc ∈ (runFirst m c t h).2.1, y ∈ pc.1.set :=
  View.cover_of_tiledL (runFirst m c t h).2.1 S256x512.size (by sl_kernel_rfl) y

theorem first_dys_covers (c : Dev nD) (t : Fin cfg0.N) (h : t.val % 32 = 0) (y : S256x512.Idx) : ∃ pc ∈ (runFirst m c t h).2.2.1, y ∈ pc.1.set :=
  View.cover_of_tiledL (runFirst m c t h).2.2.1 S256x512.size (by sl_kernel_rfl) y

theorem first_act_covers (c : Dev nD) (t : Fin cfg0.N) (h : t.val % 32 = 0) (y : S256x2816.Idx) : ∃ pc ∈ (runFirst m c t h).2.2.2.1, y ∈ pc.1.set :=
  View.cover_of_tiledL (runFirst m c t h).2.2.2.1 S256x2816.size (by sl_kernel_rfl) y

theorem first_dgu_covers (c : Dev nD) (t : Fin cfg0.N) (h : t.val % 32 = 0) (y : S256x5632.Idx) : ∃ pc ∈ (runFirst m c t h).2.2.2.2.1, y ∈ pc.1.set :=
  View.cover_of_tiledL (runFirst m c t h).2.2.2.2.1 S256x5632.size (by sl_kernel_rfl) y

theorem first_mod_covers (c : Dev nD) (t : Fin cfg0.N) (h : t.val % 32 = 0) (y : S256x1024.Idx) : ∃ pc ∈ (runFirst m c t h).2.2.2.2.2.1, y ∈ pc.1.set :=
  View.cover_of_tiledL (runFirst m c t h).2.2.2.2.2.1 S256x1024.size (by sl_kernel_rfl) y

theorem first_shift_covers (c : Dev nD) (t : Fin cfg0.N) (h : t.val % 32 = 0) (y : S8x1024.Idx) : ∃ pc ∈ (runFirst m c t h).2.2.2.2.2.2.1, y ∈ pc.1.set :=
  View.cover_of_tiledBy (runFirst m c t h).2.2.2.2.2.2.1 ![1, 1024] (by sl_kernel_rfl) y

theorem first_prod_covers (c : Dev nD) (t : Fin cfg0.N) (h : t.val % 32 = 0) (y : S8x1024.Idx) : ∃ pc ∈ (runFirst m c t h).2.2.2.2.2.2.2.1, y ∈ pc.1.set :=
  View.cover_of_tiledBy (runFirst m c t h).2.2.2.2.2.2.2.1 ![1, 1024] (by sl_kernel_rfl) y

theorem first_wo_covers (c : Dev nD) (t : Fin cfg0.N) (h : t.val % 32 = 0) (y : S1024x1024.Idx) : ∃ pc ∈ (runFirst m c t h).2.2.2.2.2.2.2.2.1, y ∈ pc.1.set :=
  View.cover_of_tiledL (runFirst m c t h).2.2.2.2.2.2.2.2.1 S1024x1024.size (by sl_kernel_rfl) y

theorem first_wga_covers (c : Dev nD) (t : Fin cfg0.N) (h : t.val % 32 = 0) (y : S4x512x1408.Idx) : ∃ pc ∈ (runFirst m c t h).2.2.2.2.2.2.2.2.2.1, y ∈ pc.1.set :=
  View.cover_of_tiledL (runFirst m c t h).2.2.2.2.2.2.2.2.2.1 S4x512x1408.size (by sl_kernel_rfl) y

theorem first_wgb_covers (c : Dev nD) (t : Fin cfg0.N) (h : t.val % 32 = 0) (y : S4x512x1408.Idx) : ∃ pc ∈ (runFirst m c t h).2.2.2.2.2.2.2.2.2.2.1, y ∈ pc.1.set :=
  View.cover_of_tiledL (runFirst m c t h).2.2.2.2.2.2.2.2.2.2.1 S4x512x1408.size (by sl_kernel_rfl) y

theorem first_wd_covers (c : Dev nD) (t : Fin cfg0.N) (h : t.val % 32 = 0) (y : S2816x1024.Idx) : ∃ pc ∈ (runFirst m c t h).2.2.2.2.2.2.2.2.2.2.2.1, y ∈ pc.1.set :=
  View.cover_of_tiledL (runFirst m c t h).2.2.2.2.2.2.2.2.2.2.2.1 S2816x1024.size (by sl_kernel_rfl) y

theorem later_dx_covers (c : Dev nD) (t : Fin cfg0.N) (h : ¬t.val % 32 = 0) (l : Left F) (y : S256x1024.Idx) : ∃ pc ∈ (runLater m c t h l).1, y ∈ pc.1.set :=
  View.cover_of_tiledL (runLater m c t h l).1 S256x1024.size (by sl_kernel_rfl) y

theorem later_dya_covers (c : Dev nD) (t : Fin cfg0.N) (h : ¬t.val % 32 = 0) (l : Left F) (y : S256x512.Idx) : ∃ pc ∈ (runLater m c t h l).2.1, y ∈ pc.1.set :=
  View.cover_of_tiledL (runLater m c t h l).2.1 S256x512.size (by sl_kernel_rfl) y

theorem later_dys_covers (c : Dev nD) (t : Fin cfg0.N) (h : ¬t.val % 32 = 0) (l : Left F) (y : S256x512.Idx) : ∃ pc ∈ (runLater m c t h l).2.2.1, y ∈ pc.1.set :=
  View.cover_of_tiledL (runLater m c t h l).2.2.1 S256x512.size (by sl_kernel_rfl) y

theorem later_act_covers (c : Dev nD) (t : Fin cfg0.N) (h : ¬t.val % 32 = 0) (l : Left F) (y : S256x2816.Idx) : ∃ pc ∈ (runLater m c t h l).2.2.2.1, y ∈ pc.1.set :=
  View.cover_of_tiledL (runLater m c t h l).2.2.2.1 S256x2816.size (by sl_kernel_rfl) y

theorem later_dgu_covers (c : Dev nD) (t : Fin cfg0.N) (h : ¬t.val % 32 = 0) (l : Left F) (y : S256x5632.Idx) : ∃ pc ∈ (runLater m c t h l).2.2.2.2.1, y ∈ pc.1.set :=
  View.cover_of_tiledL (runLater m c t h l).2.2.2.2.1 S256x5632.size (by sl_kernel_rfl) y

theorem later_mod_covers (c : Dev nD) (t : Fin cfg0.N) (h : ¬t.val % 32 = 0) (l : Left F) (y : S256x1024.Idx) : ∃ pc ∈ (runLater m c t h l).2.2.2.2.2.1, y ∈ pc.1.set :=
  View.cover_of_tiledL (runLater m c t h l).2.2.2.2.2.1 S256x1024.size (by sl_kernel_rfl) y

/-- What the first point leaves. -/
def first (c : Dev nD) (t : Fin cfg0.N) (h : t.val % 32 = 0) : Left F where
  dx := VO0_7.read (Elt F) (VO0_7.writes (Elt F) VO0_7.junk (runFirst m c t h).1)
  dya := VO0_8.read (Elt F) (VO0_8.writes (Elt F) VO0_8.junk (runFirst m c t h).2.1)
  dys := VO0_9.read (Elt F) (VO0_9.writes (Elt F) VO0_9.junk (runFirst m c t h).2.2.1)
  act := VO0_10.read (Elt F) (VO0_10.writes (Elt F) VO0_10.junk (runFirst m c t h).2.2.2.1)
  dgu := VO0_11.read (Elt F) (VO0_11.writes (Elt F) VO0_11.junk (runFirst m c t h).2.2.2.2.1)
  mod := VO0_12.read (Elt F) (VO0_12.writes (Elt F) VO0_12.junk (runFirst m c t h).2.2.2.2.2.1)
  shift := VO0_13.read (Elt F) (VO0_13.writes (Elt F) VO0_13.junk (runFirst m c t h).2.2.2.2.2.2.1)
  prod := VO0_14.read (Elt F) (VO0_14.writes (Elt F) VO0_14.junk (runFirst m c t h).2.2.2.2.2.2.2.1)
  wo := VS0_0.read (Elt F) (VS0_0.writes (Elt F) VS0_0.junk (runFirst m c t h).2.2.2.2.2.2.2.2.1)
  wga := VS0_1.read (Elt F) (VS0_1.writes (Elt F) VS0_1.junk (runFirst m c t h).2.2.2.2.2.2.2.2.2.1)
  wgb := VS0_2.read (Elt F) (VS0_2.writes (Elt F) VS0_2.junk (runFirst m c t h).2.2.2.2.2.2.2.2.2.2.1)
  wd := VS0_3.read (Elt F) (VS0_3.writes (Elt F) VS0_3.junk (runFirst m c t h).2.2.2.2.2.2.2.2.2.2.2.1)

/-- What a later point leaves, over what the point before left. -/
def later (c : Dev nD) (t : Fin cfg0.N) (h : ¬t.val % 32 = 0) (l : Left F) : Left F where
  dx := VO0_7.read (Elt F) (VO0_7.writes (Elt F) VO0_7.junk (runLater m c t h l).1)
  dya := VO0_8.read (Elt F) (VO0_8.writes (Elt F) VO0_8.junk (runLater m c t h l).2.1)
  dys := VO0_9.read (Elt F) (VO0_9.writes (Elt F) VO0_9.junk (runLater m c t h l).2.2.1)
  act := VO0_10.read (Elt F) (VO0_10.writes (Elt F) VO0_10.junk (runLater m c t h l).2.2.2.1)
  dgu := VO0_11.read (Elt F) (VO0_11.writes (Elt F) VO0_11.junk (runLater m c t h l).2.2.2.2.1)
  mod := VO0_12.read (Elt F) (VO0_12.writes (Elt F) VO0_12.junk (runLater m c t h l).2.2.2.2.2.1)
  shift := (ms0_13 t).view.read (Elt F) ((ms0_13 t).view.writes (Elt F) ((hs0_13 t).unread l.shift) (runLater m c t h l).2.2.2.2.2.2.1)
  prod := (ms0_14 t).view.read (Elt F) ((ms0_14 t).view.writes (Elt F) ((hs0_14 t).unread l.prod) (runLater m c t h l).2.2.2.2.2.2.2.1)
  wo := l.wo
  wga := l.wga
  wgb := l.wgb
  wd := l.wd

/-- What the buffers hold after point `n`. -/
def left (c : Dev nD) : (n : ℕ) → n < cfg0.N → Left F
  | 0, hn => first m c ⟨0, hn⟩ (Nat.zero_mod _)
  | n + 1, hn =>
    if h : (n + 1) % 32 = 0 then first m c ⟨n + 1, hn⟩ h
    else later m c ⟨n + 1, hn⟩ h (left c n (Nat.lt_of_succ_lt hn))

theorem left_first (c : Dev nD) (t : Fin cfg0.N) (h : t.val % 32 = 0) : left m c t.val t.isLt = first m c t h := by
  obtain ⟨n, hn⟩ := t
  cases n with
  | zero => exact rfl
  | succ n => exact dif_pos h

theorem left_later (c : Dev nD) (t : Fin cfg0.N) (h : ¬t.val % 32 = 0) :
    left m c t.val t.isLt = later m c t h (left m c (t.val - 1) (Nat.lt_of_le_of_lt (Nat.sub_le _ _) t.isLt)) := by
  obtain ⟨n, hn⟩ := t
  cases n with
  | zero => exact absurd (Nat.zero_mod _) h
  | succ n => exact dif_neg h

end Cert.Mlp.Run

end
-- ==== Proof.Mlp.Frame.lean ====
/- The run of the backward kernel of the gated layer: every run ends, with what `left` says in the result arrays and the arguments unchanged.
   Over any float values, so that it serves the kernel and its reading over the reals alike. -/
module

public import proofs.«01_k».proof.Proof.Mlp.Left
public import Idealize.ShloMosaic.Lib.Claim

@[expose] public section

set_option maxRecDepth 16384

noncomputable section

namespace Cert.Mlp.Run

open Cert.MlpBwdIdeal Cert.MlpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point starts from: before the first one any contents of the copied weights, later the weights as the point before left them;
    with them the register of the generator, the counters of the copies at zero and the weights in the large memory. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((left m c n hn).wo) ∗ owns (c : Thread nD τ) scM0_1 fullShare ((left m c n hn).wga) ∗ owns (c : Thread nD τ) scM0_2 fullShare ((left m c n hn).wgb) ∗ owns (c : Thread nD τ) scM0_3 fullShare ((left m c n hn).wd)) ∗ (∃ r, prngReg c r) ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v40) ∗ hbPt0 c hbM0_1 (V m c main_v14) ∗ hbPt0 c hbM0_2 (V m c main_v23) ∗ hbPt0 c hbM0_3 (V m c main_v41)))

theorem PhiS_zero (c : Dev nD) (n : ℕ) (h : n ≤ cfg0.N) (hz : n = 0) : PhiS m c n h = Pipeline.ΦD osem0 spec0 H0 (V m) c := by
  subst hz; rfl

/-- After point `n` the copied weights are what that point left. -/
theorem PhiS_succ (c : Dev nD) (n : ℕ) (hn : n < cfg0.N) :
    PhiS m c (n + 1) hn = iprop(iprop(owns (c : Thread nD τ) scM0_0 fullShare ((left m c n hn).wo) ∗ owns (c : Thread nD τ) scM0_1 fullShare ((left m c n hn).wga) ∗ owns (c : Thread nD τ) scM0_2 fullShare ((left m c n hn).wgb) ∗ owns (c : Thread nD τ) scM0_3 fullShare ((left m c n hn).wd)) ∗ (∃ r, prngReg c r) ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v40) ∗ hbPt0 c hbM0_1 (V m c main_v14) ∗ hbPt0 c hbM0_2 (V m c main_v23) ∗ hbPt0 c hbM0_3 (V m c main_v41))) := rfl

/-- Before a point that is not the first they are what the point before left. -/
theorem PhiS_pos (c : Dev nD) (n : ℕ) (h : n ≤ cfg0.N) (hz : n ≠ 0) :
    PhiS m c n h = iprop(iprop(owns (c : Thread nD τ) scM0_0 fullShare ((left m c (n - 1) (by omega)).wo) ∗ owns (c : Thread nD τ) scM0_1 fullShare ((left m c (n - 1) (by omega)).wga) ∗ owns (c : Thread nD τ) scM0_2 fullShare ((left m c (n - 1) (by omega)).wgb) ∗ owns (c : Thread nD τ) scM0_3 fullShare ((left m c (n - 1) (by omega)).wd)) ∗ (∃ r, prngReg c r) ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v40) ∗ hbPt0 c hbM0_1 (V m c main_v14) ∗ hbPt0 c hbM0_2 (V m c main_v23) ∗ hbPt0 c hbM0_3 (V m c main_v41))) := by
  cases n with
  | zero => exact absurd rfl hz
  | succ n => rfl

/-- The proof data: each array as the pipeline finds it, each input block in place and each output block at what `left` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).dx
    | ⟨8, _⟩ => (left m c t.val t.isLt).dya
    | ⟨9, _⟩ => (left m c t.val t.isLt).dys
    | ⟨10, _⟩ => (left m c t.val t.isLt).act
    | ⟨11, _⟩ => (left m c t.val t.isLt).dgu
    | ⟨12, _⟩ => (left m c t.val t.isLt).mod
    | ⟨13, _⟩ => (left m c t.val t.isLt).shift
    | ⟨14, _⟩ => (left m c t.val t.isLt).prod
  Φ t := PhiS m c t.val (Nat.le_of_lt_succ t.isLt)
  q _ := fullShare
  owed _ := 0

/-- The arrays of the proof data are the arrays as the pipeline finds them. -/
theorem A_eq (c : Dev nD) (w : Fin cfg0.W) : (dats m 0 c).A w = V m c (Pipeline.arrRef spec0 w) := by
  dsimp only [dats]

/-- What a point starts from, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What is left in each block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (left m c t.val t.isLt).dx := by dsimp only [dats]
theorem after0_8 (c : Dev nD) (t : Fin cfg0.N) : (dats m 0 c).after 8 t = (left m c t.val t.isLt).dya := by dsimp only [dats]
theorem after0_9 (c : Dev nD) (t : Fin cfg0.N) : (dats m 0 c).after 9 t = (left m c t.val t.isLt).dys := by dsimp only [dats]
theorem after0_10 (c : Dev nD) (t : Fin cfg0.N) : (dats m 0 c).after 10 t = (left m c t.val t.isLt).act := by dsimp only [dats]
theorem after0_11 (c : Dev nD) (t : Fin cfg0.N) : (dats m 0 c).after 11 t = (left m c t.val t.isLt).dgu := by dsimp only [dats]
theorem after0_12 (c : Dev nD) (t : Fin cfg0.N) : (dats m 0 c).after 12 t = (left m c t.val t.isLt).mod := by dsimp only [dats]
theorem after0_13 (c : Dev nD) (t : Fin cfg0.N) : (dats m 0 c).after 13 t = (left m c t.val t.isLt).shift := by dsimp only [dats]
theorem after0_14 (c : Dev nD) (t : Fin cfg0.N) : (dats m 0 c).after 14 t = (left m c t.val t.isLt).prod := by dsimp only [dats]

/-- Each input block is in place at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a later point the first sum still holds what the point before left. -/
theorem before0_13_B (c : Dev nD) (t : Fin cfg0.N) (h0 : ¬t.val % 32 = 0) (d) :
    (dats m 0 c).before 13 t d = (left m c (t.val - 1) (Nat.lt_of_le_of_lt (Nat.sub_le _ _) t.isLt)).shift := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a later point the second sum still holds what the point before left. -/
theorem before0_14_B (c : Dev nD) (t : Fin cfg0.N) (h0 : ¬t.val % 32 = 0) (d) :
    (dats m 0 c).before 14 t d = (left m c (t.val - 1) (Nat.lt_of_le_of_lt (Nat.sub_le _ _) t.isLt)).prod := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: it finds its input blocks, the sums and the weights of the point before, and leaves what `left` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · have hz : t.val = 0 := by omega
    rw [PhiS_castSucc m c t, PhiS_zero m c _ _ hz, PhiD0_eq]
    rw [left_first m c t h0]
    dsimp only [first]
    iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runFirst m c t h0).2.2.2.2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, ⟨%e14, H14⟩, ⟨%es0, HS0⟩, ⟨%es1, HS1⟩, ⟨%es2, HS2⟩, ⟨%es3, HS3⟩, Hq0, Hq1, Hq2, Hq3, Hh0, Hh1, Hh2, Hh3, ⟨%W', HW'⟩⟩
    isplitl [HS0 HS1 HS2 HS3 Hg Hq0 Hq1 Hq2 Hq3 Hh0 Hh1 Hh2 Hh3]
    · isplitl [HS0 HS1 HS2 HS3]
      · isplitl [HS0]
        · unfold owns; iexists _; isplitr
          swap; · iexact HS0
          ipureintro; exact View.read_writes_of_cover _ _ _ _ _ (first_wo_covers m c t h0)
        isplitl [HS1]
        · unfold owns; iexists _; isplitr
          swap; · iexact HS1
          ipureintro; exact View.read_writes_of_cover _ _ _ _ _ (first_wga_covers m c t h0)
        isplitl [HS2]
        · unfold owns; iexists _; isplitr
          swap; · iexact HS2
          ipureintro; exact View.read_writes_of_cover _ _ _ _ _ (first_wgb_covers m c t h0)
        unfold owns; iexists _; isplitr
        swap; · iexact HS3
        ipureintro; exact View.read_writes_of_cover _ _ _ _ _ (first_wd_covers m c t h0)
      isplitl [Hg]
      · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (first_dx_covers m c t h0)
    isplitl [H8]
    · unfold owns; iexists _; isplitr
      swap; · iexact H8
      ipureintro; exact View.read_writes_of_cover _ _ _ _ _ (first_dya_covers m c t h0)
    isplitl [H9]
    · unfold owns; iexists _; isplitr
      swap; · iexact H9
      ipureintro; exact View.read_writes_of_cover _ _ _ _ _ (first_dys_covers m c t h0)
    isplitl [H10]
    · unfold owns; iexists _; isplitr
      swap; · iexact H10
      ipureintro; exact View.read_writes_of_cover _ _ _ _ _ (first_act_covers m c t h0)
    isplitl [H11]
    · unfold owns; iexists _; isplitr
      swap; · iexact H11
      ipureintro; exact View.read_writes_of_cover _ _ _ _ _ (first_dgu_covers m c t h0)
    isplitl [H12]
    · unfold owns; iexists _; isplitr
      swap; · iexact H12
      ipureintro; exact View.read_writes_of_cover _ _ _ _ _ (first_mod_covers m c t h0)
    isplitl [H13]
    · unfold owns; iexists _; isplitr
      swap; · iexact H13
      ipureintro; exact View.read_writes_of_cover _ _ _ _ _ (first_shift_covers m c t h0)
    unfold owns; iexists _; isplitr
    swap; · iexact H14
    ipureintro; exact View.read_writes_of_cover _ _ _ _ _ (first_prod_covers m c t h0)
  · have hz : t.val ≠ 0 := by rintro h; omega
    rw [PhiS_castSucc m c t, PhiS_pos m c _ _ hz]
    rw [left_later m c t h0]
    simp only [before0_13_B m c t h0, before0_14_B m c t h0]
    dsimp only [later]
    iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runLater m c t h0 (left m c (t.val - 1) (Nat.lt_of_le_of_lt (Nat.sub_le _ _) t.isLt))).2.2.2.2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, ⟨%e7, H7⟩, ⟨%e8, H8⟩, ⟨%e9, H9⟩, ⟨%e10, H10⟩, ⟨%e11, H11⟩, ⟨%e12, H12⟩, H13, H14, HS0, HS1, HS2, HS3, Hq0, Hq1, Hq2, Hq3, Hh0, Hh1, Hh2, Hh3, ⟨%W', HW'⟩⟩
    isplitl [HS0 HS1 HS2 HS3 Hg Hq0 Hq1 Hq2 Hq3 Hh0 Hh1 Hh2 Hh3]
    · isplitl [HS0 HS1 HS2 HS3]
      · isplitl [HS0]; · iexact HS0
        isplitl [HS1]; · iexact HS1
        isplitl [HS2]; · iexact HS2
        iexact HS3
      isplitl [Hg]
      · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (later_dx_covers m c t h0 _)
    isplitl [H8]
    · unfold owns; iexists _; isplitr
      swap; · iexact H8
      ipureintro; exact View.read_writes_of_cover _ _ _ _ _ (later_dya_covers m c t h0 _)
    isplitl [H9]
    · unfold owns; iexists _; isplitr
      swap; · iexact H9
      ipureintro; exact View.read_writes_of_cover _ _ _ _ _ (later_dys_covers m c t h0 _)
    isplitl [H10]
    · unfold owns; iexists _; isplitr
      swap; · iexact H10
      ipureintro; exact View.read_writes_of_cover _ _ _ _ _ (later_act_covers m c t h0 _)
    isplitl [H11]
    · unfold owns; iexists _; isplitr
      swap; · iexact H11
      ipureintro; exact View.read_writes_of_cover _ _ _ _ _ (later_dgu_covers m c t h0 _)
    isplitl [H12]
    · unfold owns; iexists _; isplitr
      swap; · iexact H12
      ipureintro; exact View.read_writes_of_cover _ _ _ _ _ (later_mod_covers m c t h0 _)
    isplitl [H13]
    · unfold owns; iexists _; isplitr
      swap; · iexact H13
      ipureintro; rfl
    unfold owns; iexists _; isplitr
    swap; · iexact H14
    ipureintro; rfl

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body does at every point what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what the first point starts from. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point what the launch wants back can be given. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2, Hq3⟩, ⟨Hh0, Hh1, Hh2, Hh3⟩⟩
  isplitl [HS0 HS1 HS2 HS3]
  · isplitl [HS0]
    · iexists _; iexact HS0
    isplitl [HS1]
    · iexists _; iexact HS1
    isplitl [HS2]
    · iexists _; iexact HS2
    iexists _; iexact HS3
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in
/-- Every run ends with the arrays as the proof data say and with all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run ends with the arrays as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- Every run ends with the eight result arrays at what the proof data say and with the arguments as they were. -/
theorem run : θ_run defs (onTc (τ := τ) (main (F := F))) ⟨m, fun _ => 0, ρ⟩ (fun r => ∀ c : Dev nD,
      r.2.mem ((c.tc : Thread nD τ).loc main_v42_0) = (dats m 0 c).arrAt 7 cfg0.N
      ∧ r.2.mem ((c.tc : Thread nD τ).loc main_v42_1) = (dats m 0 c).arrAt 8 cfg0.N
      ∧ r.2.mem ((c.tc : Thread nD τ).loc main_v42_2) = (dats m 0 c).arrAt 9 cfg0.N
      ∧ r.2.mem ((c.tc : Thread nD τ).loc main_v42_3) = (dats m 0 c).arrAt 10 cfg0.N
      ∧ r.2.mem ((c.tc : Thread nD τ).loc main_v42_4) = (dats m 0 c).arrAt 11 cfg0.N
      ∧ r.2.mem ((c.tc : Thread nD τ).loc main_v42_5) = (dats m 0 c).arrAt 12 cfg0.N
      ∧ r.2.mem ((c.tc : Thread nD τ).loc main_v42_6) = (dats m 0 c).arrAt 13 cfg0.N
      ∧ r.2.mem ((c.tc : Thread nD τ).loc main_v42_7) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h.1 c).1 7, (h.1 c).1 8, (h.1 c).1 9, (h.1 c).1 10, (h.1 c).1 11, (h.1 c).1 12, (h.1 c).1 13, (h.1 c).1 14, h.2 c⟩)
    (θ_run_and (run_main m ρ) (unchanged m ρ))

end Cert.Mlp.Run

end
-- ==== Proof.Mlp.Row.lean ====
/- The arithmetic of one token's row in the gated unit's backward, over the reals with infinities: the logistic function, the unit's activation, and the
   gradient of its gates and ups in the form the kernel computes it. -/
module

public import proofs.«01_k».proof.Proof.InProj.Row

@[expose] public section

noncomputable section

namespace Cert.Mlp

open Idealize.ShloMosaic

/-- The logistic function. -/
def logistic (v : EReal) : EReal := Ideal.div 1 (1 + Ideal.exp (-v))

/-- The gate of column `l`. -/
def gateOf (G : Fin 5632 → EReal) (l : Fin 2816) : EReal := G ⟨l, Nat.lt_trans l.isLt (by decide)⟩

/-- The up of column `l`. -/
def upOf (G : Fin 5632 → EReal) (l : Fin 2816) : EReal := G ⟨2816 + (l : ℕ), Nat.add_lt_add_left l.isLt 2816⟩

/-- The activation of one row: its gates, through the gate's own logistic, times its ups. -/
def actRow (G : Fin 5632 → EReal) (l : Fin 2816) : EReal := gateOf G l * logistic (gateOf G l) * upOf G l

/-- The gradient of one row's gates and ups, laid side by side: `G` are the gates and ups, `T` is the gradient of the activation. -/
def dguRow (G : Fin 5632 → EReal) (T : Fin 2816 → EReal) (x : Fin 5632) : EReal :=
  if h : (x : ℕ) < 2816 then
    T ⟨x, h⟩ * upOf G ⟨x, h⟩ * (logistic (gateOf G ⟨x, h⟩) * (1 + gateOf G ⟨x, h⟩ * (1 - logistic (gateOf G ⟨x, h⟩))))
  else T ⟨(x : ℕ) - 2816, by omega⟩ * (gateOf G ⟨(x : ℕ) - 2816, by omega⟩ * logistic (gateOf G ⟨(x : ℕ) - 2816, by omega⟩))

/-- A row, each element times a factor, against a matrix's rows: the product with the matrix transposed. -/
def against {K N : ℕ} (A B : Fin K → EReal) (W : Fin N → Fin K → EReal) (l : Fin N) : EReal := ∑ k, A k * B k * W l k

end Cert.Mlp

end
-- ==== Proof.Mlp.Tile.lean ====
/- What one point of the gated layer's backward kernel computes of a tile of 256 tokens, at an index: the gradient of the gates and ups, and through the
   two copied halves of their weight the gradient of the modulated rows. -/
module

public import proofs.«01_k».proof.Proof.Mlp.Frame
public import proofs.«01_k».proof.Proof.Mlp.Row
public import Idealize.ShloMosaic.Lib.Pointwise
public import Idealize.ShloMosaic.Lib.Pipeline.ReadBack
public import Idealize.ShloMosaic.Lib.Pipeline.Value

@[expose] public section

set_option maxRecDepth 16384

noncomputable section

namespace Cert.Mlp.Run

open Cert.MlpBwdIdeal Cert.MlpBwdIdeal.Gen Idealize.ShloMosaic Idealize.ShloMosaic.TcCoe Idealize.SL.Sem Idealize.ShloMosaic.Pipeline

variable (x dx : FVec Ideal S256x1024 .f32) (gu : FVec Ideal S256x5632 .bf16) (g1 a s g2 : FVec Ideal S1x1024 .f32)
  (wo : FVec Ideal S1024x1024 .bf16) (wga wgb : FVec Ideal S4x512x1408 .bf16) (wd : FVec Ideal S2816x1024 .bf16)

/-- The gradient of the tile's gates and ups. -/
def dguTile : FVec Ideal S256x5632 .bf16 :=
  k0_pay12 (k0_pay3 dx g2 wd) (k0_pay7 gu) (k0_pay8 gu) (k0_pay10 dx g2 wd gu) (k0_pay11 gu)

/-- Chunk `j` of a copied half of the weight of gates and ups. -/
def chunk (w : FVec Ideal S4x512x1408 .bf16) (j : ℕ) (h : ∀ a, (![j, 0, 0] : Fin 3 → ℕ) a + (![1, 512, 1408] : Fin 3 → ℕ) a ≤ S4x512x1408.size a) :
    Vec Ideal S1x512x1408 .bf16 :=
  View.ld w (Rect.unit (s := S4x512x1408) ![j, 0, 0] ![1, 512, 1408] h)

/-- The gradient of the tile's modulated rows. -/
def dhTile : FVec Ideal S256x1024 .f32 :=
  k0_pay16 (dguTile dx gu g2 wd)
    (k0_pay13 (k0_pay3 dx g2 wd) (k0_pay7 gu) (k0_pay8 gu) (k0_pay10 dx g2 wd gu) (k0_pay11 gu)
      (chunk wga 0 inb_S4x512x1408_S1x512x1408_0_0_0) (chunk wga 1 inb_S4x512x1408_S1x512x1408_1_0_0)
      (chunk wga 2 inb_S4x512x1408_S1x512x1408_2_0_0) (chunk wga 3 inb_S4x512x1408_S1x512x1408_3_0_0))
    (k0_pay14 (k0_pay3 dx g2 wd) (k0_pay7 gu) (k0_pay8 gu) (k0_pay10 dx g2 wd gu) (k0_pay11 gu) (chunk wgb 0 inb_S4x512x1408_S1x512x1408_0_0_0))
    (k0_pay15 (k0_pay3 dx g2 wd) (k0_pay7 gu) (k0_pay8 gu) (k0_pay10 dx g2 wd gu) (k0_pay11 gu))
    (chunk wgb 1 inb_S4x512x1408_S1x512x1408_1_0_0) (chunk wgb 2 inb_S4x512x1408_S1x512x1408_2_0_0) (chunk wgb 3 inb_S4x512x1408_S1x512x1408_3_0_0)

theorem zero_sub' (v : EReal) : (0 : EReal) - v = -v := by rw [sub_eq_add_neg, zero_add]

theorem dguTile_at (p : Fin 256) (l : Fin 5632) :
    dguTile dx gu g2 wd (ix2 p l)
      = dguRow (fun l => gu (ix2 p l)) (against (fun k => dx (ix2 p k)) (fun k => g2 (ix2 0 k)) (fun l k => wd (ix2 l k))) l := by
  unfold dguTile dguRow
  split
  case isTrue h =>
    pointwise [k0_pay12, k0_pay3, k0_pay7, k0_pay8, k0_pay10, k0_pay11, k0_pay4, k0_pay5, k0_pay6, zero_sub']
    rw [dif_pos h]; rfl
  case isFalse h =>
    pointwise [k0_pay12, k0_pay3, k0_pay7, k0_pay8, k0_pay10, k0_pay11, k0_pay4, k0_pay5, k0_pay6, zero_sub']
    rw [dif_neg h]; rfl

theorem chunk_at (w : FVec Ideal S4x512x1408 .bf16) (j : ℕ) (h) (hj : j < 4) (k : Fin 512) (q : Fin 1408) :
    chunk w j h (ix3 0 k q) = w (ix3 ⟨j, hj⟩ k q) := by
  unfold chunk
  refine congrArg w ?_
  idx_ext

/-- The two copied halves of the weight of gates and ups, put together again. -/
def weight (wga wgb : FVec Ideal S4x512x1408 .bf16) (k : Fin 1024) (x : Fin 5632) : EReal :=
  if h : (k : ℕ) < 512 then wga (ix3 ⟨(x : ℕ) / 1408, by omega⟩ ⟨k, h⟩ ⟨(x : ℕ) % 1408, by omega⟩)
  else wgb (ix3 ⟨(x : ℕ) / 1408, by omega⟩ ⟨(k : ℕ) - 512, by omega⟩ ⟨(x : ℕ) % 1408, by omega⟩)

/-- Four products over chunks of 1408 columns are one over all 5632. -/
theorem sum_chunks (f : Fin 5632 → EReal) :
    ∑ x, f x = (∑ q : Fin 1408, f ⟨q, by omega⟩) + (∑ q : Fin 1408, f ⟨1408 + (q : ℕ), by omega⟩)
      + (∑ q : Fin 1408, f ⟨2816 + (q : ℕ), by omega⟩) + ∑ q : Fin 1408, f ⟨4224 + (q : ℕ), by omega⟩ := by
  rw [show ∑ x, f x = ∑ x : Fin (1408 + 1408 + 1408 + 1408), f x from rfl, Fin.sum_univ_add, Fin.sum_univ_add, Fin.sum_univ_add]
  rfl

theorem dh_at (A B C D E : FVec Ideal S256x2816 .f32) (p : Fin 256) (k : Fin 1024) :
    k0_pay16 (k0_pay12 A B C D E)
      (k0_pay13 A B C D E
        (chunk wga 0 inb_S4x512x1408_S1x512x1408_0_0_0) (chunk wga 1 inb_S4x512x1408_S1x512x1408_1_0_0)
        (chunk wga 2 inb_S4x512x1408_S1x512x1408_2_0_0) (chunk wga 3 inb_S4x512x1408_S1x512x1408_3_0_0))
      (k0_pay14 A B C D E (chunk wgb 0 inb_S4x512x1408_S1x512x1408_0_0_0)) (k0_pay15 A B C D E)
      (chunk wgb 1 inb_S4x512x1408_S1x512x1408_1_0_0) (chunk wgb 2 inb_S4x512x1408_S1x512x1408_2_0_0)
      (chunk wgb 3 inb_S4x512x1408_S1x512x1408_3_0_0) (ix2 p k)
      = ∑ x, k0_pay12 A B C D E (ix2 p x) * weight wga wgb k x := by
  unfold k0_pay13 k0_pay14 k0_pay15
  generalize k0_pay12 A B C D E = Z
  have c0 (w) (k q) := chunk_at w 0 inb_S4x512x1408_S1x512x1408_0_0_0 (by decide) k q
  have c1 (w) (k q) := chunk_at w 1 inb_S4x512x1408_S1x512x1408_1_0_0 (by decide) k q
  have c2 (w) (k q) := chunk_at w 2 inb_S4x512x1408_S1x512x1408_2_0_0 (by decide) k q
  have c3 (w) (k q) := chunk_at w 3 inb_S4x512x1408_S1x512x1408_3_0_0 (by decide) k q
  rw [sum_chunks]
  have e0 (q : Fin 1408) (h) : weight wga wgb k ⟨q, h⟩ = if h : (k : ℕ) < 512 then wga (ix3 0 ⟨k, h⟩ q) else wgb (ix3 0 ⟨(k : ℕ) - 512, by omega⟩ q) := by
    unfold weight; congr 1 <;> funext h <;> congr 1 <;> idx_ext <;> omega
  have e1 (q : Fin 1408) (h) : weight wga wgb k ⟨1408 + q, h⟩ = if h : (k : ℕ) < 512 then wga (ix3 1 ⟨k, h⟩ q) else wgb (ix3 1 ⟨(k : ℕ) - 512, by omega⟩ q) := by
    unfold weight; congr 1 <;> funext h <;> congr 1 <;> idx_ext <;> omega
  have e2 (q : Fin 1408) (h) : weight wga wgb k ⟨2816 + q, h⟩ = if h : (k : ℕ) < 512 then wga (ix3 2 ⟨k, h⟩ q) else wgb (ix3 2 ⟨(k : ℕ) - 512, by omega⟩ q) := by
    unfold weight; congr 1 <;> funext h <;> congr 1 <;> idx_ext <;> omega
  have e3 (q : Fin 1408) (h) : weight wga wgb k ⟨4224 + q, h⟩ = if h : (k : ℕ) < 512 then wga (ix3 3 ⟨k, h⟩ q) else wgb (ix3 3 ⟨(k : ℕ) - 512, by omega⟩ q) := by
    unfold weight; congr 1 <;> funext h <;> congr 1 <;> idx_ext <;> omega
  simp only [e0, e1, e2, e3]
  by_cases h : (k : ℕ) < 512
  · pointwise [k0_pay16, c0, c1, c2, c3]
    simp only [dif_pos h]
  · pointwise [k0_pay16, c0, c1, c2, c3]
    simp only [dif_neg h]

/-- The gradient of the tile's modulated rows, at an index. -/
theorem dhTile_at (p : Fin 256) (k : Fin 1024) :
    dhTile dx gu g2 wga wgb wd (ix2 p k) = ∑ x, dguTile dx gu g2 wd (ix2 p x) * weight wga wgb k x :=
  dh_at wga wgb _ _ _ _ _ p k

/-- The tile's activation, at an index. -/
theorem act_at (p : Fin 256) (l : Fin 2816) : k0_pay9 (F := Ideal) gu (ix2 p l) = actRow (fun x => gu (ix2 p x)) l := by
  pointwise [k0_pay9, k0_pay8, k0_pay7, k0_pay4, k0_pay5, k0_pay6, zero_sub']
  rfl

/-- The tile's modulated rows, at an index. -/
theorem mod_at (p : Fin 256) (k : Fin 1024) :
    k0_pay20 (F := Ideal) x a s (ix2 p k) = InProj.modulated (fun k => x (ix2 p k)) (fun k => a (ix2 0 k)) (fun k => s (ix2 0 k)) k := by
  pointwise [k0_pay20, k0_pay19, k0_pay18, k0_pay17]
  rfl

/-- The tile's normed rows, at an index. -/
theorem normed_at (p : Fin 256) (k : Fin 1024) : k0_pay18 (F := Ideal) x (ix2 p k) = x (ix2 p k) * InProj.inv fun k => x (ix2 p k) := by
  pointwise [k0_pay18, k0_pay17]
  rfl

/-- The gradient of the tile's tokens, at an index, from that of its modulated rows. -/
theorem grad_at (d : FVec Ideal S256x1024 .f32) (p : Fin 256) (k : Fin 1024) :
    k0_pay23 (F := Ideal) dx d (k0_pay17 x) (k0_pay18 x) (k0_pay19 a) (ix2 p k)
      = InProj.gradRow (dx (ix2 p k)) (fun k => x (ix2 p k)) (fun k => d (ix2 p k)) (fun k => a (ix2 0 k)) k := by
  pointwise [k0_pay23, k0_pay19, k0_pay18, k0_pay17]
  rfl

/-- The gradient of the mixers' joint output, at an index, from that of the tokens. -/
theorem dmix_at (A : Vec Ideal S256x1024 .f32) (B : FVec Ideal S256x1024 .f32) (C : FVec Ideal S256x1 .f32) (D) (E) (p : Fin 256) (k : Fin 1024) :
    k0_pay24 (F := Ideal) A B C D E g1 wo (ix2 p k)
      = against (fun l => k0_pay23 A B C D E (ix2 p l)) (fun l => g1 (ix2 0 l)) (fun n l => wo (ix2 n l)) k := by
  unfold k0_pay24
  generalize k0_pay23 A B C D E = Z
  pointwise []
  rfl

end Cert.Mlp.Run

end
-- ==== Proof.Mlp.Block.lean ====
/- What each point of the gated layer's backward kernel leaves, of its blocks of tokens and of the weights the host prepares: the first point copies the
   weights, no later one changes the copies, and the two running sums gather one row a point. -/
module

public import proofs.«01_k».proof.Proof.Mlp.Tile
public import proofs.«01_k».proof.Proof.Common.RowStore

@[expose] public section

set_option maxRecDepth 16384

noncomputable section

namespace Cert.Mlp.Run

open Cert.MlpBwdIdeal Cert.MlpBwdIdeal.Gen Idealize.ShloMosaic Idealize.ShloMosaic.TcCoe Idealize.SL.Sem Idealize.ShloMosaic.Pipeline

variable (m : (ℓ : Loc nD τ sig) → Buf (Elt Ideal) ℓ)

/-- The output projection, as the host prepares it. -/
def hostWo (c : Dev nD) : FVec Ideal S1024x1024 .bf16 := V m c main_v40
/-- The first half of the weight of gates and ups, as the host prepares it. -/
def hostWga (c : Dev nD) : FVec Ideal S4x512x1408 .bf16 := V m c main_v14
/-- The second half of it. -/
def hostWgb (c : Dev nD) : FVec Ideal S4x512x1408 .bf16 := V m c main_v23
/-- The down projection, as the host prepares it. -/
def hostWd (c : Dev nD) : FVec Ideal S2816x1024 .bf16 := V m c main_v41

/-- The tokens of block `t`. -/
def xT (c : Dev nD) (t : Fin cfg0.N) : FVec Ideal S256x1024 .f32 := iblk m c 0 t
/-- The gates and ups of block `t`. -/
def guT (c : Dev nD) (t : Fin cfg0.N) : FVec Ideal S256x5632 .bf16 := iblk m c 1 t
/-- The gradients that come into block `t`. -/
def dxT (c : Dev nD) (t : Fin cfg0.N) : FVec Ideal S256x1024 .f32 := iblk m c 2 t
/-- The first gate, as block `t` reads it. -/
def g1T (c : Dev nD) (t : Fin cfg0.N) : FVec Ideal S1x1024 .f32 := iblk m c 3 t
/-- The norm's scale, as block `t` reads it. -/
def aT (c : Dev nD) (t : Fin cfg0.N) : FVec Ideal S1x1024 .f32 := iblk m c 4 t
/-- The shift, as block `t` reads it. -/
def sT (c : Dev nD) (t : Fin cfg0.N) : FVec Ideal S1x1024 .f32 := iblk m c 5 t
/-- The second gate, as block `t` reads it. -/
def g2T (c : Dev nD) (t : Fin cfg0.N) : FVec Ideal S1x1024 .f32 := iblk m c 6 t

/-- The gradient of gates and ups of block `t`. -/
def dguT (c : Dev nD) (t : Fin cfg0.N) : FVec Ideal S256x5632 .bf16 := dguTile (dxT m c t) (guT m c t) (g2T m c t) (hostWd m c)
/-- The gradient of the modulated rows of block `t`. -/
def dhT (c : Dev nD) (t : Fin cfg0.N) : FVec Ideal S256x1024 .f32 :=
  dhTile (dxT m c t) (guT m c t) (g2T m c t) (hostWga m c) (hostWgb m c) (hostWd m c)

section Reads

variable {sg : RefSig} {κ : Kind} {sp : Space} {s : Shape} {e : EltTy}

/-- What a buffer holds after one store of the whole of it. -/
theorem canon_whole (X : s.Idx → Elt Ideal e) : View.canon [⟨Rect.whole s, X⟩] = X := by
  funext y
  have h := View.canon_cons_emb (Val := Elt Ideal) (Rect.whole s) X [] y
  rwa [Rect.emb_whole_apply] at h

/-- Loading from a buffer that one whole store has just filled. -/
theorem readCov_whole (v : View sg κ sp s e) (X : s.Idx → Elt Ideal e) (r : Rect s) :
    v.readCov [⟨Rect.whole s, X⟩] r.toLoadRect = View.ld X r := by
  rw [View.readCov_eq_canon_ld, canon_whole]
  exact fun y => ⟨_, List.mem_singleton.mpr rfl, by show y ∈ (Rect.whole s).set; rw [Rect.set_whole]; exact Finset.mem_univ y⟩

end Reads

/-! What the first point's copies carry. -/

theorem carried_wo (c : Dev nD) : ReadAs.same.apply (View.read (Elt Ideal) (View.whole main_v40) (V m c main_v40)) = hostWo m c := by
  unfold hostWo; generalize V m c main_v40 = A; rfl

theorem carried_wga (c : Dev nD) : ReadAs.same.apply (View.read (Elt Ideal) (View.whole main_v14) (V m c main_v14)) = hostWga m c := by
  unfold hostWga; generalize V m c main_v14 = A; rfl

theorem carried_wgb (c : Dev nD) : ReadAs.same.apply (View.read (Elt Ideal) (View.whole main_v23) (V m c main_v23)) = hostWgb m c := by
  unfold hostWgb; generalize V m c main_v23 = A; rfl

theorem carried_wd (c : Dev nD) : ReadAs.same.apply (View.read (Elt Ideal) (View.whole main_v41) (V m c main_v41)) = hostWd m c := by
  unfold hostWd; generalize V m c main_v41 = A; rfl

theorem first_weights (c : Dev nD) (t : Fin cfg0.N) (h : t.val % 32 = 0) :
    (first m c t h).wo = hostWo m c ∧ (first m c t h).wga = hostWga m c ∧ (first m c t h).wgb = hostWgb m c ∧ (first m c t h).wd = hostWd m c := by
  refine ⟨?_, ?_, ?_, ?_⟩ <;> dsimp only [first, runFirst]
  all_goals frame_out
  all_goals rw [canon_whole]
  exacts [carried_wo m c, carried_wga m c, carried_wgb m c, carried_wd m c]

theorem later_weights (c : Dev nD) (t : Fin cfg0.N) (h : ¬t.val % 32 = 0) (l : Left Ideal) :
    (later m c t h l).wo = l.wo ∧ (later m c t h l).wga = l.wga ∧ (later m c t h l).wgb = l.wgb ∧ (later m c t h l).wd = l.wd := by
  refine ⟨?_, ?_, ?_, ?_⟩ <;> dsimp only [later]

/-- At every point the copies are the host's weights. -/
theorem weights (c : Dev nD) : ∀ (n : ℕ) (h : n < cfg0.N),
    (left m c n h).wo = hostWo m c ∧ (left m c n h).wga = hostWga m c ∧ (left m c n h).wgb = hostWgb m c ∧ (left m c n h).wd = hostWd m c := by
  intro n
  induction n with
  | zero => intro h; rw [left_first m c ⟨0, h⟩ rfl]; exact first_weights m c _ _
  | succ n ih =>
    intro h
    by_cases h0 : (n + 1) % 32 = 0
    · rw [left_first m c ⟨n + 1, h⟩ h0]; exact first_weights m c _ _
    · have := ih (Nat.lt_of_succ_lt h)
      rw [left_later m c ⟨n + 1, h⟩ h0]
      obtain ⟨h0', h1, h2, h3⟩ := later_weights m c ⟨n + 1, h⟩ h0 (left m c n (Nat.lt_of_succ_lt h))
      exact ⟨h0'.trans this.1, h1.trans this.2.1, h2.trans this.2.2.1, h3.trans this.2.2.2⟩

/-- The copied down projection, read back at the first point. -/
theorem copied_wd (c : Dev nD) : (View.whole cc0_scratch3).readCov
    [⟨Rect.whole S2816x1024, ReadAs.same.apply (View.read (Elt Ideal) (View.whole main_v41) (V m c main_v41))⟩]
    (Rect.unit (s := S2816x1024) ![0, 0] ![2816, 1024] inb_S2816x1024_S2816x1024_0_0).toLoadRect = hostWd m c := by
  rw [carried_wd]
  exact (readCov_whole _ _ _).trans (View.ld_unit_lit _ _ (by decide))

/-- The copied output projection, read back at the first point. -/
theorem copied_wo (c : Dev nD) : (View.whole cc0_scratch0).readCov
    [⟨Rect.whole S1024x1024, ReadAs.same.apply (View.read (Elt Ideal) (View.whole main_v40) (V m c main_v40))⟩]
    (Rect.unit (s := S1024x1024) ![0, 0] ![1024, 1024] inb_S1024x1024_S1024x1024_0_0).toLoadRect = hostWo m c := by
  rw [carried_wo]
  exact (readCov_whole _ _ _).trans (View.ld_unit_lit _ _ (by decide))

/-- A chunk of the first copied half, read back at the first point. -/
theorem copied_wga (c : Dev nD) (j h) : (View.whole cc0_scratch1).readCov
    [⟨Rect.whole S4x512x1408, ReadAs.same.apply (View.read (Elt Ideal) (View.whole main_v14) (V m c main_v14))⟩]
    (Rect.unit (s := S4x512x1408) ![j, 0, 0] ![1, 512, 1408] h).toLoadRect = chunk (hostWga m c) j h := by
  rw [carried_wga]
  exact readCov_whole _ _ _

/-- A chunk of the second. -/
theorem copied_wgb (c : Dev nD) (j h) : (View.whole cc0_scratch2).readCov
    [⟨Rect.whole S4x512x1408, ReadAs.same.apply (View.read (Elt Ideal) (View.whole main_v23) (V m c main_v23))⟩]
    (Rect.unit (s := S4x512x1408) ![j, 0, 0] ![1, 512, 1408] h).toLoadRect = chunk (hostWgb m c) j h := by
  rw [carried_wgb]
  exact readCov_whole _ _ _

/-- The tokens' gradients that point `t` leaves. -/
def gradT (c : Dev nD) (t : Fin cfg0.N) : FVec Ideal S256x1024 .f32 :=
  k0_pay23 (dxT m c t) (dhT m c t) (k0_pay17 (xT m c t)) (k0_pay18 (xT m c t)) (k0_pay19 (aT m c t))

/-- The gradients of the mixers' joint output that it leaves, in two halves. -/
def dyaT (c : Dev nD) (t : Fin cfg0.N) : FVec Ideal S256x512 .f32 :=
  k0_pay25 (dxT m c t) (dhT m c t) (k0_pay17 (xT m c t)) (k0_pay18 (xT m c t)) (k0_pay19 (aT m c t)) (g1T m c t) (hostWo m c)
/-- The second half. -/
def dysT (c : Dev nD) (t : Fin cfg0.N) : FVec Ideal S256x512 .f32 :=
  k0_pay26 (dxT m c t) (dhT m c t) (k0_pay17 (xT m c t)) (k0_pay18 (xT m c t)) (k0_pay19 (aT m c t)) (g1T m c t) (hostWo m c)

/-- The blocks the first point stores. -/
theorem first_blocks (c : Dev nD) (t : Fin cfg0.N) (h : t.val % 32 = 0) :
    (first m c t h).dx = gradT m c t ∧ (first m c t h).dya = dyaT m c t ∧ (first m c t h).dys = dysT m c t
      ∧ (first m c t h).act = k0_pay9 (F := Ideal) (guT m c t) ∧ (first m c t h).dgu = dguT m c t
      ∧ (first m c t h).mod = k0_pay20 (F := Ideal) (xT m c t) (aT m c t) (sT m c t) := by
  refine ⟨?_, ?_, ?_, ?_, ?_, ?_⟩ <;> dsimp only [first, runFirst]
  all_goals frame_out
  · rw [copied_wd m c, copied_wga m c, copied_wga m c, copied_wga m c, copied_wga m c, copied_wgb m c, copied_wgb m c, copied_wgb m c, copied_wgb m c]; rfl
  · rw [copied_wd m c, copied_wga m c, copied_wga m c, copied_wga m c, copied_wga m c, copied_wgb m c, copied_wgb m c, copied_wgb m c, copied_wgb m c, copied_wo m c]; rfl
  · rw [copied_wd m c, copied_wga m c, copied_wga m c, copied_wga m c, copied_wga m c, copied_wgb m c, copied_wgb m c, copied_wgb m c, copied_wgb m c, copied_wo m c]; rfl
  · rfl
  · rw [copied_wd m c]; rfl
  · rfl

/-- The blocks a later point stores, over copies that are the host's weights. -/
theorem later_blocks (c : Dev nD) (t : Fin cfg0.N) (h : ¬t.val % 32 = 0) (l : Left Ideal)
    (hl : l.wo = hostWo m c ∧ l.wga = hostWga m c ∧ l.wgb = hostWgb m c ∧ l.wd = hostWd m c) :
    (later m c t h l).dx = gradT m c t ∧ (later m c t h l).dya = dyaT m c t ∧ (later m c t h l).dys = dysT m c t
      ∧ (later m c t h l).act = k0_pay9 (F := Ideal) (guT m c t) ∧ (later m c t h l).dgu = dguT m c t
      ∧ (later m c t h l).mod = k0_pay20 (F := Ideal) (xT m c t) (aT m c t) (sT m c t) := by
  obtain ⟨h0, h1, h2, h3⟩ := hl
  refine ⟨?_, ?_, ?_, ?_, ?_, ?_⟩ <;> dsimp only [later, runLater]
  all_goals frame_out
  · simp only [read_unread_whole, h1, h2, h3]; rfl
  · simp only [read_unread_whole, h0, h1, h2, h3]; rfl
  · simp only [read_unread_whole, h0, h1, h2, h3]; rfl
  · rfl
  · simp only [read_unread_whole, h3]; rfl
  · rfl

/-- The blocks point `t` stores. -/
theorem blocks (c : Dev nD) (t : Fin cfg0.N) :
    (left m c t.val t.isLt).dx = gradT m c t ∧ (left m c t.val t.isLt).dya = dyaT m c t ∧ (left m c t.val t.isLt).dys = dysT m c t
      ∧ (left m c t.val t.isLt).act = k0_pay9 (F := Ideal) (guT m c t) ∧ (left m c t.val t.isLt).dgu = dguT m c t
      ∧ (left m c t.val t.isLt).mod = k0_pay20 (F := Ideal) (xT m c t) (aT m c t) (sT m c t) := by
  by_cases h : t.val % 32 = 0
  · rw [left_first m c t h]; exact first_blocks m c t h
  · rw [left_later m c t h]; exact later_blocks m c t h _ (weights m c _ _)

/-- What point `t` adds to a column of the shift's gradient. -/
def shiftPart (c : Dev nD) (t : Fin cfg0.N) (k : Fin 1024) : EReal := ∑ p, dhT m c t (ix2 p k)

/-- What point `t` adds to a column of the scale's gradient. -/
def scalePart (c : Dev nD) (t : Fin cfg0.N) (k : Fin 1024) : EReal :=
  ∑ p, dhT m c t (ix2 p k) * k0_pay18 (F := Ideal) (xT m c t) (ix2 p k)

theorem shift_add (d : FVec Ideal S256x1024 .f32) (o : Vec Ideal S1x1024 .f32) (k : Fin 1024) :
    k0_pay21 d o (ix2 0 k) = o (ix2 0 k) + ∑ p, d (ix2 p k) := by
  pointwise [k0_pay21]

theorem scale_add (d e : FVec Ideal S256x1024 .f32) (o : Vec Ideal S1x1024 .f32) (k : Fin 1024) :
    k0_pay22 d e o (ix2 0 k) = o (ix2 0 k) + ∑ p, d (ix2 p k) * e (ix2 p k) := by
  pointwise [k0_pay22]

/-- The first point puts its part of the shift's gradient into the top row and zero below. -/
theorem first_shift (c : Dev nD) (t : Fin cfg0.N) (h : t.val % 32 = 0) (y) :
    (left m c t.val t.isLt).shift y = 0 + if (y 0 : ℕ) = 0 then shiftPart m c t (y 1) else 0 := by
  rw [left_first m c t h]; dsimp only [first, runFirst]; frame_out
  rw [Common.canon_top_row, View.readCov_fill _ _ _ _ _ (by decide), View.canon_cons_unit_lit _ _ _ (by decide)]
  rw [copied_wd m c, copied_wga m c, copied_wga m c, copied_wga m c, copied_wga m c, copied_wgb m c, copied_wgb m c, copied_wgb m c, copied_wgb m c]
  split
  · rename_i hy
    obtain ⟨k, rfl⟩ : ∃ k, y = ix2 0 k := ⟨y 1, by idx_ext⟩
    rw [show (ix2 (0 : Fin 8) k : S8x1024.Idx) 1 = k from rfl, shift_add]
    pointwise [k0_pay1]
    rfl
  · pointwise [k0_pay1]

/-- Every later point adds its part of the shift's gradient to the top row. -/
theorem later_shift (c : Dev nD) (t : Fin cfg0.N) (h : ¬t.val % 32 = 0) (y) :
    (left m c t.val t.isLt).shift y
      = (left m c (t.val - 1) (Nat.lt_of_le_of_lt (Nat.sub_le _ _) t.isLt)).shift y + if (y 0 : ℕ) = 0 then shiftPart m c t (y 1) else 0 := by
  obtain ⟨h0, h1, h2, h3⟩ := weights m c (t.val - 1) (Nat.lt_of_le_of_lt (Nat.sub_le _ _) t.isLt)
  rw [left_later m c t h]; dsimp only [later, runLater]; frame_out
  rw [Common.read_top_row]
  simp only [read_unread_whole, h1, h2, h3]
  split
  · rename_i hy
    obtain ⟨k, rfl⟩ : ∃ k, y = ix2 0 k := ⟨y 1, by idx_ext⟩
    rw [show (ix2 (0 : Fin 8) k : S8x1024.Idx) 1 = k from rfl, shift_add]
    pointwise []
    rfl
  · rw [add_zero]
    exact congrFun (Memref.IsWhole.read_unread _ _) y

/-- The first point puts its part of the scale's gradient into the top row and zero below. -/
theorem first_scale (c : Dev nD) (t : Fin cfg0.N) (h : t.val % 32 = 0) (y) :
    (left m c t.val t.isLt).prod y = 0 + if (y 0 : ℕ) = 0 then scalePart m c t (y 1) else 0 := by
  rw [left_first m c t h]; dsimp only [first, runFirst]; frame_out
  rw [Common.canon_top_row, View.readCov_fill _ _ _ _ _ (by decide), View.canon_cons_unit_lit _ _ _ (by decide)]
  rw [copied_wd m c, copied_wga m c, copied_wga m c, copied_wga m c, copied_wga m c, copied_wgb m c, copied_wgb m c, copied_wgb m c, copied_wgb m c]
  split
  · rename_i hy
    obtain ⟨k, rfl⟩ : ∃ k, y = ix2 0 k := ⟨y 1, by idx_ext⟩
    rw [show (ix2 (0 : Fin 8) k : S8x1024.Idx) 1 = k from rfl, scale_add]
    pointwise [k0_pay2]
    rfl
  · pointwise [k0_pay2]

/-- Every later point adds its part of the scale's gradient to the top row. -/
theorem later_scale (c : Dev nD) (t : Fin cfg0.N) (h : ¬t.val % 32 = 0) (y) :
    (left m c t.val t.isLt).prod y
      = (left m c (t.val - 1) (Nat.lt_of_le_of_lt (Nat.sub_le _ _) t.isLt)).prod y + if (y 0 : ℕ) = 0 then scalePart m c t (y 1) else 0 := by
  obtain ⟨h0, h1, h2, h3⟩ := weights m c (t.val - 1) (Nat.lt_of_le_of_lt (Nat.sub_le _ _) t.isLt)
  rw [left_later m c t h]; dsimp only [later, runLater]; frame_out
  rw [Common.read_top_row]
  simp only [read_unread_whole, h1, h2, h3]
  split
  · rename_i hy
    obtain ⟨k, rfl⟩ : ∃ k, y = ix2 0 k := ⟨y 1, by idx_ext⟩
    rw [show (ix2 (0 : Fin 8) k : S8x1024.Idx) 1 = k from rfl, scale_add]
    pointwise []
    rfl
  · rw [add_zero]
    exact congrFun (Memref.IsWhole.read_unread _ _) y

end Cert.Mlp.Run

end
-- ==== Proof.Mlp.Args.lean ====
/- The arguments of the gated unit's backward, shared by the two programs, and what each result holds in the form the kernel computes it. -/
module

public import proofs.«01_k».proof.Proof.Mlp.Row

@[expose] public section

noncomputable section

namespace Cert.Mlp

open Idealize.ShloMosaic Cert.InProj

/-- The arrays both programs are given. -/
structure Args where
  x : FVec Ideal (⟨2, ![8192, 1024]⟩ : Shape) .f32
  dx : FVec Ideal (⟨2, ![8192, 1024]⟩ : Shape) .f32
  wo : FVec Ideal (⟨2, ![1024, 1024]⟩ : Shape) .f32
  wgu : FVec Ideal (⟨2, ![1024, 5632]⟩ : Shape) .f32
  wd : FVec Ideal (⟨2, ![2816, 1024]⟩ : Shape) .f32
  gate1 : FVec Ideal (⟨2, ![1, 1024]⟩ : Shape) .f32
  norm : FVec Ideal (⟨2, ![1, 1024]⟩ : Shape) .f32
  scale : FVec Ideal (⟨2, ![1, 1024]⟩ : Shape) .f32
  shift : FVec Ideal (⟨2, ![1, 1024]⟩ : Shape) .f32
  gate2 : FVec Ideal (⟨2, ![1, 1024]⟩ : Shape) .f32

namespace Args

variable (a : Args)

/-- Token `n`. -/
def row (n : Fin 8192) (k : Fin 1024) : EReal := a.x (ix2 n k)

/-- The norm's scale. -/
def gain (k : Fin 1024) : EReal := a.norm (ix2 0 k) * (1 + a.scale (ix2 0 k))

/-- The modulated row `n`. -/
def mod (n : Fin 8192) (k : Fin 1024) : EReal := modulated (a.row n) a.gain (fun l => a.shift (ix2 0 l)) k

/-- The gates and ups of token `n`. -/
def gu (n : Fin 8192) (x : Fin 5632) : EReal := ∑ k, a.mod n k * a.wgu (ix2 k x)

/-- The activation of token `n`. -/
def act (n : Fin 8192) (l : Fin 2816) : EReal := actRow (a.gu n) l

/-- The gradient of the activation of token `n`. -/
def dact (n : Fin 8192) : Fin 2816 → EReal :=
  against (fun k => a.dx (ix2 n k)) (fun k => a.gate2 (ix2 0 k)) (fun l k => a.wd (ix2 l k))

/-- The gradient of the gates and ups of token `n`. -/
def dgu (n : Fin 8192) (x : Fin 5632) : EReal := dguRow (a.gu n) (a.dact n) x

/-- The gradient of the modulated row `n`. -/
def dh (n : Fin 8192) (k : Fin 1024) : EReal := ∑ x, a.dgu n x * a.wgu (ix2 k x)

/-- The gradient of token `n`. -/
def grad (n : Fin 8192) (k : Fin 1024) : EReal := gradRow (a.dx (ix2 n k)) (a.row n) (a.dh n) a.gain k

/-- The gradient of the two mixers' joint output at token `n`. -/
def dmix (n : Fin 8192) : Fin 1024 → EReal := against (a.grad n) (fun k => a.gate1 (ix2 0 k)) (fun l k => a.wo (ix2 l k))

/-- The attention's part of it. -/
def dya (n : Fin 8192) (l : Fin 512) : EReal := a.dmix n ⟨l, Nat.lt_trans l.isLt (by decide)⟩

/-- The state space layer's part of it. -/
def dys (n : Fin 8192) (l : Fin 512) : EReal := a.dmix n ⟨512 + (l : ℕ), Nat.add_lt_add_left l.isLt 512⟩

/-- The shift's gradient, in the top row of eight. -/
def shiftGrad (r : Fin 8) (k : Fin 1024) : EReal := if (r : ℕ) = 0 then ∑ n, a.dh n k else 0

/-- The scale's gradient, in the top row of eight. -/
def scaleGrad (r : Fin 8) (k : Fin 1024) : EReal := if (r : ℕ) = 0 then ∑ n, a.dh n k * (a.row n k * inv (a.row n)) else 0

end Args

end Cert.Mlp

end
-- ==== Proof.Mlp.Array.lean ====
/- The eight arrays the gated layer's backward kernel leaves, as the functions of its arguments. -/
module

public import proofs.«01_k».proof.Proof.Mlp.Block
public import proofs.«01_k».proof.Proof.Mlp.Args
public import Idealize.ShloMosaic.Lib.StableHlo.ReadAt

@[expose] public section

set_option maxRecDepth 16384

noncomputable section

namespace Cert.Mlp.Run

open Cert.MlpBwdIdeal Cert.MlpBwdIdeal.Gen Idealize.ShloMosaic Idealize.ShloMosaic.TcCoe Idealize.SL.Sem Idealize.ShloMosaic.Pipeline

variable (m : (ℓ : Loc nD τ sig) → Buf (Elt Ideal) ℓ)

/-- The arrays the kernel is launched with. -/
def launched (c : Dev nD) : Args where
  x := m ((c : Thread nD τ).loc main_arg0)
  dx := m ((c : Thread nD τ).loc main_arg1)
  wo := m ((c : Thread nD τ).loc main_arg2)
  wgu := m ((c : Thread nD τ).loc main_arg3)
  wd := m ((c : Thread nD τ).loc main_arg4)
  gate1 := m ((c : Thread nD τ).loc main_arg5)
  norm := m ((c : Thread nD τ).loc main_arg6)
  scale := m ((c : Thread nD τ).loc main_arg7)
  shift := m ((c : Thread nD τ).loc main_arg8)
  gate2 := m ((c : Thread nD τ).loc main_arg9)

/-- Every window's block index. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] ∧ win0_14.index t = ![0, 0] :=
  (by decide +kernel : ∀ t : Fin grid0.N, _)

/-- Row `p` of block `t` is a row of the whole array. -/
def token (t : Fin cfg0.N) (p : Fin 256) : Fin 8192 := ⟨t.val * 256 + p.val, by have : t.val < 32 := t.isLt; omega⟩

theorem host_wo (c : Dev nD) (n l : Fin 1024) : hostWo m c (ix2 n l) = (launched m c).wo (ix2 n l) := by
  unfold hostWo
  entry_read
  pointwise [launched]

theorem host_wd (c : Dev nD) (n : Fin 2816) (l : Fin 1024) : hostWd m c (ix2 n l) = (launched m c).wd (ix2 n l) := by
  unfold hostWd
  entry_read
  pointwise [launched]

/-- A chunk of the first half of the weight, as the host cuts it. -/
theorem host_wga (c : Dev nD) (j : Fin 4) (k : Fin 512) (q : Fin 1408) :
    hostWga m c (ix3 j k q) = (launched m c).wgu (ix2 ⟨k, by omega⟩ ⟨j * 1408 + q, by omega⟩) := by
  unfold hostWga launched
  fin_cases j
  all_goals
    after_reads_simp
    pointwise []
    after_reads_simp
    pointwise []

/-- A chunk of the second half of the weight, as the host cuts it. -/
theorem host_wgb (c : Dev nD) (j : Fin 4) (k : Fin 512) (q : Fin 1408) :
    hostWgb m c (ix3 j k q) = (launched m c).wgu (ix2 ⟨512 + k, by omega⟩ ⟨j * 1408 + q, by omega⟩) := by
  unfold hostWgb launched
  fin_cases j
  all_goals
    after_reads_simp
    pointwise []
    after_reads_simp
    pointwise []

/-- The two halves together are the weight of gates and ups. -/
theorem host_weight (c : Dev nD) (k : Fin 1024) (x : Fin 5632) :
    weight (hostWga m c) (hostWgb m c) k x = (launched m c).wgu (ix2 k x) := by
  unfold weight
  split
  · rw [host_wga]
    refine congrArg _ ?_
    idx_ext
  · rw [host_wgb]
    refine congrArg _ ?_
    idx_ext

/-- The norm's scale, as the host prepares it. -/
theorem host_gain (c : Dev nD) (k : Fin 1024) :
    (show FVec Ideal S1x1024 .f32 from V m c main_v2) (ix2 0 k) = (launched m c).gain k := by
  entry_read
  pointwise [Args.gain, launched]

/-- The gates and ups, as the host prepares them. -/
theorem host_gu (c : Dev nD) (n : Fin 8192) (x : Fin 5632) :
    (show FVec Ideal S8192x5632 .bf16 from V m c main_v39) (ix2 n x) = (launched m c).gu n x := by
  unfold launched Args.gu Args.mod InProj.modulated InProj.inv InProj.meanSq Args.row Args.gain
  after_reads_at

theorem x_eq (c : Dev nD) (t : Fin cfg0.N) (p : Fin 256) : (fun k => xT m c t (ix2 p k)) = (launched m c).row (token t p) := by
  funext k
  unfold xT Args.row launched token
  blk_point [iblk, V, idx t]

theorem dx_eq (c : Dev nD) (t : Fin cfg0.N) (p : Fin 256) (k : Fin 1024) : dxT m c t (ix2 p k) = (launched m c).dx (ix2 (token t p) k) := by
  unfold dxT launched token
  blk_point [iblk, V, idx t]

theorem gu_eq (c : Dev nD) (t : Fin cfg0.N) (p : Fin 256) : (fun x => guT m c t (ix2 p x)) = (launched m c).gu (token t p) := by
  funext x
  rw [← host_gu]
  unfold guT token
  blk_point [iblk, idx t]

theorem a_eq (c : Dev nD) (t : Fin cfg0.N) : (fun k => aT m c t (ix2 0 k)) = (launched m c).gain := by
  funext k
  rw [← host_gain]
  unfold aT
  blk_point [iblk, idx t]

theorem s_eq (c : Dev nD) (t : Fin cfg0.N) (k : Fin 1024) : sT m c t (ix2 0 k) = (launched m c).shift (ix2 0 k) := by
  unfold sT launched
  blk_point [iblk, V, idx t]

theorem g1_eq (c : Dev nD) (t : Fin cfg0.N) (k : Fin 1024) : g1T m c t (ix2 0 k) = (launched m c).gate1 (ix2 0 k) := by
  unfold g1T launched
  blk_point [iblk, V, idx t]

theorem g2_eq (c : Dev nD) (t : Fin cfg0.N) (k : Fin 1024) : g2T m c t (ix2 0 k) = (launched m c).gate2 (ix2 0 k) := by
  unfold g2T launched
  blk_point [iblk, V, idx t]

/-- The gradient of gates and ups of a row of block `t`. -/
theorem dgu_eq_row (c : Dev nD) (t : Fin cfg0.N) (p : Fin 256) (l : Fin 5632) : dguT m c t (ix2 p l) = (launched m c).dgu (token t p) l := by
  unfold dguT Args.dgu
  rw [dguTile_at, gu_eq]
  unfold Args.dact
  simp only [dx_eq, g2_eq, host_wd]

/-- The gradient of the modulated row of a row of block `t`. -/
theorem dh_eq_row (c : Dev nD) (t : Fin cfg0.N) (p : Fin 256) (k : Fin 1024) : dhT m c t (ix2 p k) = (launched m c).dh (token t p) k := by
  unfold dhT Args.dh
  rw [dhTile_at]
  refine Finset.sum_congr rfl fun x _ => ?_
  rw [host_weight, ← dgu_eq_row]
  rfl

/-- The gradient of a row of block `t`. -/
theorem grad_eq_row (c : Dev nD) (t : Fin cfg0.N) (p : Fin 256) (k : Fin 1024) : gradT m c t (ix2 p k) = (launched m c).grad (token t p) k := by
  unfold gradT Args.grad
  rw [grad_at, x_eq, a_eq, dx_eq, funext fun k => dh_eq_row m c t p k]

theorem dmix_eq_row (c : Dev nD) (t : Fin cfg0.N) (p : Fin 256) (k : Fin 1024) :
    k0_pay24 (dxT m c t) (dhT m c t) (k0_pay17 (xT m c t)) (k0_pay18 (xT m c t)) (k0_pay19 (aT m c t)) (g1T m c t) (hostWo m c) (ix2 p k)
      = (launched m c).dmix (token t p) k := by
  unfold Args.dmix
  rw [dmix_at]
  congr 1
  · exact funext fun l => grad_eq_row m c t p l
  · exact funext fun l => g1_eq m c t l

theorem dya_eq_row (c : Dev nD) (t : Fin cfg0.N) (p : Fin 256) (k : Fin 512) : dyaT m c t (ix2 p k) = (launched m c).dya (token t p) k := by
  unfold Args.dya
  rw [← dmix_eq_row]
  unfold dyaT k0_pay25
  generalize k0_pay24 (F := Ideal) _ _ _ _ _ _ _ = Z
  pointwise []

theorem dys_eq_row (c : Dev nD) (t : Fin cfg0.N) (p : Fin 256) (k : Fin 512) : dysT m c t (ix2 p k) = (launched m c).dys (token t p) k := by
  unfold Args.dys
  rw [← dmix_eq_row]
  unfold dysT k0_pay26
  generalize k0_pay24 (F := Ideal) _ _ _ _ _ _ _ = Z
  pointwise []

theorem act_eq_row (c : Dev nD) (t : Fin cfg0.N) (p : Fin 256) (l : Fin 2816) :
    k0_pay9 (F := Ideal) (guT m c t) (ix2 p l) = (launched m c).act (token t p) l := by
  unfold Args.act
  rw [act_at, gu_eq]

theorem mod_eq_row (c : Dev nD) (t : Fin cfg0.N) (p : Fin 256) (k : Fin 1024) :
    k0_pay20 (F := Ideal) (xT m c t) (aT m c t) (sT m c t) (ix2 p k) = (launched m c).mod (token t p) k := by
  unfold Args.mod
  rw [mod_at, x_eq, a_eq, funext fun k => s_eq m c t k]

/-- All blocks' rows together are all rows. -/
theorem sum_tokens (f : Fin 8192 → EReal) : ∑ t : Fin cfg0.N, ∑ p : Fin 256, f (token t p) = ∑ n, f n :=
  Fin.sum_mul_add_congr (fun t p h => rfl)

theorem shiftPart_eq (c : Dev nD) (t : Fin cfg0.N) (k : Fin 1024) : shiftPart m c t k = ∑ p, (launched m c).dh (token t p) k :=
  Finset.sum_congr rfl fun p _ => dh_eq_row m c t p k

theorem scalePart_eq (c : Dev nD) (t : Fin cfg0.N) (k : Fin 1024) :
    scalePart m c t k = ∑ p, (launched m c).dh (token t p) k * ((launched m c).row (token t p) k * InProj.inv ((launched m c).row (token t p))) := by
  refine Finset.sum_congr rfl fun p _ => ?_
  rw [dh_eq_row, normed_at, x_eq]
  exact congrArg (fun v => _ * (v * _)) (congrFun (x_eq m c t p) k)

/-! The eight arrays. -/

/-- The tokens' gradient. -/
theorem grad_array (c : Dev nD) : (dats m 0 c).arrAt 7 cfg0.N = fun y : S8192x1024.Idx => (launched m c).grad (y 0) (y 1) := by
  refine (dats m 0 c).arrAt_eq_of_covers 7 _ (by decide +kernel) fun t _ y => ?_
  blk_simp
  rw [after0_7, (blocks m c t).1]
  obtain ⟨p, k, rfl⟩ : ∃ (p : Fin 256) (k : Fin 1024), y = ix2 p k := ⟨y 0, y 1, by idx_ext⟩
  refine (grad_eq_row m c t p k).trans (congrArg₂ _ (Fin.ext ?_) (Fin.ext ?_))
  all_goals blk_simp [idx t, token]

/-- The gradient of the attention's output. -/
theorem dya_array (c : Dev nD) : (dats m 0 c).arrAt 8 cfg0.N = fun y : S8192x512.Idx => (launched m c).dya (y 0) (y 1) := by
  refine (dats m 0 c).arrAt_eq_of_covers 8 _ (by decide +kernel) fun t _ y => ?_
  blk_simp
  rw [after0_8, (blocks m c t).2.1]
  obtain ⟨p, k, rfl⟩ : ∃ (p : Fin 256) (k : Fin 512), y = ix2 p k := ⟨y 0, y 1, by idx_ext⟩
  refine (dya_eq_row m c t p k).trans (congrArg₂ _ (Fin.ext ?_) (Fin.ext ?_))
  all_goals blk_simp [idx t, token]

/-- The gradient of the state space layer's output. -/
theorem dys_array (c : Dev nD) : (dats m 0 c).arrAt 9 cfg0.N = fun y : S8192x512.Idx => (launched m c).dys (y 0) (y 1) := by
  refine (dats m 0 c).arrAt_eq_of_covers 9 _ (by decide +kernel) fun t _ y => ?_
  blk_simp
  rw [after0_9, (blocks m c t).2.2.1]
  obtain ⟨p, k, rfl⟩ : ∃ (p : Fin 256) (k : Fin 512), y = ix2 p k := ⟨y 0, y 1, by idx_ext⟩
  refine (dys_eq_row m c t p k).trans (congrArg₂ _ (Fin.ext ?_) (Fin.ext ?_))
  all_goals blk_simp [idx t, token]

/-- The activations. -/
theorem act_array (c : Dev nD) : (dats m 0 c).arrAt 10 cfg0.N = fun y : S8192x2816.Idx => (launched m c).act (y 0) (y 1) := by
  refine (dats m 0 c).arrAt_eq_of_covers 10 _ (by decide +kernel) fun t _ y => ?_
  blk_simp
  rw [after0_10, (blocks m c t).2.2.2.1]
  obtain ⟨p, k, rfl⟩ : ∃ (p : Fin 256) (k : Fin 2816), y = ix2 p k := ⟨y 0, y 1, by idx_ext⟩
  refine (act_eq_row m c t p k).trans (congrArg₂ _ (Fin.ext ?_) (Fin.ext ?_))
  all_goals blk_simp [idx t, token]

/-- The gradient of gates and ups. -/
theorem dgu_array (c : Dev nD) : (dats m 0 c).arrAt 11 cfg0.N = fun y : S8192x5632.Idx => (launched m c).dgu (y 0) (y 1) := by
  refine (dats m 0 c).arrAt_eq_of_covers 11 _ (by decide +kernel) fun t _ y => ?_
  blk_simp
  rw [after0_11, (blocks m c t).2.2.2.2.1]
  obtain ⟨p, k, rfl⟩ : ∃ (p : Fin 256) (k : Fin 5632), y = ix2 p k := ⟨y 0, y 1, by idx_ext⟩
  refine (dgu_eq_row m c t p k).trans (congrArg₂ _ (Fin.ext ?_) (Fin.ext ?_))
  all_goals blk_simp [idx t, token]

/-- The modulated rows. -/
theorem mod_array (c : Dev nD) : (dats m 0 c).arrAt 12 cfg0.N = fun y : S8192x1024.Idx => (launched m c).mod (y 0) (y 1) := by
  refine (dats m 0 c).arrAt_eq_of_covers 12 _ (by decide +kernel) fun t _ y => ?_
  blk_simp
  rw [after0_12, (blocks m c t).2.2.2.2.2]
  obtain ⟨p, k, rfl⟩ : ∃ (p : Fin 256) (k : Fin 1024), y = ix2 p k := ⟨y 0, y 1, by idx_ext⟩
  refine (mod_eq_row m c t p k).trans (congrArg₂ _ (Fin.ext ?_) (Fin.ext ?_))
  all_goals blk_simp [idx t, token]

/-- The last point. -/
def tLast : Fin cfg0.N := ⟨31, by show 31 < grid0.N; rw [N_0]; decide⟩

/-- The shift's gradient. -/
theorem shift_array (c : Dev nD) : (dats m 0 c).arrAt 13 cfg0.N = fun y : S8x1024.Idx => (launched m c).shiftGrad (y 0) (y 1) := by
  refine (dats m 0 c).arrAt_eq_of_after_last 13 tLast (by decide +kernel) _ fun y => ?_
  blk_simp
  rw [after0_13, Pipeline.eq_sum_fin_of_reset_step_apply_last (fun n h => (left m c n h).shift) 32 (fun _ => 0)
    (fun t y => if (y 0 : ℕ) = 0 then shiftPart m c t (y 1) else 0) (fun t h y => first_shift m c t h y) (fun t h y => later_shift m c t h y)
    (le_of_eq N_0) tLast N_0.symm _, zero_add]
  show (∑ t : Fin cfg0.N, if (y 0 : ℕ) = 0 then shiftPart m c t (y 1) else 0) = if (y 0 : ℕ) = 0 then _ else _
  split
  · rw [← sum_tokens]
    exact Finset.sum_congr rfl fun t _ => shiftPart_eq m c t _
  · exact Finset.sum_const_zero

/-- The scale's gradient. -/
theorem scale_array (c : Dev nD) : (dats m 0 c).arrAt 14 cfg0.N = fun y : S8x1024.Idx => (launched m c).scaleGrad (y 0) (y 1) := by
  refine (dats m 0 c).arrAt_eq_of_after_last 14 tLast (by decide +kernel) _ fun y => ?_
  blk_simp
  rw [after0_14, Pipeline.eq_sum_fin_of_reset_step_apply_last (fun n h => (left m c n h).prod) 32 (fun _ => 0)
    (fun t y => if (y 0 : ℕ) = 0 then scalePart m c t (y 1) else 0) (fun t h y => first_scale m c t h y) (fun t h y => later_scale m c t h y)
    (le_of_eq N_0) tLast N_0.symm _, zero_add]
  show (∑ t : Fin cfg0.N, if (y 0 : ℕ) = 0 then scalePart m c t (y 1) else 0) = if (y 0 : ℕ) = 0 then _ else _
  split
  · rw [← sum_tokens]
    exact Finset.sum_congr rfl fun t _ => scalePart_eq m c t _
  · exact Finset.sum_const_zero

end Cert.Mlp.Run

end
-- ==== Proof.Mlp.Equation.lean ====
/- On finite arguments the gradient of the gates in the form the reference differentiates it equals the form the kernel computes. -/
module

public import proofs.«01_k».proof.Proof.InProj.Equation
public import proofs.«01_k».proof.Proof.Mlp.Args

@[expose] public section

noncomputable section

namespace Cert.Mlp

open Idealize.ShloMosaic Cert.InProj Cert.Common

/-- A number that is not infinite. -/
def Finite (x : EReal) : Prop := ∃ r : ℝ, x = r

theorem Finite.add {x y : EReal} : Finite x → Finite y → Finite (x + y) := fun ⟨a, ha⟩ ⟨b, hb⟩ => ⟨a + b, by rw [ha, hb, EReal.coe_add]⟩

theorem Finite.mul {x y : EReal} : Finite x → Finite y → Finite (x * y) := fun ⟨a, ha⟩ ⟨b, hb⟩ => ⟨a * b, by rw [ha, hb, EReal.coe_mul]⟩

theorem Finite.one : Finite 1 := ⟨1, rfl⟩

theorem Finite.sum {ι : Type} [Fintype ι] {f : ι → EReal} (h : ∀ i, Finite (f i)) : Finite (∑ i, f i) := by
  choose g hg using h
  exact ⟨∑ i, g i, by rw [coe_sum]; exact Finset.sum_congr rfl fun i _ => hg i⟩

/-- A finite row's reciprocal root mean square is finite. -/
theorem finite_inv {X : Fin 1024 → EReal} (h : ∀ k, Finite (X k)) : Finite (inv X) := by
  obtain ⟨e, he, hs⟩ := small_eq
  choose x hx using h
  obtain ⟨z, hz0, hz⟩ : ∃ z : ℝ, 0 < z ∧ meanSq X = z := by
    refine ⟨(∑ l, x l * x l) * 1024⁻¹ + e, add_pos_of_nonneg_of_pos (mul_nonneg (Finset.sum_nonneg fun l _ => _root_.mul_self_nonneg _) (by norm_num)) he, ?_⟩
    rw [meanSq, width_eq, div_coe _ width_ne, hs, EReal.coe_add, EReal.coe_mul, coe_sum]
    simp only [hx, EReal.coe_mul]
  exact ⟨(Real.sqrt z)⁻¹, by unfold InProj.inv; rw [hz, rsqrt_coe hz0]⟩

/-- The logistic function of a finite number is finite. -/
theorem finite_sig {v : EReal} : Finite v → Finite (logistic v) := fun ⟨r, hr⟩ => by
  have hp : (1 + Real.exp (-r)) ≠ 0 := (add_pos one_pos (Real.exp_pos _)).ne'
  refine ⟨1 * (1 + Real.exp (-r))⁻¹, ?_⟩
  rw [hr, logistic]
  show Ideal.div 1 (((1 : ℝ) : EReal) + ((Real.exp (-r) : ℝ) : EReal)) = _
  rw [← EReal.coe_add, div_coe _ hp, EReal.coe_mul, EReal.coe_one]

/-- The gate's two parts, the logistic's own and the one through the gate, collected into one factor. -/
theorem gate_grad {X v : EReal} (hX : Finite X) (hv : Finite v) :
    X * logistic v + v * X * (logistic v * (1 - logistic v)) = X * (logistic v * (1 + v * (1 - logistic v))) := by
  obtain ⟨s, hs⟩ := finite_sig hv
  obtain ⟨x, rfl⟩ := hX
  obtain ⟨r, rfl⟩ := hv
  rw [hs, ← EReal.coe_one]
  simp only [← EReal.coe_mul, ← EReal.coe_sub, ← EReal.coe_add]
  refine congrArg _ ?_
  ring

/-- Every element of every argument is finite. -/
structure Args.Fine (a : Args) : Prop where
  x (n : Fin 8192) (k : Fin 1024) : Finite (a.x (ix2 n k))
  dx (n : Fin 8192) (k : Fin 1024) : Finite (a.dx (ix2 n k))
  wgu (k : Fin 1024) (x : Fin 5632) : Finite (a.wgu (ix2 k x))
  wd (l : Fin 2816) (k : Fin 1024) : Finite (a.wd (ix2 l k))
  norm (k : Fin 1024) : Finite (a.norm (ix2 0 k))
  scale (k : Fin 1024) : Finite (a.scale (ix2 0 k))
  shift (k : Fin 1024) : Finite (a.shift (ix2 0 k))
  gate2 (k : Fin 1024) : Finite (a.gate2 (ix2 0 k))

variable {a : Args} (h : a.Fine)

include h

theorem finite_gu (n : Fin 8192) (x : Fin 5632) : Finite (a.gu n x) :=
  Finite.sum fun k => ((((h.x n k).mul (finite_inv fun l => h.x n l)).mul ((h.norm k).mul (Finite.one.add (h.scale k)))).add (h.shift k)).mul (h.wgu k x)

theorem finite_dact (n : Fin 8192) (l : Fin 2816) : Finite (a.dact n l) :=
  Finite.sum fun k => ((h.dx n k).mul (h.gate2 k)).mul (h.wd l k)

/-- The gradient of the gates and ups as the reference differentiates it: each half laid beside zeros, and the two added. -/
theorem dgu_eq (n : Fin 8192) (x : Fin 5632) :
    a.dgu n x
      = (if hx : (x : ℕ) < 2816 then
          a.dact n ⟨x, hx⟩ * upOf (a.gu n) ⟨x, hx⟩ * logistic (gateOf (a.gu n) ⟨x, hx⟩)
            + gateOf (a.gu n) ⟨x, hx⟩ * (a.dact n ⟨x, hx⟩ * upOf (a.gu n) ⟨x, hx⟩) * (logistic (gateOf (a.gu n) ⟨x, hx⟩) * (1 - logistic (gateOf (a.gu n) ⟨x, hx⟩)))
        else a.dact n ⟨(x : ℕ) - 2816, by omega⟩
          * (gateOf (a.gu n) ⟨(x : ℕ) - 2816, by omega⟩ * logistic (gateOf (a.gu n) ⟨(x : ℕ) - 2816, by omega⟩))) := by
  unfold Args.dgu dguRow
  split
  · exact (gate_grad ((finite_dact h n _).mul (finite_gu h n _)) (finite_gu h n _)).symm
  · rfl

end Cert.Mlp

end
-- ==== Proof.Mlp.Ref.lean ====
/- What the reference's backward of the gated unit computes, at an index. -/
module

public import proofs.«01_k».proof.Proof.Gen.MlpRefIdeal.Read
public import proofs.«01_k».proof.Proof.InProj.Equation
public import proofs.«01_k».proof.Proof.InProj.Ref
public import proofs.«01_k».proof.Proof.Mlp.Equation

@[expose] public section

set_option maxRecDepth 16384

noncomputable section

namespace Cert.Mlp

open Cert.InProj Cert.MlpRefIdeal Cert.MlpRefIdeal.Gen Cert.MlpRefIdeal.Read Idealize.ShloMosaic Idealize.ShloMosaic.TcCoe Idealize.SL.Sem

/-- A modulated row. -/
theorem ref_modulated (a : Args) (n : Fin 8192) (k : Fin 1024) :
    val_main_v16 (F := Ideal) a.x a.norm a.scale a.shift (ix2 n k) = a.mod n k := by
  pointwise [val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_2]
  rfl

/-- The modulated row that is stored. -/
theorem ref_mod (a : Args) (n : Fin 8192) (k : Fin 1024) :
    val_main_v105 (F := Ideal) a.x a.norm a.scale a.shift (ix2 n k) = a.mod n k := by
  pointwise [val_main_v105, val_main_v104, val_main_v103, val_main_v102, val_main_v101, val_main_v100, val_main_v99, val_main_v98, val_main_v97, val_main_v96,
    val_main_v95, val_main_v94, val_main_v93, val_main_v92, val_main_v91, val_main_v2, val_main_v1, val_main_v0, val_main_cst, val_main_cst_16, val_main_cst_17,
    val_main_cst_18]
  rfl

/-- The gates and ups. -/
theorem ref_gu (a : Args) (n : Fin 8192) (x : Fin 5632) :
    val_main_v17 (F := Ideal) a.x a.wgu a.norm a.scale a.shift (ix2 n x) = a.gu n x := by
  pointwise [val_main_v17]
  simp only [ref_modulated, Args.gu]

/-- The gates. -/
theorem ref_gate (a : Args) (n : Fin 8192) (l : Fin 2816) :
    val_main_v18 (F := Ideal) a.x a.wgu a.norm a.scale a.shift (ix2 n l) = gateOf (a.gu n) l := by
  refine Eq.trans ?_ (ref_gu a n ⟨l, Nat.lt_trans l.isLt (by decide)⟩)
  pointwise [val_main_v18]

/-- The ups. -/
theorem ref_up (a : Args) (n : Fin 8192) (l : Fin 2816) :
    val_main_v20 (F := Ideal) a.x a.wgu a.norm a.scale a.shift (ix2 n l) = upOf (a.gu n) l := by
  refine Eq.trans ?_ (ref_gu a n ⟨2816 + (l : ℕ), Nat.add_lt_add_left l.isLt 2816⟩)
  pointwise [val_main_v20]

/-- The gates' logistic. -/
theorem ref_logistic (a : Args) (n : Fin 8192) (l : Fin 2816) :
    val_main_v19_2 (F := Ideal) a.x a.wgu a.norm a.scale a.shift (ix2 n l) = logistic (gateOf (a.gu n) l) := by
  pointwise [val_main_v19_2, val_main_call0_v4, val_main_call0_v3, val_main_call0_v2, val_main_call0_v1, val_main_call0_v0, val_main_call0_cst,
    val_main_call0_cst_0]
  rw [ref_gate]
  rfl

/-- The stored activation. -/
theorem ref_act (a : Args) (n : Fin 8192) (l : Fin 2816) :
    val_main_v89 (F := Ideal) a.x a.wgu a.norm a.scale a.shift (ix2 n l) = a.act n l := by
  have hg : val_main_v85 (F := Ideal) a.x a.wgu a.norm a.scale a.shift (ix2 n l) = gateOf (a.gu n) l := ref_gate a n l
  have hu : val_main_v87 (F := Ideal) a.x a.wgu a.norm a.scale a.shift (ix2 n l) = upOf (a.gu n) l := ref_up a n l
  pointwise [val_main_v89, val_main_v88, val_main_v86, val_main_call2_v5, val_main_call2_v4, val_main_call2_v3, val_main_call2_v2, val_main_call2_v1,
    val_main_call2_v0, val_main_call2_cst, val_main_call2_cst_0]
  rw [hg, hu]
  rfl

/-- The gradient of the activation. -/
theorem ref_dact (a : Args) (n : Fin 8192) (l : Fin 2816) :
    val_main_v27 (F := Ideal) a.dx a.wd a.gate2 (ix2 n l) = a.dact n l := by
  pointwise [val_main_v27, val_main_v26, val_main_v25]
  exact Finset.sum_congr rfl fun k _ => congrArg (· * _) (mul_comm _ _)

section

variable {a : Args} (h : a.Fine)

include h

/-- The gradient of the gates and ups. -/
theorem ref_dgu (n : Fin 8192) (x : Fin 5632) :
    val_main_v33 (F := Ideal) a.x a.dx a.wgu a.wd a.norm a.scale a.shift a.gate2 (ix2 n x) = a.dgu n x := by
  rw [dgu_eq h]
  pointwise [val_main_v33, val_main_v32, val_main_v31, val_main_v30, val_main_v29, val_main_v28, val_main_cst_3, val_main_cst_4, val_main_call1_v2,
    val_main_call1_v1, val_main_call1_v0, val_main_v19_1, val_main_v19_0, val_main_call0_v7, val_main_call0_v6, val_main_call0_cst_1]
  simp only [ref_gate, ref_up, ref_logistic, ref_dact]
  by_cases hx : (x : ℕ) < 2816
  · rw [dif_neg (by omega), dif_pos hx, dif_pos hx, zero_add]
  · rw [dif_pos (by omega), dif_neg hx, dif_neg hx, add_zero, mul_comm]

/-- The gradient of the modulated row. -/
theorem ref_dh (n : Fin 8192) (k : Fin 1024) :
    val_main_v52 (F := Ideal) a.x a.dx a.wgu a.wd a.norm a.scale a.shift a.gate2 (ix2 n k) = a.dh n k := by
  pointwise [val_main_v52]
  simp only [ref_dgu h, Args.dh]

omit h in
/-- A normed token. -/
theorem ref_norm (a : Args) (n : Fin 8192) (k : Fin 1024) :
    val_main_v46 (F := Ideal) a.x (ix2 n k) = a.row n k * inv (a.row n) := by
  pointwise [val_main_v46, val_main_v45, val_main_v41, val_main_v40, val_main_v39, val_main_v38, val_main_v37, val_main_v36, val_main_v35, val_main_v34,
    val_main_cst_5, val_main_cst_6, val_main_cst_7]
  rfl

/-- The shift's gradient, with seven rows of zeros below. -/
theorem ref_shift (r : Fin 8) (k : Fin 1024) :
    val_main_v106 (F := Ideal) a.x a.dx a.wgu a.wd a.norm a.scale a.shift a.gate2 (ix2 r k) = a.shiftGrad r k := by
  pointwise [val_main_v106, val_main_v82, val_main_cst_15, val_main_v54, val_main_v53, val_main_cst_9]
  simp only [ref_dh h, Args.shiftGrad, dite_eq_ite, Nat.lt_one_iff]

/-- The scale's gradient, with seven rows of zeros below. -/
theorem ref_scale (r : Fin 8) (k : Fin 1024) :
    val_main_v107 (F := Ideal) a.x a.dx a.wgu a.wd a.norm a.scale a.shift a.gate2 (ix2 r k) = a.scaleGrad r k := by
  pointwise [val_main_v107, val_main_v82, val_main_cst_15, val_main_v57, val_main_v56, val_main_v55, val_main_cst_10]
  simp only [ref_dh h, ref_norm, Args.scaleGrad, dite_eq_ite, Nat.lt_one_iff, mul_comm]

/-- The tokens' gradient. -/
theorem ref_grad (n : Fin 8192) (k : Fin 1024) :
    val_main_v74 (F := Ideal) a.x a.dx a.wgu a.wd a.norm a.scale a.shift a.gate2 (ix2 n k) = a.grad n k := by
  pointwise [val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_v44, val_main_v43, val_main_v42, val_main_v41,
    val_main_v40, val_main_v38, val_main_v39, val_main_v37, val_main_v36, val_main_v35, val_main_v34, val_main_v2, val_main_v1, val_main_v0, val_main_cst,
    val_main_cst_5, val_main_cst_6, val_main_cst_7, val_main_cst_8, val_main_cst_11, val_main_cst_12, val_main_cst_13]
  simp only [ref_dh h, Finset.univ_unique, Finset.sum_singleton]
  exact (grad_eq (a.dx (ix2 n k)) (a.row n) (a.dh n) a.gain k).symm

/-- The gradient of the two mixers' joint output. -/
theorem ref_dmix (n : Fin 8192) (l : Fin 1024) :
    val_main_v81 (F := Ideal) a.x a.dx a.wo a.wgu a.wd a.gate1 a.norm a.scale a.shift a.gate2 (ix2 n l) = a.dmix n l := by
  pointwise [val_main_v81, val_main_v80, val_main_v79]
  simp only [ref_grad h]
  exact Finset.sum_congr rfl fun k _ => congrArg (· * _) (mul_comm _ _)

/-- The attention's part of it. -/
theorem ref_dya (n : Fin 8192) (l : Fin 512) :
    val_main_v83 (F := Ideal) a.x a.dx a.wo a.wgu a.wd a.gate1 a.norm a.scale a.shift a.gate2 (ix2 n l) = a.dya n l := by
  refine Eq.trans ?_ (ref_dmix h n ⟨l, Nat.lt_trans l.isLt (by decide)⟩)
  pointwise [val_main_v83]

/-- The state space layer's part of it. -/
theorem ref_dys (n : Fin 8192) (l : Fin 512) :
    val_main_v84 (F := Ideal) a.x a.dx a.wo a.wgu a.wd a.gate1 a.norm a.scale a.shift a.gate2 (ix2 n l) = a.dys n l := by
  refine Eq.trans ?_ (ref_dmix h n ⟨512 + (l : ℕ), Nat.add_lt_add_left l.isLt 512⟩)
  pointwise [val_main_v84]

theorem grad_of : val_main_v74 (F := Ideal) a.x a.dx a.wgu a.wd a.norm a.scale a.shift a.gate2 = fun y : S8192x1024.Idx => a.grad (y 0) (y 1) := array_ext (ref_grad h)

theorem dya_of : val_main_v83 (F := Ideal) a.x a.dx a.wo a.wgu a.wd a.gate1 a.norm a.scale a.shift a.gate2 = fun y : S8192x512.Idx => a.dya (y 0) (y 1) := array_ext (ref_dya h)

theorem dys_of : val_main_v84 (F := Ideal) a.x a.dx a.wo a.wgu a.wd a.gate1 a.norm a.scale a.shift a.gate2 = fun y : S8192x512.Idx => a.dys (y 0) (y 1) := array_ext (ref_dys h)

theorem dgu_of : val_main_v90 (F := Ideal) a.x a.dx a.wgu a.wd a.norm a.scale a.shift a.gate2 = fun y : S8192x5632.Idx => a.dgu (y 0) (y 1) := array_ext (ref_dgu h)

theorem shift_of : val_main_v106 (F := Ideal) a.x a.dx a.wgu a.wd a.norm a.scale a.shift a.gate2 = fun y : S8x1024.Idx => a.shiftGrad (y 0) (y 1) := array_ext (ref_shift h)

theorem scale_of : val_main_v107 (F := Ideal) a.x a.dx a.wgu a.wd a.norm a.scale a.shift a.gate2 = fun y : S8x1024.Idx => a.scaleGrad (y 0) (y 1) := array_ext (ref_scale h)

end

/-- The arrays the reference is launched with. -/
def given (m : (ℓ : Loc nD τ sig) → Buf (Elt Ideal) ℓ) (c : Dev nD) : Args where
  x := m ((c : Thread nD τ).loc main_arg0)
  dx := m ((c : Thread nD τ).loc main_arg1)
  wo := m ((c : Thread nD τ).loc main_arg2)
  wgu := m ((c : Thread nD τ).loc main_arg3)
  wd := m ((c : Thread nD τ).loc main_arg4)
  gate1 := m ((c : Thread nD τ).loc main_arg5)
  norm := m ((c : Thread nD τ).loc main_arg6)
  scale := m ((c : Thread nD τ).loc main_arg7)
  shift := m ((c : Thread nD τ).loc main_arg8)
  gate2 := m ((c : Thread nD τ).loc main_arg9)

section

variable {m : (ℓ : Loc nD τ sig) → Buf (Elt Ideal) ℓ} {c : Dev nD} (h : (given m c).Fine)

include h

theorem res_grad : Value.res_main_v74 m c = fun y : S8192x1024.Idx => (given m c).grad (y 0) (y 1) := by
  rw [val_main_v74_eq]
  exact grad_of (a := given m c) h

theorem res_dya : Value.res_main_v83 m c = fun y : S8192x512.Idx => (given m c).dya (y 0) (y 1) := by
  rw [val_main_v83_eq]
  exact dya_of (a := given m c) h

theorem res_dys : Value.res_main_v84 m c = fun y : S8192x512.Idx => (given m c).dys (y 0) (y 1) := by
  rw [val_main_v84_eq]
  exact dys_of (a := given m c) h

theorem res_dgu : Value.res_main_v90 m c = fun y : S8192x5632.Idx => (given m c).dgu (y 0) (y 1) := by
  rw [val_main_v90_eq]
  exact dgu_of (a := given m c) h

theorem res_shift : Value.res_main_v106 m c = fun y : S8x1024.Idx => (given m c).shiftGrad (y 0) (y 1) := by
  rw [val_main_v106_eq]
  exact shift_of (a := given m c) h

theorem res_scale : Value.res_main_v107 m c = fun y : S8x1024.Idx => (given m c).scaleGrad (y 0) (y 1) := by
  rw [val_main_v107_eq]
  exact scale_of (a := given m c) h

end

/-- Launched with finite arrays, the reference ends with these results and with its arguments as they were. -/
theorem ref_run (m : (ℓ : Loc nD τ sig) → Buf (Elt Ideal) ℓ) (g : Dev nD → PrngReg) (h : ∀ c, (given m c).Fine) :
    θ_run defs (onTc (τ := τ) (main (F := Ideal))) ⟨m, fun _ => 0, g⟩ fun r => ∀ c : Dev nD,
      r.2.mem ((c.tc : Thread nD τ).loc main_v74) = (fun y : S8192x1024.Idx => (given m c).grad (y 0) (y 1))
      ∧ r.2.mem ((c.tc : Thread nD τ).loc main_v83) = (fun y : S8192x512.Idx => (given m c).dya (y 0) (y 1))
      ∧ r.2.mem ((c.tc : Thread nD τ).loc main_v84) = (fun y : S8192x512.Idx => (given m c).dys (y 0) (y 1))
      ∧ r.2.mem ((c.tc : Thread nD τ).loc main_v89) = (fun y : S8192x2816.Idx => (given m c).act (y 0) (y 1))
      ∧ r.2.mem ((c.tc : Thread nD τ).loc main_v90) = (fun y : S8192x5632.Idx => (given m c).dgu (y 0) (y 1))
      ∧ r.2.mem ((c.tc : Thread nD τ).loc main_v105) = (fun y : S8192x1024.Idx => (given m c).mod (y 0) (y 1))
      ∧ r.2.mem ((c.tc : Thread nD τ).loc main_v106) = (fun y : S8x1024.Idx => (given m c).shiftGrad (y 0) (y 1))
      ∧ r.2.mem ((c.tc : Thread nD τ).loc main_v107) = (fun y : S8x1024.Idx => (given m c).scaleGrad (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r hr c => by
    obtain ⟨h0, h1, h2, h3, h4, h5, h6, h7, hargs⟩ := hr c
    exact ⟨h0.trans (res_grad (h c)), h1.trans (res_dya (h c)), h2.trans (res_dys (h c)),
      h3.trans ((val_main_v89_eq _ _ _ _ _).trans (array_ext (ref_act (given m c)))), h4.trans (res_dgu (h c)),
      h5.trans ((val_main_v105_eq _ _ _ _).trans (array_ext (ref_mod (given m c)))), h6.trans (res_shift (h c)), h7.trans (res_scale (h c)),
      hargs⟩) (Value.run m g)

end Cert.Mlp

end
-- ==== Proof.Mlp.Pre.lean ====
/- What the precondition says: every element of the arguments it names is finite. -/
module

public import proofs.«01_k».proof.Pre_mlp_finite
public import proofs.«01_k».proof.Proof.Mlp.Equation
public import Idealize.ShloMosaic.Lib.ReduceAll
public import Idealize.ShloMosaic.Lib.WordCmp

@[expose] public section

set_option maxRecDepth 16384

noncomputable section

namespace Cert.Mlp

open Idealize.ShloMosaic Cert.Pre_mlp_finite Cert.Pre_mlp_finite.Facts

/-- A number whose absolute value is below infinity is finite. -/
theorem finite_of_below {x : EReal} (h : Ideal.cmp .olt (max x (-x)) (Ideal.ofBits .f32 0x7F800000#32) = 1#1) : Finite x := by
  rw [show Ideal.ofBits .f32 0x7F800000#32 = (⊤ : EReal) by simp [Ideal.ofBits, Ideal.ieee]] at h
  induction x with
  | bot => simp [Ideal.cmp] at h
  | top => simp [Ideal.cmp] at h
  | coe r => exact ⟨r, rfl⟩

/-- One array's part of the precondition gives each of its elements. -/
theorem finite_of_all {s : Shape} (hb : S_.BroadcastsInDim s (![] : Fin 0 → Fin s.rank)) {axes} (hr : s.ReducesTo axes S_) (hu : 0 < S_.numel)
    (x : FVec Ideal s .f32) {j : S_.Idx}
    (h : Host.reduce IntOp.andi (cmpf .olt (Host.absf x) (broadcastInDim s ![] hb (constant (F := Ideal) S_ .f32 0x7F800000#32))) (constantI S_ 1 1#1) hr hu j = 1#1)
    (i : s.Idx) : Finite (x i) := by
  haveI : Subsingleton S_.Idx := ⟨fun p q => funext fun b => b.elim0⟩
  exact finite_of_below (Host.reduce_andi_all _ _ _ _ j h i)

/-- A conjunction holds when both sides do. -/
theorem both {x y : IVec S_ 1} {j : S_.Idx} (h : andi x y j = 1#1) : x j = 1#1 ∧ y j = 1#1 := IntOp.andi_eq_one.1 h

variable [Cert.Pre_mlp_finite.Facts]

theorem pre_fine (a : Args)
    (h : fn (F := Ideal) a.x a.dx a.wo a.wgu a.wd a.gate1 a.norm a.scale a.shift a.gate2 = fun _ => 1#1) : a.Fine := by
  have h := congrFun h (fun b => b.elim0)
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact {
    x := fun n k => finite_of_all _ _ _ _ h0 _
    dx := fun n k => finite_of_all _ _ _ _ h1 _
    wgu := fun n k => finite_of_all _ _ _ _ h2 _
    wd := fun n k => finite_of_all _ _ _ _ h3 _
    norm := fun k => finite_of_all _ _ _ _ h4 _
    scale := fun k => finite_of_all _ _ _ _ h5 _
    shift := fun k => finite_of_all _ _ _ _ h6 _
    gate2 := fun k => finite_of_all _ _ _ _ h7 _ }

end Cert.Mlp

end
-- ==== Proof.Mlp.Claim.lean ====
/- The gated unit's backward: the kernel and the reference, launched with the same finite arrays, end with equal results. -/
module

public import proofs.«01_k».proof.Defs
public import proofs.«01_k».proof.Proof.Mlp.Same
public import proofs.«01_k».proof.Proof.Gen.MlpRefIdeal.Run
public import proofs.«01_k».proof.Proof.Mlp.Array
public import proofs.«01_k».proof.Proof.Mlp.Ref
public import proofs.«01_k».proof.Proof.Mlp.Pre
public import Idealize.ShloMosaic.Lib.Claim

@[expose] public section

noncomputable section

namespace Cert.Mlp

open Cert.MlpBwdIdeal Idealize.ShloMosaic Idealize.SL.Sem

theorem frame_ideal : Cert.quiescent_MlpBwdIdeal := fun m g _ => Run.frame m g

/-- The kernel's own program is the same text, so its frame is the one run read at the machine's floats. -/
theorem frame_kernel : Cert.quiescent_MlpBwd := fun m g _ => by
  rw [defs_same, main_same]
  exact Run.frame (F := Bits) m g

theorem ref_frame : Cert.quiescent_MlpRefIdeal := fun m g _ =>
  (θ_run _ _ _).mono (fun r h => ⟨fun c => (h c).2.2.2.2.2.2.2.2, sem_eq_zero_of_no_sems (by decide) r.2⟩) (Cert.MlpRefIdeal.Value.run m g)

variable [Cert.Pre_mlp_finite.Facts]

theorem agree : Cert.algebraic_MlpBwdIdeal_MlpRefIdeal_pre_mlp_finite := by
  intro m g m' g' hpre hargs
  have he (c) : given m' c = Run.launched m c := by
    obtain ⟨h0, h1, h2, h3, h4, h5, h6, h7, h8, h9⟩ := hargs c
    unfold given Run.launched
    congr 1
  have hf (c) : (given m' c).Fine := by
    rw [he c]
    exact pre_fine _ (hpre c)
  refine ⟨fun c => (fun y : S8192x1024.Idx => (Run.launched m c).grad (y 0) (y 1)), fun c => (fun y : S8192x512.Idx => (Run.launched m c).dya (y 0) (y 1)), fun c => (fun y : S8192x512.Idx => (Run.launched m c).dys (y 0) (y 1)), fun c => (fun y : S8192x2816.Idx => (Run.launched m c).act (y 0) (y 1)), fun c => (fun y : S8192x5632.Idx => (Run.launched m c).dgu (y 0) (y 1)), fun c => (fun y : S8192x1024.Idx => (Run.launched m c).mod (y 0) (y 1)), fun c => (fun y : S8x1024.Idx => (Run.launched m c).shiftGrad (y 0) (y 1)), fun c => (fun y : S8x1024.Idx => (Run.launched m c).scaleGrad (y 0) (y 1)),
    (θ_run _ _ _).mono (fun r h c => ?_) (Run.run m g),
    (θ_run _ _ _).mono (fun r h c => ?_) (ref_run m' g' hf)⟩
  · obtain ⟨h0, h1, h2, h3, h4, h5, h6, h7, hkept⟩ := h c
    exact ⟨h0.trans (Run.grad_array m c), h1.trans (Run.dya_array m c), h2.trans (Run.dys_array m c), h3.trans (Run.act_array m c), h4.trans (Run.dgu_array m c), h5.trans (Run.mod_array m c), h6.trans (Run.shift_array m c), h7.trans (Run.scale_array m c), hkept⟩
  · have hc := h c
    rw [he c] at hc
    exact hc

end Cert.Mlp

end
-- ==== Proof.Fwd.Same.lean ====
/- The kernel's program and its reading over the reals are one text: every part of the one is the same part of the other, so one run serves both. -/
module

public import proofs.«01_k».proof.Proof.Gen.MlpFwd
public import proofs.«01_k».proof.Proof.Gen.MlpFwdIdeal

@[expose] public section
set_option maxRecDepth 16384
set_option maxHeartbeats 1000000

noncomputable section

namespace Cert.Fwd

open Idealize.ShloMosaic Idealize.SL.Sem

variable {F : FTy → Type} [FloatOps F]

theorem body_same : @Cert.MlpFwd.cc0_mlp_fwd F _ _ = @Cert.MlpFwdIdeal.cc0_mlp_fwd F _ _ := by
  delta Cert.MlpFwd.cc0_mlp_fwd Cert.MlpFwdIdeal.cc0_mlp_fwd; rfl

theorem calls_same : @Cert.MlpFwd.defs₀ F _ _ = @Cert.MlpFwdIdeal.defs₀ F _ _ := by
  delta Cert.MlpFwd.defs₀ Cert.MlpFwdIdeal.defs₀
  rw [body_same]
  exact congrArg Defs.onTc (funext fun l => match l with
    | 0 => funext fun ⟨t, s⟩ => rfl
    | ⟨n + 1, h⟩ => absurd h (Nat.not_lt.2 (Nat.le_add_left _ _)))

theorem defs_same : @Cert.MlpFwd.defs F _ _ = @Cert.MlpFwdIdeal.defs F _ _ := by
  delta Cert.MlpFwd.defs
  rw [calls_same]
  rfl

theorem main_same : @Cert.MlpFwd.main F _ _ = @Cert.MlpFwdIdeal.main F _ _ := by
  delta Cert.MlpFwd.main Cert.MlpFwdIdeal.main
  rfl

end Cert.Fwd

end
-- ==== Proof.Fwd.Left.lean ====
/- What the forward kernel of the gated layer leaves in its buffers after each of its 16 points: in the five output blocks and in the four
   arrays that the first point copies the weights into. Over any float values. -/
module

public import proofs.«01_k».proof.Proof.Gen.MlpFwdIdeal.Frame.RunB
public import Idealize.ShloMosaic.Lib.Claim

@[expose] public section

set_option maxRecDepth 16384

noncomputable section

namespace Cert.Fwd.Run

open Cert.MlpFwdIdeal Cert.MlpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point leaves: its five output blocks and the four copied weights. -/
structure Left (F : FTy → Type) where
  /-- The stream after the attention half. -/
  x1 : Vec F S512x1024 .f32
  /-- Gates and ups. -/
  gu : Vec F S512x5632 .bf16
  /-- The gradient at the stream that leaves the layer. -/
  dx : Vec F S512x1024 .f32
  /-- The running loss. -/
  loss : Vec F S8x128 .f32
  /-- The running gradient of the final norm's weight. -/
  last : Vec F S8x1024 .f32
  /-- The output projection, as copied. -/
  wo : Vec F S1024x1024 .bf16
  /-- The first chunks of gates and ups, as copied. -/
  wga : Vec F S4x512x1408 .bf16
  /-- The last chunks of gates and ups, as copied. -/
  wgb : Vec F S4x512x1408 .bf16
  /-- The down projection, as copied. -/
  wd : Vec F S2816x1024 .bf16

/-- The run of the body at the first point: the stores it makes, with the proof that it makes them. -/
def runFirst (c : Dev nD) (t : Fin cfg0.N) (h : t.val % 16 = 0) :=
  kernelRun0_A c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t)
    (hs0_13 t) scM0_0 (Memref.isWhole_whole _) scM0_1 (Memref.isWhole_whole _) scM0_2 (Memref.isWhole_whole _) scM0_3 (Memref.isWhole_whole _)
    ((hcond0_0 t).mpr h) ((hcond0_1 t).mpr h) (iblk m c 0 t) (iblk m c 1 t) (iblk m c 2 t) (iblk m c 3 t) (iblk m c 4 t) (iblk m c 5 t) (iblk m c
    6 t) (iblk m c 7 t) (iblk m c 8 t) (V m c main_v21) (V m c main_v11) (V m c main_v20) (V m c main_v22)

/-- The run of the body at a later point, over the sums and the weights that the point before left. -/
def runLater (c : Dev nD) (t : Fin cfg0.N) (h : ¬t.val % 16 = 0) (l : Left F) :=
  kernelRun0_B c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t)
    (hs0_13 t) scM0_0 (Memref.isWhole_whole _) scM0_1 (Memref.isWhole_whole _) scM0_2 (Memref.isWhole_whole _) scM0_3 (Memref.isWhole_whole _)
    (fun e => h ((hcond0_0 t).mp e)) (fun e => h ((hcond0_1 t).mp e)) (iblk m c 0 t) (iblk m c 1 t) (iblk m c 2 t) (iblk m c 3 t) (iblk m c 4 t)
    (iblk m c 5 t) (iblk m c 6 t) (iblk m c 7 t) (iblk m c 8 t) l.loss l.last l.wo l.wga l.wgb l.wd (V m c main_v21) (V m c main_v11) (V m c
    main_v20) (V m c main_v22)

/-! Every block that a run stores is stored whole. -/

theorem first_x1_covers (c : Dev nD) (t : Fin cfg0.N) (h : t.val % 16 = 0) (y : S512x1024.Idx) : ∃ pc ∈ (runFirst m c t h).1, y ∈ pc.1.set :=
  View.cover_of_tiledL (runFirst m c t h).1 S256x1024.size (by sl_kernel_rfl) y

theorem first_gu_covers (c : Dev nD) (t : Fin cfg0.N) (h : t.val % 16 = 0) (y : S512x5632.Idx) : ∃ pc ∈ (runFirst m c t h).2.1, y ∈ pc.1.set :=
  View.cover_of_tiledL (runFirst m c t h).2.1 S256x5632.size (by sl_kernel_rfl) y

theorem first_dx_covers (c : Dev nD) (t : Fin cfg0.N) (h : t.val % 16 = 0) (y : S512x1024.Idx) : ∃ pc ∈ (runFirst m c t h).2.2.1, y ∈ pc.1.set :=
  View.cover_of_tiledL (runFirst m c t h).2.2.1 S256x1024.size (by sl_kernel_rfl) y

theorem first_loss_covers (c : Dev nD) (t : Fin cfg0.N) (h : t.val % 16 = 0) (y : S8x128.Idx) : ∃ pc ∈ (runFirst m c t h).2.2.2.1, y ∈ pc.1.set :=
  View.cover_of_tiledL (runFirst m c t h).2.2.2.1 S8x128.size (by sl_kernel_rfl) y

theorem first_last_covers (c : Dev nD) (t : Fin cfg0.N) (h : t.val % 16 = 0) (y : S8x1024.Idx) : ∃ pc ∈ (runFirst m c t h).2.2.2.2.1, y ∈ pc.1.set :=
  View.cover_of_tiledBy (runFirst m c t h).2.2.2.2.1 ![1, 1024] (by sl_kernel_rfl) y

theorem first_wo_covers (c : Dev nD) (t : Fin cfg0.N) (h : t.val % 16 = 0) (y : S1024x1024.Idx) : ∃ pc ∈ (runFirst m c t h).2.2.2.2.2.1, y ∈ pc.1.set :=
  View.cover_of_tiledL (runFirst m c t h).2.2.2.2.2.1 S1024x1024.size (by sl_kernel_rfl) y

theorem first_wga_covers (c : Dev nD) (t : Fin cfg0.N) (h : t.val % 16 = 0) (y : S4x512x1408.Idx) : ∃ pc ∈ (runFirst m c t h).2.2.2.2.2.2.1, y ∈ pc.1.set :=
  View.cover_of_tiledL (runFirst m c t h).2.2.2.2.2.2.1 S4x512x1408.size (by sl_kernel_rfl) y

theorem first_wgb_covers (c : Dev nD) (t : Fin cfg0.N) (h : t.val % 16 = 0) (y : S4x512x1408.Idx) : ∃ pc ∈ (runFirst m c t h).2.2.2.2.2.2.2.1, y ∈ pc.1.set :=
  View.cover_of_tiledL (runFirst m c t h).2.2.2.2.2.2.2.1 S4x512x1408.size (by sl_kernel_rfl) y

theorem first_wd_covers (c : Dev nD) (t : Fin cfg0.N) (h : t.val % 16 = 0) (y : S2816x1024.Idx) : ∃ pc ∈ (runFirst m c t h).2.2.2.2.2.2.2.2.1, y ∈ pc.1.set :=
  View.cover_of_tiledL (runFirst m c t h).2.2.2.2.2.2.2.2.1 S2816x1024.size (by sl_kernel_rfl) y

theorem later_x1_covers (c : Dev nD) (t : Fin cfg0.N) (h : ¬t.val % 16 = 0) (l : Left F) (y : S512x1024.Idx) : ∃ pc ∈ (runLater m c t h l).1, y ∈ pc.1.set :=
  View.cover_of_tiledL (runLater m c t h l).1 S256x1024.size (by sl_kernel_rfl) y

theorem later_gu_covers (c : Dev nD) (t : Fin cfg0.N) (h : ¬t.val % 16 = 0) (l : Left F) (y : S512x5632.Idx) : ∃ pc ∈ (runLater m c t h l).2.1, y ∈ pc.1.set :=
  View.cover_of_tiledL (runLater m c t h l).2.1 S256x5632.size (by sl_kernel_rfl) y

theorem later_dx_covers (c : Dev nD) (t : Fin cfg0.N) (h : ¬t.val % 16 = 0) (l : Left F) (y : S512x1024.Idx) : ∃ pc ∈ (runLater m c t h l).2.2.1, y ∈ pc.1.set :=
  View.cover_of_tiledL (runLater m c t h l).2.2.1 S256x1024.size (by sl_kernel_rfl) y

theorem later_loss_covers (c : Dev nD) (t : Fin cfg0.N) (h : ¬t.val % 16 = 0) (l : Left F) (y : S8x128.Idx) : ∃ pc ∈ (runLater m c t h l).2.2.2.1, y ∈ pc.1.set :=
  View.cover_of_tiledL (runLater m c t h l).2.2.2.1 S8x128.size (by sl_kernel_rfl) y

/-- What the first point leaves. -/
def first (c : Dev nD) (t : Fin cfg0.N) (h : t.val % 16 = 0) : Left F where
  x1 := VO0_9.read (Elt F) (VO0_9.writes (Elt F) VO0_9.junk (runFirst m c t h).1)
  gu := VO0_10.read (Elt F) (VO0_10.writes (Elt F) VO0_10.junk (runFirst m c t h).2.1)
  dx := VO0_11.read (Elt F) (VO0_11.writes (Elt F) VO0_11.junk (runFirst m c t h).2.2.1)
  loss := VO0_12.read (Elt F) (VO0_12.writes (Elt F) VO0_12.junk (runFirst m c t h).2.2.2.1)
  last := VO0_13.read (Elt F) (VO0_13.writes (Elt F) VO0_13.junk (runFirst m c t h).2.2.2.2.1)
  wo := VS0_0.read (Elt F) (VS0_0.writes (Elt F) VS0_0.junk (runFirst m c t h).2.2.2.2.2.1)
  wga := VS0_1.read (Elt F) (VS0_1.writes (Elt F) VS0_1.junk (runFirst m c t h).2.2.2.2.2.2.1)
  wgb := VS0_2.read (Elt F) (VS0_2.writes (Elt F) VS0_2.junk (runFirst m c t h).2.2.2.2.2.2.2.1)
  wd := VS0_3.read (Elt F) (VS0_3.writes (Elt F) VS0_3.junk (runFirst m c t h).2.2.2.2.2.2.2.2.1)

/-- What a later point leaves, over what the point before left. -/
def later (c : Dev nD) (t : Fin cfg0.N) (h : ¬t.val % 16 = 0) (l : Left F) : Left F where
  x1 := VO0_9.read (Elt F) (VO0_9.writes (Elt F) VO0_9.junk (runLater m c t h l).1)
  gu := VO0_10.read (Elt F) (VO0_10.writes (Elt F) VO0_10.junk (runLater m c t h l).2.1)
  dx := VO0_11.read (Elt F) (VO0_11.writes (Elt F) VO0_11.junk (runLater m c t h l).2.2.1)
  loss := VO0_12.read (Elt F) (VO0_12.writes (Elt F) VO0_12.junk (runLater m c t h l).2.2.2.1)
  last := (ms0_13 t).view.read (Elt F) ((ms0_13 t).view.writes (Elt F) ((hs0_13 t).unread l.last) (runLater m c t h l).2.2.2.2.1)
  wo := l.wo
  wga := l.wga
  wgb := l.wgb
  wd := l.wd

/-- What the buffers hold after point `n`. -/
def left (c : Dev nD) : (n : ℕ) → n < cfg0.N → Left F
  | 0, hn => first m c ⟨0, hn⟩ (Nat.zero_mod _)
  | n + 1, hn =>
    if h : (n + 1) % 16 = 0 then first m c ⟨n + 1, hn⟩ h
    else later m c ⟨n + 1, hn⟩ h (left c n (Nat.lt_of_succ_lt hn))

theorem left_first (c : Dev nD) (t : Fin cfg0.N) (h : t.val % 16 = 0) : left m c t.val t.isLt = first m c t h := by
  obtain ⟨n, hn⟩ := t
  cases n with
  | zero => exact rfl
  | succ n => exact dif_pos h

theorem left_later (c : Dev nD) (t : Fin cfg0.N) (h : ¬t.val % 16 = 0) :
    left m c t.val t.isLt = later m c t h (left m c (t.val - 1) (Nat.lt_of_le_of_lt (Nat.sub_le _ _) t.isLt)) := by
  obtain ⟨n, hn⟩ := t
  cases n with
  | zero => exact absurd (Nat.zero_mod _) h
  | succ n => exact dif_neg h

end Cert.Fwd.Run

end
-- ==== Proof.Fwd.Frame.lean ====
/- The run of the forward kernel of the gated layer: every run ends, with what `left` says in the result arrays and the arguments unchanged.
   Over any float values, so that it serves the kernel and its reading over the reals alike. -/
module

public import proofs.«01_k».proof.Proof.Fwd.Left
public import Idealize.ShloMosaic.Lib.Claim

@[expose] public section

set_option maxRecDepth 16384

noncomputable section

namespace Cert.Fwd.Run

open Cert.MlpFwdIdeal Cert.MlpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point starts from: before the first one any contents of the copied weights, later the weights as the point before left them;
    with them the register of the generator, the counters of the copies at zero and the weights in the large memory. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((left m c n hn).wo) ∗ owns (c : Thread nD τ) scM0_1 fullShare ((left m c n hn).wga) ∗ owns (c : Thread nD τ) scM0_2 fullShare ((left m c n hn).wgb) ∗ owns (c : Thread nD τ) scM0_3 fullShare ((left m c n hn).wd)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v21) ∗ hbPt0 c hbM0_1 (V m c main_v11) ∗ hbPt0 c hbM0_2 (V m c main_v20) ∗ hbPt0 c hbM0_3 (V m c main_v22)))

theorem PhiS_zero (c : Dev nD) (n : ℕ) (h : n ≤ cfg0.N) (hz : n = 0) : PhiS m c n h = Pipeline.ΦD osem0 spec0 H0 (V m) c := by
  subst hz; rfl

/-- After point `n` the copied weights are what that point left. -/
theorem PhiS_succ (c : Dev nD) (n : ℕ) (hn : n < cfg0.N) :
    PhiS m c (n + 1) hn = iprop(iprop(owns (c : Thread nD τ) scM0_0 fullShare ((left m c n hn).wo) ∗ owns (c : Thread nD τ) scM0_1 fullShare ((left m c n hn).wga) ∗ owns (c : Thread nD τ) scM0_2 fullShare ((left m c n hn).wgb) ∗ owns (c : Thread nD τ) scM0_3 fullShare ((left m c n hn).wd)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v21) ∗ hbPt0 c hbM0_1 (V m c main_v11) ∗ hbPt0 c hbM0_2 (V m c main_v20) ∗ hbPt0 c hbM0_3 (V m c main_v22))) := rfl

/-- Before a point that is not the first they are what the point before left. -/
theorem PhiS_pos (c : Dev nD) (n : ℕ) (h : n ≤ cfg0.N) (hz : n ≠ 0) :
    PhiS m c n h = iprop(iprop(owns (c : Thread nD τ) scM0_0 fullShare ((left m c (n - 1) (by omega)).wo) ∗ owns (c : Thread nD τ) scM0_1 fullShare ((left m c (n - 1) (by omega)).wga) ∗ owns (c : Thread nD τ) scM0_2 fullShare ((left m c (n - 1) (by omega)).wgb) ∗ owns (c : Thread nD τ) scM0_3 fullShare ((left m c (n - 1) (by omega)).wd)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v21) ∗ hbPt0 c hbM0_1 (V m c main_v11) ∗ hbPt0 c hbM0_2 (V m c main_v20) ∗ hbPt0 c hbM0_3 (V m c main_v22))) := by
  cases n with
  | zero => exact absurd rfl hz
  | succ n => rfl

/-- The proof data: each array as the pipeline finds it, each input block in place and each output block at what `left` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (left m c t.val t.isLt).x1
    | ⟨10, _⟩ => (left m c t.val t.isLt).gu
    | ⟨11, _⟩ => (left m c t.val t.isLt).dx
    | ⟨12, _⟩ => (left m c t.val t.isLt).loss
    | ⟨13, _⟩ => (left m c t.val t.isLt).last
  Φ t := PhiS m c t.val (Nat.le_of_lt_succ t.isLt)
  q _ := fullShare
  owed _ := 0

/-- The arrays of the proof data are the arrays as the pipeline finds them. -/
theorem A_eq (c : Dev nD) (w : Fin cfg0.W) : (dats m 0 c).A w = V m c (Pipeline.arrRef spec0 w) := by
  dsimp only [dats]

/-- What a point starts from, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What is left in each block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (left m c t.val t.isLt).x1 := by dsimp only [dats]
theorem after0_10 (c : Dev nD) (t : Fin cfg0.N) : (dats m 0 c).after 10 t = (left m c t.val t.isLt).gu := by dsimp only [dats]
theorem after0_11 (c : Dev nD) (t : Fin cfg0.N) : (dats m 0 c).after 11 t = (left m c t.val t.isLt).dx := by dsimp only [dats]
theorem after0_12 (c : Dev nD) (t : Fin cfg0.N) : (dats m 0 c).after 12 t = (left m c t.val t.isLt).loss := by dsimp only [dats]
theorem after0_13 (c : Dev nD) (t : Fin cfg0.N) : (dats m 0 c).after 13 t = (left m c t.val t.isLt).last := by dsimp only [dats]

/-- Each input block is in place at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a later point the loss still holds what the point before left. -/
theorem before0_12_B (c : Dev nD) (t : Fin cfg0.N) (h0 : ¬t.val % 16 = 0) (d) :
    (dats m 0 c).before 12 t d = (left m c (t.val - 1) (Nat.lt_of_le_of_lt (Nat.sub_le _ _) t.isLt)).loss := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
/-- At a later point the final norm's gradient still holds what the point before left. -/
theorem before0_13_B (c : Dev nD) (t : Fin cfg0.N) (h0 : ¬t.val % 16 = 0) (d) :
    (dats m 0 c).before 13 t d = (left m c (t.val - 1) (Nat.lt_of_le_of_lt (Nat.sub_le _ _) t.isLt)).last := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
/-- The body at any point: it finds its input blocks, the sums and the weights of the point before, and leaves what `left` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · have hz : t.val = 0 := by omega
    rw [PhiS_castSucc m c t, PhiS_zero m c _ _ hz, PhiD0_eq]
    rw [left_first m c t h0]
    dsimp only [first]
    iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runFirst m c t h0).2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, ⟨%e9, H9⟩, ⟨%e10, H10⟩, ⟨%e11, H11⟩, ⟨%e12, H12⟩, ⟨%e13, H13⟩, ⟨%es0, HS0⟩, ⟨%es1, HS1⟩, ⟨%es2, HS2⟩, ⟨%es3, HS3⟩, Hq0, Hq1, Hq2, Hq3, Hh0, Hh1, Hh2, Hh3, ⟨%W', HW'⟩⟩
    isplitl [HS0 HS1 HS2 HS3 Hg Hq0 Hq1 Hq2 Hq3 Hh0 Hh1 Hh2 Hh3]
    · isplitl [HS0 HS1 HS2 HS3]
      · isplitl [HS0]
        · unfold owns; iexists _; isplitr
          swap; · iexact HS0
          ipureintro; exact View.read_writes_of_cover _ _ _ _ _ (first_wo_covers m c t h0)
        isplitl [HS1]
        · unfold owns; iexists _; isplitr
          swap; · iexact HS1
          ipureintro; exact View.read_writes_of_cover _ _ _ _ _ (first_wga_covers m c t h0)
        isplitl [HS2]
        · unfold owns; iexists _; isplitr
          swap; · iexact HS2
          ipureintro; exact View.read_writes_of_cover _ _ _ _ _ (first_wgb_covers m c t h0)
        unfold owns; iexists _; isplitr
        swap; · iexact HS3
        ipureintro; exact View.read_writes_of_cover _ _ _ _ _ (first_wd_covers m c t h0)
      isplitl [Hg]
      · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (first_x1_covers m c t h0)
    isplitl [H10]
    · unfold owns; iexists _; isplitr
      swap; · iexact H10
      ipureintro; exact View.read_writes_of_cover _ _ _ _ _ (first_gu_covers m c t h0)
    isplitl [H11]
    · unfold owns; iexists _; isplitr
      swap; · iexact H11
      ipureintro; exact View.read_writes_of_cover _ _ _ _ _ (first_dx_covers m c t h0)
    isplitl [H12]
    · unfold owns; iexists _; isplitr
      swap; · iexact H12
      ipureintro; exact View.read_writes_of_cover _ _ _ _ _ (first_loss_covers m c t h0)
    unfold owns; iexists _; isplitr
    swap; · iexact H13
    ipureintro; exact View.read_writes_of_cover _ _ _ _ _ (first_last_covers m c t h0)
  · have hz : t.val ≠ 0 := by rintro h; omega
    rw [PhiS_castSucc m c t, PhiS_pos m c _ _ hz]
    rw [left_later m c t h0]
    simp only [before0_12_B m c t h0, before0_13_B m c t h0]
    dsimp only [later]
    iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runLater m c t h0 (left m c (t.val - 1) (Nat.lt_of_le_of_lt (Nat.sub_le _ _) t.isLt))).2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, ⟨%e9, H9⟩, ⟨%e10, H10⟩, ⟨%e11, H11⟩, ⟨%e12, H12⟩, H13, HS0, HS1, HS2, HS3, Hq0, Hq1, Hq2, Hq3, Hh0, Hh1, Hh2, Hh3, ⟨%W', HW'⟩⟩
    isplitl [HS0 HS1 HS2 HS3 Hg Hq0 Hq1 Hq2 Hq3 Hh0 Hh1 Hh2 Hh3]
    · isplitl [HS0 HS1 HS2 HS3]
      · isplitl [HS0]; · iexact HS0
        isplitl [HS1]; · iexact HS1
        isplitl [HS2]; · iexact HS2
        iexact HS3
      isplitl [Hg]
      · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (later_x1_covers m c t h0 _)
    isplitl [H10]
    · unfold owns; iexists _; isplitr
      swap; · iexact H10
      ipureintro; exact View.read_writes_of_cover _ _ _ _ _ (later_gu_covers m c t h0 _)
    isplitl [H11]
    · unfold owns; iexists _; isplitr
      swap; · iexact H11
      ipureintro; exact View.read_writes_of_cover _ _ _ _ _ (later_dx_covers m c t h0 _)
    isplitl [H12]
    · unfold owns; iexists _; isplitr
      swap; · iexact H12
      ipureintro; exact View.read_writes_of_cover _ _ _ _ _ (later_loss_covers m c t h0 _)
    unfold owns; iexists _; isplitr
    swap; · iexact H13
    ipureintro; rfl

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body does at every point what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what the first point starts from. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point what the launch wants back can be given. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2, Hq3⟩, ⟨Hh0, Hh1, Hh2, Hh3⟩⟩
  isplitl [HS0 HS1 HS2 HS3]
  · isplitl [HS0]
    · iexists _; iexact HS0
    isplitl [HS1]
    · iexists _; iexact HS1
    isplitl [HS2]
    · iexists _; iexact HS2
    iexists _; iexact HS3
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
/-- Every run ends with the arrays as the proof data say and with all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run ends with the arrays as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

/-- Every run ends with the five result arrays at what the proof data say and with the arguments as they were. -/
theorem run : θ_run defs (onTc (τ := τ) (main (F := F))) ⟨m, fun _ => 0, ρ⟩ (fun r => ∀ c : Dev nD,
      r.2.mem ((c.tc : Thread nD τ).loc main_v27_0) = (dats m 0 c).arrAt 9 cfg0.N
      ∧ r.2.mem ((c.tc : Thread nD τ).loc main_v27_1) = (dats m 0 c).arrAt 10 cfg0.N
      ∧ r.2.mem ((c.tc : Thread nD τ).loc main_v27_2) = (dats m 0 c).arrAt 11 cfg0.N
      ∧ r.2.mem ((c.tc : Thread nD τ).loc main_v27_3) = (dats m 0 c).arrAt 12 cfg0.N
      ∧ r.2.mem ((c.tc : Thread nD τ).loc main_v27_4) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h.1 c).1 9, (h.1 c).1 10, (h.1 c).1 11, (h.1 c).1 12, (h.1 c).1 13, h.2 c⟩)
    (θ_run_and (run_main m ρ) (unchanged m ρ))

end Cert.Fwd.Run

end
-- ==== Proof.Fwd.Args.lean ====
/- The arguments of the gated layer's forward with the loss at its end, shared by the two programs, and what each result holds in the form the kernel
   computes it. -/
module

public import proofs.«01_k».proof.Proof.Mlp.Row

@[expose] public section

noncomputable section

namespace Cert.Fwd

open Idealize.ShloMosaic Cert.InProj Cert.Mlp

/-- One over the length of a row, as the kernel writes it. -/
abbrev unit : EReal := Ideal.ofBits .f32 0x3A800000#32

/-- One over twice the length of a row, as the kernel writes it. -/
abbrev halfUnit : EReal := Ideal.ofBits .f32 0x3A000000#32

/-- The arrays both programs are given. -/
structure Args where
  x : FVec Ideal (⟨2, ![8192, 1024]⟩ : Shape) .f32
  ya : FVec Ideal (⟨2, ![8192, 512]⟩ : Shape) .bf16
  ys : FVec Ideal (⟨2, ![8192, 512]⟩ : Shape) .bf16
  target : FVec Ideal (⟨2, ![8192, 1024]⟩ : Shape) .f32
  wo : FVec Ideal (⟨2, ![1024, 1024]⟩ : Shape) .f32
  wgu : FVec Ideal (⟨2, ![1024, 5632]⟩ : Shape) .f32
  wd : FVec Ideal (⟨2, ![2816, 1024]⟩ : Shape) .f32
  gate1 : FVec Ideal (⟨2, ![1, 1024]⟩ : Shape) .f32
  norm : FVec Ideal (⟨2, ![1, 1024]⟩ : Shape) .f32
  scale : FVec Ideal (⟨2, ![1, 1024]⟩ : Shape) .f32
  shift : FVec Ideal (⟨2, ![1, 1024]⟩ : Shape) .f32
  gate2 : FVec Ideal (⟨2, ![1, 1024]⟩ : Shape) .f32
  final : FVec Ideal (⟨1, ![1024]⟩ : Shape) .f32

namespace Args

variable (a : Args)

/-- The output projection of the two mixers at token `n`: the attention's rows of the weight, then the state space layer's. -/
def mix (n : Fin 8192) (k : Fin 1024) : EReal :=
  (∑ l : Fin 512, a.ya (ix2 n l) * a.wo (ix2 ⟨l, by omega⟩ k)) + ∑ l : Fin 512, a.ys (ix2 n l) * a.wo (ix2 ⟨512 + (l : ℕ), by omega⟩ k)

/-- Token `n` after the mixers. -/
def mid (n : Fin 8192) (k : Fin 1024) : EReal := a.x (ix2 n k) + a.gate1 (ix2 0 k) * a.mix n k

/-- The norm's scale. -/
def gain (k : Fin 1024) : EReal := a.norm (ix2 0 k) * (1 + a.scale (ix2 0 k))

/-- The modulated row `n`. -/
def mod (n : Fin 8192) (k : Fin 1024) : EReal := modulated (a.mid n) a.gain (fun l => a.shift (ix2 0 l)) k

/-- The gates and ups of token `n`. -/
def gu (n : Fin 8192) (x : Fin 5632) : EReal := ∑ k, a.mod n k * a.wgu (ix2 k x)

/-- Token `n` after the gated layer. -/
def out (n : Fin 8192) (k : Fin 1024) : EReal := a.mid n k + a.gate2 (ix2 0 k) * ∑ l, actRow (a.gu n) l * a.wd (ix2 l k)

/-- The last norm's gain. -/
def last (k : Fin 1024) : EReal := a.final (ix1 k)

/-- How far the normed token is from its target. -/
def err (n : Fin 8192) (k : Fin 1024) : EReal := a.out n k * inv (a.out n) * a.last k - a.target (ix2 n k)

/-- The loss: half the mean of the squared differences of each token, over all tokens. -/
def loss : EReal := ∑ n, (∑ k, a.err n k * a.err n k) * halfUnit

/-- The gradient of the normed token. -/
def dy (n : Fin 8192) (k : Fin 1024) : EReal := a.err n k * unit

/-- The gradient of token `n` after the gated layer. -/
def dout (n : Fin 8192) (k : Fin 1024) : EReal := gradRow 0 (a.out n) (a.dy n) a.last k

/-- The gradient of the last norm's gain, in the top row of eight. -/
def lastGrad (r : Fin 8) (k : Fin 1024) : EReal := if (r : ℕ) = 0 then ∑ n, a.dy n k * (a.out n k * inv (a.out n)) else 0

end Args

end Cert.Fwd

end
-- ==== Proof.Fwd.Tile.lean ====
/- What the gated layer's forward kernel computes of a tile of 256 tokens, at an index. A point holds two tiles and works on them side by side; the two
   are computed by the same operations, cut differently, and come to the same rows. -/
module

public import proofs.«01_k».proof.Proof.Fwd.Frame
public import proofs.«01_k».proof.Proof.Fwd.Args
public import proofs.«01_k».proof.Proof.Mlp.Tile

@[expose] public section

set_option maxRecDepth 16384

noncomputable section

namespace Cert.Fwd.Run

open Cert.MlpFwdIdeal Cert.MlpFwdIdeal.Gen Idealize.ShloMosaic Idealize.ShloMosaic.TcCoe Idealize.SL.Sem Idealize.ShloMosaic.Pipeline
open Cert.Mlp
open Cert.Mlp.Run (chunk chunk_at weight zero_sub')

/-! The tokens after the mixers, normed and modulated. -/

section Mid

variable (ya ys : FVec Ideal S256x512 .bf16) (woa wob : FVec Ideal S512x1024 .bf16) (x : FVec Ideal S256x1024 .f32) (g1 a s : FVec Ideal S1x1024 .f32)

/-- Row `p` of a tile after the mixers. -/
def midRow (p : Fin 256) (k : Fin 1024) : EReal :=
  x (ix2 p k) + g1 (ix2 0 k) * ((∑ l : Fin 512, ya (ix2 p l) * woa (ix2 l k)) + ∑ l : Fin 512, ys (ix2 p l) * wob (ix2 l k))

/-- Row `p` of a tile, modulated. -/
def modRow (p : Fin 256) (k : Fin 1024) : EReal :=
  InProj.modulated (midRow ya ys woa wob x g1 p) (fun k => a (ix2 0 k)) (fun k => s (ix2 0 k)) k

theorem midA_at (p : Fin 256) (k : Fin 1024) : k0_pay6 (F := Ideal) ya woa ys wob x g1 (ix2 p k) = midRow ya ys woa wob x g1 p k := by
  pointwise [k0_pay6]
  rfl

theorem midB_at (p : Fin 256) (k : Fin 1024) : k0_pay16 (F := Ideal) (k0_pay10 ya woa ys wob) x g1 (ix2 p k) = midRow ya ys woa wob x g1 p k := by
  pointwise [k0_pay16, k0_pay10]
  rfl

theorem modA_at (p : Fin 256) (k : Fin 1024) :
    k0_pay9 (F := Ideal) (k0_pay7 ya woa ys wob x g1) (k0_pay8 a) s (ix2 p k) = modRow ya ys woa wob x g1 a s p k := by
  have h := midA_at ya ys woa wob x g1
  unfold k0_pay7
  generalize k0_pay6 (F := Ideal) ya woa ys wob x g1 = Z at h
  pointwise [k0_pay9, k0_pay8]
  simp only [h]
  rfl

theorem modB_at (p : Fin 256) (k : Fin 1024) :
    k0_pay18 (F := Ideal) (k0_pay16 (k0_pay10 ya woa ys wob) x g1) (k0_pay17 (k0_pay10 ya woa ys wob) x g1) a s (ix2 p k) = modRow ya ys woa wob x g1 a s p k := by
  have h := midB_at ya ys woa wob x g1
  unfold k0_pay17
  generalize k0_pay16 (F := Ideal) (k0_pay10 ya woa ys wob) x g1 = Z at h
  pointwise [k0_pay18]
  simp only [h]
  rfl

end Mid

/-! Gates and ups. -/

section GateUp

variable (wga wgb : FVec Ideal S4x512x1408 .bf16)

/-- Row `M` times a column of the weight, whose upper rows come from the first half and lower rows from the second. -/
theorem sum_weight (M : Fin 1024 → EReal) (x : Fin 5632) (j : Fin 4) (q : Fin 1408) (hx : (x : ℕ) = 1408 * j + q) :
    ∑ k, M k * weight wga wgb k x
      = (∑ k : Fin 512, M ⟨k, by omega⟩ * wga (ix3 j k q)) + ∑ k : Fin 512, M ⟨512 + (k : ℕ), by omega⟩ * wgb (ix3 j k q) := by
  rw [show ∑ k, M k * weight wga wgb k x = ∑ k : Fin (512 + 512), M k * weight wga wgb k x from rfl, Fin.sum_univ_add]
  congr 1 <;> refine Finset.sum_congr rfl fun k _ => congrArg₂ (· * ·) (congrArg M rfl) ?_ <;> unfold weight
  · rw [dif_pos (show ((Fin.castAdd 512 k : Fin 1024) : ℕ) < 512 from k.isLt)]
    refine congrArg wga ?_; idx_ext <;> omega
  · rw [dif_neg (show ¬((Fin.natAdd 512 k : Fin 1024) : ℕ) < 512 by simp)]
    refine congrArg wgb ?_; idx_ext <;> simp <;> omega

theorem guA_of (N : FVec Ideal S256x1024 .f32) (a s : FVec Ideal S1x1024 .f32) (p : Fin 256) (x : Fin 5632) :
    k0_pay15 (k0_pay11 N a s) (k0_pay12 N a s)
      (k0_pay13 N a s (chunk wga 0 inb_S4x512x1408_S1x512x1408_0_0_0) (chunk wgb 0 inb_S4x512x1408_S1x512x1408_0_0_0))
      (k0_pay14 N a s (chunk wga 1 inb_S4x512x1408_S1x512x1408_1_0_0) (chunk wgb 1 inb_S4x512x1408_S1x512x1408_1_0_0))
      (chunk wga 2 inb_S4x512x1408_S1x512x1408_2_0_0) (chunk wgb 2 inb_S4x512x1408_S1x512x1408_2_0_0)
      (chunk wga 3 inb_S4x512x1408_S1x512x1408_3_0_0) (chunk wgb 3 inb_S4x512x1408_S1x512x1408_3_0_0) (ix2 p x)
      = ∑ k, k0_pay9 N a s (ix2 p k) * weight wga wgb k x := by
  unfold k0_pay13 k0_pay14 k0_pay11 k0_pay12
  generalize k0_pay9 (F := Ideal) N a s = M
  have c0 (w) (k q) := chunk_at w 0 inb_S4x512x1408_S1x512x1408_0_0_0 (by decide) k q
  have c1 (w) (k q) := chunk_at w 1 inb_S4x512x1408_S1x512x1408_1_0_0 (by decide) k q
  have c2 (w) (k q) := chunk_at w 2 inb_S4x512x1408_S1x512x1408_2_0_0 (by decide) k q
  have c3 (w) (k q) := chunk_at w 3 inb_S4x512x1408_S1x512x1408_3_0_0 (by decide) k q
  pointwise [k0_pay15, c0, c1, c2, c3]
  split
  · rename_i h
    exact (sum_weight wga wgb (fun k => M (ix2 p k)) x 0 ⟨x, h⟩ (by simp)).symm
  split
  · rename_i h
    exact (sum_weight wga wgb (fun k => M (ix2 p k)) x 1 ⟨(x : ℕ) - 1408, h⟩ (by simp; omega)).symm
  split
  · rename_i h
    exact (sum_weight wga wgb (fun k => M (ix2 p k)) x 2 ⟨(x : ℕ) - 1408 - 1408, h⟩ (by simp; omega)).symm
  · exact (sum_weight wga wgb (fun k => M (ix2 p k)) x 3 ⟨(x : ℕ) - 1408 - 1408 - 1408, by omega⟩ (by simp; omega)).symm

theorem guB_of (X : FVec Ideal S256x1024 .f32) (r : FVec Ideal S256x1 .f32) (a s : FVec Ideal S1x1024 .f32) (p : Fin 256) (x : Fin 5632) :
    k0_pay24 (k0_pay20 X r a s) (k0_pay21 X r a s)
      (k0_pay22 X r a s (chunk wga 0 inb_S4x512x1408_S1x512x1408_0_0_0) (chunk wgb 0 inb_S4x512x1408_S1x512x1408_0_0_0))
      (k0_pay23 X r a s (chunk wga 1 inb_S4x512x1408_S1x512x1408_1_0_0)) (chunk wgb 1 inb_S4x512x1408_S1x512x1408_1_0_0)
      (chunk wga 2 inb_S4x512x1408_S1x512x1408_2_0_0) (chunk wgb 2 inb_S4x512x1408_S1x512x1408_2_0_0)
      (chunk wga 3 inb_S4x512x1408_S1x512x1408_3_0_0) (chunk wgb 3 inb_S4x512x1408_S1x512x1408_3_0_0) (ix2 p x)
      = ∑ k, k0_pay18 X r a s (ix2 p k) * weight wga wgb k x := by
  unfold k0_pay22 k0_pay23 k0_pay20 k0_pay21
  generalize k0_pay18 X r a s = M
  have c0 (w) (k q) := chunk_at w 0 inb_S4x512x1408_S1x512x1408_0_0_0 (by decide) k q
  have c1 (w) (k q) := chunk_at w 1 inb_S4x512x1408_S1x512x1408_1_0_0 (by decide) k q
  have c2 (w) (k q) := chunk_at w 2 inb_S4x512x1408_S1x512x1408_2_0_0 (by decide) k q
  have c3 (w) (k q) := chunk_at w 3 inb_S4x512x1408_S1x512x1408_3_0_0 (by decide) k q
  pointwise [k0_pay24, c0, c1, c2, c3]
  split
  · rename_i h
    exact (sum_weight wga wgb (fun k => M (ix2 p k)) x 0 ⟨x, h⟩ (by simp)).symm
  split
  · rename_i h
    exact (sum_weight wga wgb (fun k => M (ix2 p k)) x 1 ⟨(x : ℕ) - 1408, h⟩ (by simp; omega)).symm
  split
  · rename_i h
    exact (sum_weight wga wgb (fun k => M (ix2 p k)) x 2 ⟨(x : ℕ) - 1408 - 1408, h⟩ (by simp; omega)).symm
  · exact (sum_weight wga wgb (fun k => M (ix2 p k)) x 3 ⟨(x : ℕ) - 1408 - 1408 - 1408, by omega⟩ (by simp; omega)).symm

end GateUp

/-! The tokens after the gated layer. -/

section Out

variable (X : FVec Ideal S256x1024 .f32) (G : FVec Ideal S256x5632 .bf16) (wd : FVec Ideal S2816x1024 .bf16) (g2 : FVec Ideal S1x1024 .f32)

/-- Row `p` of a tile after the gated layer, from the tile's rows before it and their gates and ups. -/
def outRow (X : Fin 256 → Fin 1024 → EReal) (G : Fin 256 → Fin 5632 → EReal) (p : Fin 256) (k : Fin 1024) : EReal :=
  X p k + g2 (ix2 0 k) * ∑ l, actRow (G p) l * wd (ix2 l k)

theorem actA_at (p : Fin 256) (l : Fin 2816) : k0_pay19 (F := Ideal) G (ix2 p l) = actRow (fun x => G (ix2 p x)) l := by
  pointwise [k0_pay19, zero_sub']
  rfl

theorem outA_at (p : Fin 256) (k : Fin 1024) :
    k0_pay31 (F := Ideal) X (k0_pay25 (k0_pay19 G) wd) g2 (ix2 p k) = outRow wd g2 (fun p k => X (ix2 p k)) (fun p x => G (ix2 p x)) p k := by
  have h := actA_at G
  generalize k0_pay19 (F := Ideal) G = Z at h ⊢
  pointwise [k0_pay31, k0_pay25]
  simp only [h]
  rfl

theorem actB_at (A B C D E H I J K) (p : Fin 256) (l : Fin 2816) :
    k0_pay30 (F := Ideal) (k0_pay26 A B C D E H I J K) (k0_pay27 A B C D E H I J K) (k0_pay28 A B C D E H I J K) k0_pay29 (ix2 p l)
      = actRow (fun x => k0_pay24 A B C D E H I J K (ix2 p x)) l := by
  unfold k0_pay28 k0_pay26 k0_pay27
  generalize k0_pay24 A B C D E H I J K = Z
  pointwise [k0_pay30, k0_pay29, zero_sub']
  rfl

theorem outB_at (A : FVec Ideal S256x2816 .bf16) (p : Fin 256) (k : Fin 1024) :
    k0_pay43 (F := Ideal) X A wd g2 (ix2 p k) = X (ix2 p k) + g2 (ix2 0 k) * ∑ l, A (ix2 p l) * wd (ix2 l k) := by
  pointwise [k0_pay43]

end Out

/-! The last norm, the loss and the gradient that leaves. -/

section Last

/-- How far a row, normed, is from its target. -/
def errRow (X f T : Fin 1024 → EReal) (k : Fin 1024) : EReal := X k * InProj.inv X * f k - T k

/-- The gradient of the normed row. -/
def dyRow (X f T : Fin 1024 → EReal) (k : Fin 1024) : EReal := errRow X f T k * unit

variable (X FF : FVec Ideal S256x1024 .f32) (A : FVec Ideal S256x2816 .bf16) (wd : FVec Ideal S2816x1024 .bf16) (g2 f : FVec Ideal S1x1024 .f32)
  (T : FVec Ideal S256x1024 .f32)

theorem lossA_of : k0_pay36 (F := Ideal) X FF g2 f T
    = (∑ p, ∑ k, errRow (fun k => k0_pay31 (F := Ideal) X FF g2 (ix2 p k)) (fun k => f (ix2 0 k)) (fun k => T (ix2 p k)) k
        * errRow (fun k => k0_pay31 (F := Ideal) X FF g2 (ix2 p k)) (fun k => f (ix2 0 k)) (fun k => T (ix2 p k)) k) * halfUnit := by
  unfold k0_pay36 k0_pay35 k0_pay33 k0_pay32
  generalize k0_pay31 (F := Ideal) X FF g2 = Z
  pointwise [k0_pay34]

  rfl

theorem lastA_of (k : Fin 1024) : k0_pay38 (F := Ideal) X FF g2 f T (ix2 0 k)
    = ∑ p, dyRow (fun k => k0_pay31 (F := Ideal) X FF g2 (ix2 p k)) (fun k => f (ix2 0 k)) (fun k => T (ix2 p k)) k
        * (k0_pay31 (F := Ideal) X FF g2 (ix2 p k) * InProj.inv fun k => k0_pay31 (F := Ideal) X FF g2 (ix2 p k)) := by
  unfold k0_pay38 k0_pay37 k0_pay35 k0_pay33 k0_pay32
  generalize k0_pay31 (F := Ideal) X FF g2 = Z
  pointwise [k0_pay34]
  rfl

theorem dxA_of (p : Fin 256) (k : Fin 1024) :
    k0_pay42 (F := Ideal) (k0_pay33 X FF g2) (k0_pay40 X FF g2 f T) (k0_pay41 X FF g2 f T) (ix2 p k)
      = InProj.gradRow 0 (fun k => k0_pay31 (F := Ideal) X FF g2 (ix2 p k))
          (dyRow (fun k => k0_pay31 (F := Ideal) X FF g2 (ix2 p k)) (fun k => f (ix2 0 k)) fun k => T (ix2 p k)) (fun k => f (ix2 0 k)) k := by
  unfold k0_pay40 k0_pay41 k0_pay39 k0_pay37 k0_pay35 k0_pay33 k0_pay32 InProj.gradRow
  generalize k0_pay31 (F := Ideal) X FF g2 = Z
  rw [zero_add]
  pointwise [k0_pay42, k0_pay34]
  rfl

theorem lossB_of : k0_pay48 (F := Ideal) X A wd g2 f T
    = (∑ p, ∑ k, errRow (fun k => k0_pay43 (F := Ideal) X A wd g2 (ix2 p k)) (fun k => f (ix2 0 k)) (fun k => T (ix2 p k)) k
        * errRow (fun k => k0_pay43 (F := Ideal) X A wd g2 (ix2 p k)) (fun k => f (ix2 0 k)) (fun k => T (ix2 p k)) k) * halfUnit := by
  unfold k0_pay48 k0_pay47 k0_pay45 k0_pay44
  generalize k0_pay43 (F := Ideal) X A wd g2 = Z
  pointwise [k0_pay46]
  rfl

theorem lastB_of (k : Fin 1024) : k0_pay50 (F := Ideal) X A wd g2 f T (ix2 0 k)
    = ∑ p, dyRow (fun k => k0_pay43 (F := Ideal) X A wd g2 (ix2 p k)) (fun k => f (ix2 0 k)) (fun k => T (ix2 p k)) k
        * (k0_pay43 (F := Ideal) X A wd g2 (ix2 p k) * InProj.inv fun k => k0_pay43 (F := Ideal) X A wd g2 (ix2 p k)) := by
  unfold k0_pay50 k0_pay49 k0_pay47 k0_pay45 k0_pay44
  generalize k0_pay43 (F := Ideal) X A wd g2 = Z
  pointwise [k0_pay46]
  rfl

theorem dxB_of (p : Fin 256) (k : Fin 1024) :
    k0_pay1 (F := Ideal) (k0_pay44 X A wd g2) (k0_pay45 X A wd g2) (k0_pay51 X A wd g2 f T) (k0_pay52 X A wd g2 f T) (ix2 p k)
      = InProj.gradRow 0 (fun k => k0_pay43 (F := Ideal) X A wd g2 (ix2 p k))
          (dyRow (fun k => k0_pay43 (F := Ideal) X A wd g2 (ix2 p k)) (fun k => f (ix2 0 k)) fun k => T (ix2 p k)) (fun k => f (ix2 0 k)) k := by
  unfold k0_pay52 k0_pay51 k0_pay49 k0_pay47 k0_pay45 k0_pay44 InProj.gradRow
  generalize k0_pay43 (F := Ideal) X A wd g2 = Z
  rw [zero_add]
  pointwise [k0_pay1, k0_pay46]
  rfl

end Last

end Cert.Fwd.Run

end
-- ==== Proof.Common.Halves.lean ====
/- Two stores, one of the upper half of an array's rows and one of the lower, and what the array then holds. -/
module

public import Idealize.ShloMosaic.Lib.Pointwise
public import Idealize.ShloMosaic.Lib.Pipeline.ReadBack
public import Idealize.ShloMosaic.Lib.Pipeline.Value

@[expose] public section

noncomputable section

namespace Cert.Common

open Idealize.ShloMosaic

/-- One array of `H` rows over another. -/
def stack {α : Type} {H W : ℕ} (R : ℕ) (hR : R = H + H) (a b : (⟨2, ![H, W]⟩ : Shape).Idx → α) : (⟨2, ![R, W]⟩ : Shape).Idx → α :=
  fun y => if h : (y (0 : Fin 2)).val < H then a (ix2 ⟨(y (0 : Fin 2)).val, h⟩ (y (1 : Fin 2)))
    else b (ix2 ⟨(y (0 : Fin 2)).val - H, by have : (y (0 : Fin 2)).val < R := (y (0 : Fin 2)).isLt; omega⟩ (y (1 : Fin 2)))

variable {e : EltTy} {Val : EltTy → Type} {R H W : ℕ}

/-- After a store of the upper rows and then one of the lower, the array is the one over the other. -/
theorem canon_halves [∀ e, Nonempty (Val e)] (hR : R = H + H)
    (inb0 : ∀ a : Fin 2, (![0, 0] : Fin 2 → ℕ) a + (![H, W] : Fin 2 → ℕ) a ≤ (![R, W] : Fin 2 → ℕ) a)
    (inb1 : ∀ a : Fin 2, (![H, 0] : Fin 2 → ℕ) a + (![H, W] : Fin 2 → ℕ) a ≤ (![R, W] : Fin 2 → ℕ) a)
    (a b : (⟨2, ![H, W]⟩ : Shape).Idx → Val e) :
    View.canon [⟨Rect.unit (s := ⟨2, ![R, W]⟩) ![H, 0] ![H, W] inb1, b⟩, ⟨Rect.unit (s := ⟨2, ![R, W]⟩) ![0, 0] ![H, W] inb0, a⟩]
      = stack R hR a b := by
  funext y
  have hlt : (y (0 : Fin 2)).val < R := (y (0 : Fin 2)).isLt
  unfold stack
  split
  case isTrue h =>
    refine (View.canon_cons_of_not_mem _ _ fun hm => ?_).trans ?_
    · have := ((Rect.mem_set_unit (inb := inb1)).mp hm) (0 : Fin 2)
      have h1 : H ≤ (y (0 : Fin 2)).val := this.1
      omega
    have hy : (Rect.unit (s := ⟨2, ![R, W]⟩) ![0, 0] ![H, W] inb0).emb (ix2 ⟨(y (0 : Fin 2)).val, h⟩ (y (1 : Fin 2))) = y := by
      refine funext (Fin.forall_fin_two.mpr ⟨Fin.ext ?_, Fin.ext ?_⟩)
      · show 0 + 1 * (y (0 : Fin 2)).val = _; omega
      · show 0 + 1 * (y (1 : Fin 2)).val = _; omega
    have := View.canon_cons_emb (Rect.unit (s := ⟨2, ![R, W]⟩) ![0, 0] ![H, W] inb0) a [] (ix2 ⟨(y (0 : Fin 2)).val, h⟩ (y (1 : Fin 2)))
    rwa [hy] at this
  case isFalse h =>
    have hy : (Rect.unit (s := ⟨2, ![R, W]⟩) ![H, 0] ![H, W] inb1).emb (ix2 ⟨(y (0 : Fin 2)).val - H, by omega⟩ (y (1 : Fin 2))) = y := by
      refine funext (Fin.forall_fin_two.mpr ⟨Fin.ext ?_, Fin.ext ?_⟩)
      · show H + 1 * ((y (0 : Fin 2)).val - H) = _; omega
      · show 0 + 1 * (y (1 : Fin 2)).val = _; omega
    have := View.canon_cons_emb (Rect.unit (s := ⟨2, ![R, W]⟩) ![H, 0] ![H, W] inb1) b
      [⟨Rect.unit (s := ⟨2, ![R, W]⟩) ![0, 0] ![H, W] inb0, a⟩] (ix2 ⟨(y (0 : Fin 2)).val - H, by omega⟩ (y (1 : Fin 2)))
    rwa [hy] at this

end Cert.Common

end
-- ==== Proof.Fwd.Block.lean ====
/- What each point of the gated layer's forward kernel leaves, of its blocks of tokens and of the weights the host prepares: the first point copies the
   weights, no later one changes the copies, each point stores two tiles of 256 tokens, and the loss and the last norm's gradient gather over the
   points. -/
module

public import proofs.«01_k».proof.Proof.Fwd.Tile
public import proofs.«01_k».proof.Proof.Common.Halves
public import proofs.«01_k».proof.Proof.Common.RowStore
public import proofs.«01_k».proof.Proof.Mlp.Block

@[expose] public section

set_option maxRecDepth 16384

noncomputable section

namespace Cert.Fwd.Run

open Cert.MlpFwdIdeal Cert.MlpFwdIdeal.Gen Idealize.ShloMosaic Idealize.ShloMosaic.TcCoe Idealize.SL.Sem Idealize.ShloMosaic.Pipeline
open Cert.Mlp.Run (chunk canon_whole readCov_whole weight)
open Cert.Common (stack canon_halves)

variable (m : (ℓ : Loc nD τ sig) → Buf (Elt Ideal) ℓ)

/-- The output projection, as the host prepares it. -/
def hostWo (c : Dev nD) : FVec Ideal S1024x1024 .bf16 := V m c main_v21
/-- The upper half of the weight of gates and ups, as the host prepares it. -/
def hostWga (c : Dev nD) : FVec Ideal S4x512x1408 .bf16 := V m c main_v11
/-- The lower half of it. -/
def hostWgb (c : Dev nD) : FVec Ideal S4x512x1408 .bf16 := V m c main_v20
/-- The down projection, as the host prepares it. -/
def hostWd (c : Dev nD) : FVec Ideal S2816x1024 .bf16 := V m c main_v22

/-- The tokens of block `t`. -/
def xT (c : Dev nD) (t : Fin cfg0.N) : FVec Ideal S512x1024 .f32 := iblk m c 0 t
/-- The attention's output for block `t`. -/
def yaT (c : Dev nD) (t : Fin cfg0.N) : FVec Ideal S512x512 .bf16 := iblk m c 1 t
/-- The state space layer's output for block `t`. -/
def ysT (c : Dev nD) (t : Fin cfg0.N) : FVec Ideal S512x512 .bf16 := iblk m c 2 t
/-- The targets of block `t`. -/
def tgT (c : Dev nD) (t : Fin cfg0.N) : FVec Ideal S512x1024 .f32 := iblk m c 3 t
/-- The first gate, as block `t` reads it. -/
def g1T (c : Dev nD) (t : Fin cfg0.N) : FVec Ideal S1x1024 .f32 := iblk m c 4 t
/-- The norm's scale, as block `t` reads it. -/
def aT (c : Dev nD) (t : Fin cfg0.N) : FVec Ideal S1x1024 .f32 := iblk m c 5 t
/-- The shift, as block `t` reads it. -/
def sT (c : Dev nD) (t : Fin cfg0.N) : FVec Ideal S1x1024 .f32 := iblk m c 6 t
/-- The second gate, as block `t` reads it. -/
def g2T (c : Dev nD) (t : Fin cfg0.N) : FVec Ideal S1x1024 .f32 := iblk m c 7 t
/-- The last norm's gain, as block `t` reads it. -/
def fT (c : Dev nD) (t : Fin cfg0.N) : FVec Ideal S1x1024 .f32 := iblk m c 8 t

/-! What the first point's copies carry. -/

theorem carried_wo (c : Dev nD) : ReadAs.same.apply (View.read (Elt Ideal) (View.whole main_v21) (V m c main_v21)) = hostWo m c := by
  unfold hostWo; generalize V m c main_v21 = A; rfl

theorem carried_wga (c : Dev nD) : ReadAs.same.apply (View.read (Elt Ideal) (View.whole main_v11) (V m c main_v11)) = hostWga m c := by
  unfold hostWga; generalize V m c main_v11 = A; rfl

theorem carried_wgb (c : Dev nD) : ReadAs.same.apply (View.read (Elt Ideal) (View.whole main_v20) (V m c main_v20)) = hostWgb m c := by
  unfold hostWgb; generalize V m c main_v20 = A; rfl

theorem carried_wd (c : Dev nD) : ReadAs.same.apply (View.read (Elt Ideal) (View.whole main_v22) (V m c main_v22)) = hostWd m c := by
  unfold hostWd; generalize V m c main_v22 = A; rfl

/-- The first point leaves the host's weights in the copies. -/
theorem first_weights (c : Dev nD) (t : Fin cfg0.N) (h : t.val % 16 = 0) :
    (first m c t h).wo = hostWo m c ∧ (first m c t h).wga = hostWga m c ∧ (first m c t h).wgb = hostWgb m c ∧ (first m c t h).wd = hostWd m c := by
  refine ⟨?_, ?_, ?_, ?_⟩ <;> dsimp only [first, runFirst]
  all_goals frame_out
  all_goals rw [canon_whole]
  exacts [carried_wo m c, carried_wga m c, carried_wgb m c, carried_wd m c]

theorem later_weights (c : Dev nD) (t : Fin cfg0.N) (h : ¬t.val % 16 = 0) (l : Left Ideal) :
    (later m c t h l).wo = l.wo ∧ (later m c t h l).wga = l.wga ∧ (later m c t h l).wgb = l.wgb ∧ (later m c t h l).wd = l.wd := by
  refine ⟨?_, ?_, ?_, ?_⟩ <;> dsimp only [later]

/-- At every point the copies are the host's weights. -/
theorem weights (c : Dev nD) : ∀ (n : ℕ) (h : n < cfg0.N),
    (left m c n h).wo = hostWo m c ∧ (left m c n h).wga = hostWga m c ∧ (left m c n h).wgb = hostWgb m c ∧ (left m c n h).wd = hostWd m c := by
  intro n
  induction n with
  | zero => intro h; rw [left_first m c ⟨0, h⟩ rfl]; exact first_weights m c _ _
  | succ n ih =>
    intro h
    by_cases h0 : (n + 1) % 16 = 0
    · rw [left_first m c ⟨n + 1, h⟩ h0]; exact first_weights m c _ _
    · have := ih (Nat.lt_of_succ_lt h)
      rw [left_later m c ⟨n + 1, h⟩ h0]
      obtain ⟨h0', h1, h2, h3⟩ := later_weights m c ⟨n + 1, h⟩ h0 (left m c n (Nat.lt_of_succ_lt h))
      exact ⟨h0'.trans this.1, h1.trans this.2.1, h2.trans this.2.2.1, h3.trans this.2.2.2⟩

/-! The two halves of a block's rows and of the output projection's. -/

/-- The upper tile of a block. -/
def up (v : FVec Ideal S512x1024 .f32) : Vec Ideal S256x1024 .f32 :=
  View.ld v (Rect.unit (s := S512x1024) ![0, 0] ![256, 1024] inb_S512x1024_S256x1024_0_0)
/-- The lower tile. -/
def low (v : FVec Ideal S512x1024 .f32) : Vec Ideal S256x1024 .f32 :=
  View.ld v (Rect.unit (s := S512x1024) ![256, 0] ![256, 1024] inb_S512x1024_S256x1024_256_0)
/-- The upper tile of a mixer's output. -/
def upY (v : FVec Ideal S512x512 .bf16) : Vec Ideal S256x512 .bf16 :=
  View.ld v (Rect.unit (s := S512x512) ![0, 0] ![256, 512] inb_S512x512_S256x512_0_0)
/-- The lower one. -/
def lowY (v : FVec Ideal S512x512 .bf16) : Vec Ideal S256x512 .bf16 :=
  View.ld v (Rect.unit (s := S512x512) ![256, 0] ![256, 512] inb_S512x512_S256x512_256_0)
/-- The output projection's rows for the attention. -/
def woU (v : FVec Ideal S1024x1024 .bf16) : Vec Ideal S512x1024 .bf16 :=
  View.ld v (Rect.unit (s := S1024x1024) ![0, 0] ![512, 1024] inb_S1024x1024_S512x1024_0_0)
/-- Its rows for the state space layer. -/
def woL (v : FVec Ideal S1024x1024 .bf16) : Vec Ideal S512x1024 .bf16 :=
  View.ld v (Rect.unit (s := S1024x1024) ![512, 0] ![512, 1024] inb_S1024x1024_S512x1024_512_0)

theorem up_at (v : FVec Ideal S512x1024 .f32) (p : Fin 256) (k : Fin 1024) : up v (ix2 p k) = v (ix2 ⟨p, by omega⟩ k) := by
  unfold up; refine congrArg v ?_; idx_ext
theorem low_at (v : FVec Ideal S512x1024 .f32) (p : Fin 256) (k : Fin 1024) : low v (ix2 p k) = v (ix2 ⟨256 + (p : ℕ), by omega⟩ k) := by
  unfold low; refine congrArg v ?_; idx_ext
theorem upY_at (v : FVec Ideal S512x512 .bf16) (p : Fin 256) (k : Fin 512) : upY v (ix2 p k) = v (ix2 ⟨p, by omega⟩ k) := by
  unfold upY; refine congrArg v ?_; idx_ext
theorem lowY_at (v : FVec Ideal S512x512 .bf16) (p : Fin 256) (k : Fin 512) : lowY v (ix2 p k) = v (ix2 ⟨256 + (p : ℕ), by omega⟩ k) := by
  unfold lowY; refine congrArg v ?_; idx_ext
theorem woU_at (v : FVec Ideal S1024x1024 .bf16) (p : Fin 512) (k : Fin 1024) : woU v (ix2 p k) = v (ix2 ⟨p, by omega⟩ k) := by
  unfold woU; refine congrArg v ?_; idx_ext
theorem woL_at (v : FVec Ideal S1024x1024 .bf16) (p : Fin 512) (k : Fin 1024) : woL v (ix2 p k) = v (ix2 ⟨512 + (p : ℕ), by omega⟩ k) := by
  unfold woL; refine congrArg v ?_; idx_ext

/-! The copies, read back at the first point. -/

theorem copied_woU (c : Dev nD) : (View.whole cc0_scratch0).readCov
    [⟨Rect.whole S1024x1024, ReadAs.same.apply (View.read (Elt Ideal) (View.whole main_v21) (V m c main_v21))⟩]
    (Rect.unit (s := S1024x1024) ![0, 0] ![512, 1024] inb_S1024x1024_S512x1024_0_0).toLoadRect = woU (hostWo m c) := by
  rw [carried_wo]; exact readCov_whole _ _ _

theorem copied_woL (c : Dev nD) : (View.whole cc0_scratch0).readCov
    [⟨Rect.whole S1024x1024, ReadAs.same.apply (View.read (Elt Ideal) (View.whole main_v21) (V m c main_v21))⟩]
    (Rect.unit (s := S1024x1024) ![512, 0] ![512, 1024] inb_S1024x1024_S512x1024_512_0).toLoadRect = woL (hostWo m c) := by
  rw [carried_wo]; exact readCov_whole _ _ _

theorem copied_wga (c : Dev nD) (j h) : (View.whole cc0_scratch1).readCov
    [⟨Rect.whole S4x512x1408, ReadAs.same.apply (View.read (Elt Ideal) (View.whole main_v11) (V m c main_v11))⟩]
    (Rect.unit (s := S4x512x1408) ![j, 0, 0] ![1, 512, 1408] h).toLoadRect = chunk (hostWga m c) j h := by
  rw [carried_wga]; exact readCov_whole _ _ _

theorem copied_wgb (c : Dev nD) (j h) : (View.whole cc0_scratch2).readCov
    [⟨Rect.whole S4x512x1408, ReadAs.same.apply (View.read (Elt Ideal) (View.whole main_v20) (V m c main_v20))⟩]
    (Rect.unit (s := S4x512x1408) ![j, 0, 0] ![1, 512, 1408] h).toLoadRect = chunk (hostWgb m c) j h := by
  rw [carried_wgb]; exact readCov_whole _ _ _

theorem copied_wd (c : Dev nD) : (View.whole cc0_scratch3).readCov
    [⟨Rect.whole S2816x1024, ReadAs.same.apply (View.read (Elt Ideal) (View.whole main_v22) (V m c main_v22))⟩]
    (Rect.unit (s := S2816x1024) ![0, 0] ![2816, 1024] inb_S2816x1024_S2816x1024_0_0).toLoadRect = hostWd m c := by
  rw [carried_wd]; exact (readCov_whole _ _ _).trans (View.ld_unit_lit _ _ (by decide))

/-! What the two tiles of point `t` come to. -/

/-- The upper tile after the mixers. -/
def midU (c : Dev nD) (t : Fin cfg0.N) : FVec Ideal S256x1024 .f32 :=
  k0_pay6 (upY (yaT m c t)) (woU (hostWo m c)) (upY (ysT m c t)) (woL (hostWo m c)) (up (xT m c t)) (g1T m c t)
/-- The upper tile, normed. -/
def normU (c : Dev nD) (t : Fin cfg0.N) : FVec Ideal S256x1024 .f32 :=
  k0_pay7 (upY (yaT m c t)) (woU (hostWo m c)) (upY (ysT m c t)) (woL (hostWo m c)) (up (xT m c t)) (g1T m c t)
/-- The upper tile's gates and ups. -/
def guU (c : Dev nD) (t : Fin cfg0.N) : FVec Ideal S256x5632 .bf16 :=
  k0_pay15 (k0_pay11 (normU m c t) (k0_pay8 (aT m c t)) (sT m c t)) (k0_pay12 (normU m c t) (k0_pay8 (aT m c t)) (sT m c t))
    (k0_pay13 (normU m c t) (k0_pay8 (aT m c t)) (sT m c t) (chunk (hostWga m c) 0 inb_S4x512x1408_S1x512x1408_0_0_0)
      (chunk (hostWgb m c) 0 inb_S4x512x1408_S1x512x1408_0_0_0))
    (k0_pay14 (normU m c t) (k0_pay8 (aT m c t)) (sT m c t) (chunk (hostWga m c) 1 inb_S4x512x1408_S1x512x1408_1_0_0)
      (chunk (hostWgb m c) 1 inb_S4x512x1408_S1x512x1408_1_0_0))
    (chunk (hostWga m c) 2 inb_S4x512x1408_S1x512x1408_2_0_0) (chunk (hostWgb m c) 2 inb_S4x512x1408_S1x512x1408_2_0_0)
    (chunk (hostWga m c) 3 inb_S4x512x1408_S1x512x1408_3_0_0) (chunk (hostWgb m c) 3 inb_S4x512x1408_S1x512x1408_3_0_0)
/-- The upper tile's activation against the down projection. -/
def ffU (c : Dev nD) (t : Fin cfg0.N) : FVec Ideal S256x1024 .f32 := k0_pay25 (k0_pay19 (guU m c t)) (hostWd m c)
/-- The gradient the upper tile leaves with. -/
def dxU (c : Dev nD) (t : Fin cfg0.N) : FVec Ideal S256x1024 .f32 :=
  k0_pay42 (k0_pay33 (midU m c t) (ffU m c t) (g2T m c t)) (k0_pay40 (midU m c t) (ffU m c t) (g2T m c t) (fT m c t) (up (tgT m c t)))
    (k0_pay41 (midU m c t) (ffU m c t) (g2T m c t) (fT m c t) (up (tgT m c t)))

/-- The mixers' product for the lower tile. -/
def mixL (c : Dev nD) (t : Fin cfg0.N) : FVec Ideal S256x1024 .f32 :=
  k0_pay10 (lowY (yaT m c t)) (woU (hostWo m c)) (lowY (ysT m c t)) (woL (hostWo m c))
/-- The lower tile after the mixers. -/
def midL (c : Dev nD) (t : Fin cfg0.N) : FVec Ideal S256x1024 .f32 := k0_pay16 (mixL m c t) (low (xT m c t)) (g1T m c t)
/-- The lower tile's reciprocal root mean squares. -/
def invL (c : Dev nD) (t : Fin cfg0.N) : FVec Ideal S256x1 .f32 := k0_pay17 (mixL m c t) (low (xT m c t)) (g1T m c t)
/-- Third of the lower tile's products with the gates' and ups' weight: the first chunk of columns. -/
def chunkL0 (c : Dev nD) (t : Fin cfg0.N) : FVec Ideal S256x1408 .bf16 :=
  k0_pay22 (midL m c t) (invL m c t) (aT m c t) (sT m c t) (chunk (hostWga m c) 0 inb_S4x512x1408_S1x512x1408_0_0_0)
    (chunk (hostWgb m c) 0 inb_S4x512x1408_S1x512x1408_0_0_0)
/-- The second chunk, against the upper half of the weight. -/
def chunkL1 (c : Dev nD) (t : Fin cfg0.N) : FVec Ideal S256x1408 .f32 :=
  k0_pay23 (midL m c t) (invL m c t) (aT m c t) (sT m c t) (chunk (hostWga m c) 1 inb_S4x512x1408_S1x512x1408_1_0_0)
/-- The lower tile's gates and ups. -/
def guL (c : Dev nD) (t : Fin cfg0.N) : FVec Ideal S256x5632 .bf16 :=
  k0_pay24 (k0_pay20 (midL m c t) (invL m c t) (aT m c t) (sT m c t)) (k0_pay21 (midL m c t) (invL m c t) (aT m c t) (sT m c t))
    (chunkL0 m c t) (chunkL1 m c t) (chunk (hostWgb m c) 1 inb_S4x512x1408_S1x512x1408_1_0_0)
    (chunk (hostWga m c) 2 inb_S4x512x1408_S1x512x1408_2_0_0) (chunk (hostWgb m c) 2 inb_S4x512x1408_S1x512x1408_2_0_0)
    (chunk (hostWga m c) 3 inb_S4x512x1408_S1x512x1408_3_0_0) (chunk (hostWgb m c) 3 inb_S4x512x1408_S1x512x1408_3_0_0)

/-- An activation from its payloads, over what they all take. -/
def actOf (A B : FVec Ideal S256x512 .bf16) (C : FVec Ideal S256x1408 .bf16) (D : FVec Ideal S256x1408 .f32) (E H I J K : Vec Ideal S1x512x1408 .bf16) :
    FVec Ideal S256x2816 .bf16 :=
  k0_pay30 (k0_pay26 A B C D E H I J K) (k0_pay27 A B C D E H I J K) (k0_pay28 A B C D E H I J K) k0_pay29

/-- The lower tile's activation. -/
def actL (c : Dev nD) (t : Fin cfg0.N) : FVec Ideal S256x2816 .bf16 :=
  actOf (k0_pay20 (midL m c t) (invL m c t) (aT m c t) (sT m c t)) (k0_pay21 (midL m c t) (invL m c t) (aT m c t) (sT m c t))
    (chunkL0 m c t) (chunkL1 m c t) (chunk (hostWgb m c) 1 inb_S4x512x1408_S1x512x1408_1_0_0)
    (chunk (hostWga m c) 2 inb_S4x512x1408_S1x512x1408_2_0_0) (chunk (hostWgb m c) 2 inb_S4x512x1408_S1x512x1408_2_0_0)
    (chunk (hostWga m c) 3 inb_S4x512x1408_S1x512x1408_3_0_0) (chunk (hostWgb m c) 3 inb_S4x512x1408_S1x512x1408_3_0_0)
/-- The gradient the lower tile leaves with. -/
def dxL (c : Dev nD) (t : Fin cfg0.N) : FVec Ideal S256x1024 .f32 :=
  k0_pay1 (k0_pay44 (midL m c t) (actL m c t) (hostWd m c) (g2T m c t)) (k0_pay45 (midL m c t) (actL m c t) (hostWd m c) (g2T m c t))
    (k0_pay51 (midL m c t) (actL m c t) (hostWd m c) (g2T m c t) (fT m c t) (low (tgT m c t)))
    (k0_pay52 (midL m c t) (actL m c t) (hostWd m c) (g2T m c t) (fT m c t) (low (tgT m c t)))

/-- What point `t` adds to the loss. -/
def lossPart (c : Dev nD) (t : Fin cfg0.N) : EReal :=
  k0_pay36 (F := Ideal) (midU m c t) (ffU m c t) (g2T m c t) (fT m c t) (up (tgT m c t))
    + k0_pay48 (F := Ideal) (midL m c t) (actL m c t) (hostWd m c) (g2T m c t) (fT m c t) (low (tgT m c t))

/-- What it adds to a column of the last norm's gradient. -/
def lastPart (c : Dev nD) (t : Fin cfg0.N) (k : Fin 1024) : EReal :=
  k0_pay38 (F := Ideal) (midU m c t) (ffU m c t) (g2T m c t) (fT m c t) (up (tgT m c t)) (ix2 0 k)
    + k0_pay50 (F := Ideal) (midL m c t) (actL m c t) (hostWd m c) (g2T m c t) (fT m c t) (low (tgT m c t)) (ix2 0 k)

set_option maxHeartbeats 1000000 in
/-- The blocks the first point stores. -/
theorem first_blocks (c : Dev nD) (t : Fin cfg0.N) (h : t.val % 16 = 0) :
    (first m c t h).x1 = stack 512 rfl (midU m c t) (midL m c t) ∧ (first m c t h).gu = stack 512 rfl (guU m c t) (guL m c t)
      ∧ (first m c t h).dx = stack 512 rfl (dxU m c t) (dxL m c t) := by
  refine ⟨?_, ?_, ?_⟩ <;> dsimp only [first, runFirst]
  all_goals frame_out
  all_goals rw [copied_woU m c, copied_woL m c]
  · exact canon_halves rfl _ _ _ _
  all_goals rw [copied_wga m c, copied_wga m c, copied_wga m c, copied_wga m c, copied_wgb m c, copied_wgb m c, copied_wgb m c, copied_wgb m c]
  · exact canon_halves rfl _ _ _ _
  rw [copied_wd m c]
  exact canon_halves rfl _ _ _ _

set_option maxHeartbeats 1000000 in
/-- The blocks a later point stores, over copies that are the host's weights. -/
theorem later_blocks (c : Dev nD) (t : Fin cfg0.N) (h : ¬t.val % 16 = 0) (l : Left Ideal)
    (hl : l.wo = hostWo m c ∧ l.wga = hostWga m c ∧ l.wgb = hostWgb m c ∧ l.wd = hostWd m c) :
    (later m c t h l).x1 = stack 512 rfl (midU m c t) (midL m c t) ∧ (later m c t h l).gu = stack 512 rfl (guU m c t) (guL m c t)
      ∧ (later m c t h l).dx = stack 512 rfl (dxU m c t) (dxL m c t) := by
  obtain ⟨h0, h1, h2, h3⟩ := hl
  refine ⟨?_, ?_, ?_⟩ <;> dsimp only [later, runLater]
  all_goals frame_out
  · simp only [read_unread_whole, h0]; exact canon_halves rfl _ _ _ _
  · simp only [read_unread_whole, h0, h1, h2]; exact canon_halves rfl _ _ _ _
  · simp only [read_unread_whole, h0, h1, h2, h3]; exact canon_halves rfl _ _ _ _

/-- The blocks point `t` stores. -/
theorem blocks (c : Dev nD) (t : Fin cfg0.N) :
    (left m c t.val t.isLt).x1 = stack 512 rfl (midU m c t) (midL m c t) ∧ (left m c t.val t.isLt).gu = stack 512 rfl (guU m c t) (guL m c t)
      ∧ (left m c t.val t.isLt).dx = stack 512 rfl (dxU m c t) (dxL m c t) := by
  by_cases h : t.val % 16 = 0
  · rw [left_first m c t h]; exact first_blocks m c t h
  · rw [left_later m c t h]; exact later_blocks m c t h _ (weights m c _ _)

theorem loss_add (a b : EReal) (o : Vec Ideal S8x128 .f32) (y) : k0_pay2 (F := Ideal) a b o y = o y + (a + b) := by
  obtain ⟨i, j, rfl⟩ : ∃ i j, y = ix2 i j := ⟨y 0, y 1, by idx_ext⟩
  pointwise [k0_pay2]

theorem last_add (a b : FVec Ideal S1x1024 .f32) (o : Vec Ideal S1x1024 .f32) (k : Fin 1024) :
    k0_pay3 a b o (ix2 0 k) = o (ix2 0 k) + (a (ix2 0 k) + b (ix2 0 k)) := by
  pointwise [k0_pay3]

/-- The first point puts its part of the loss everywhere. -/
theorem first_loss (c : Dev nD) (t : Fin cfg0.N) (h : t.val % 16 = 0) (y) : (left m c t.val t.isLt).loss y = 0 + lossPart m c t := by
  rw [left_first m c t h]; dsimp only [first, runFirst]; frame_out
  rw [copied_woU m c, copied_woL m c, copied_wga m c, copied_wga m c, copied_wga m c, copied_wga m c, copied_wgb m c, copied_wgb m c,
    copied_wgb m c, copied_wgb m c, copied_wd m c]
  refine (loss_add _ _ _ y).trans (congrArg (· + lossPart m c t) ?_)
  pointwise [k0_pay4]

/-- Every later point adds its part. -/
theorem later_loss (c : Dev nD) (t : Fin cfg0.N) (h : ¬t.val % 16 = 0) (y) :
    (left m c t.val t.isLt).loss y = (left m c (t.val - 1) (Nat.lt_of_le_of_lt (Nat.sub_le _ _) t.isLt)).loss y + lossPart m c t := by
  obtain ⟨h0, h1, h2, h3⟩ := weights m c (t.val - 1) (Nat.lt_of_le_of_lt (Nat.sub_le _ _) t.isLt)
  rw [left_later m c t h]; dsimp only [later, runLater]; frame_out
  simp only [read_unread_whole, h0, h1, h2, h3]
  exact loss_add _ _ _ y

/-- The first point puts its part of the last norm's gradient into the top row and zero below. -/
theorem first_last (c : Dev nD) (t : Fin cfg0.N) (h : t.val % 16 = 0) (y) :
    (left m c t.val t.isLt).last y = 0 + if (y 0 : ℕ) = 0 then lastPart m c t (y 1) else 0 := by
  rw [left_first m c t h]; dsimp only [first, runFirst]; frame_out
  rw [Common.canon_top_row, View.readCov_fill _ _ _ _ _ (by decide), View.canon_cons_unit_lit _ _ _ (by decide)]
  rw [copied_woU m c, copied_woL m c, copied_wga m c, copied_wga m c, copied_wga m c, copied_wga m c, copied_wgb m c, copied_wgb m c,
    copied_wgb m c, copied_wgb m c, copied_wd m c]
  split
  · rename_i hy
    obtain ⟨k, rfl⟩ : ∃ k, y = ix2 0 k := ⟨y 1, by idx_ext⟩
    rw [show (ix2 (0 : Fin 8) k : S8x1024.Idx) 1 = k from rfl, last_add]
    pointwise [k0_pay5]
    rfl
  · pointwise [k0_pay5]

/-- Every later point adds its part to the top row. -/
theorem later_last (c : Dev nD) (t : Fin cfg0.N) (h : ¬t.val % 16 = 0) (y) :
    (left m c t.val t.isLt).last y
      = (left m c (t.val - 1) (Nat.lt_of_le_of_lt (Nat.sub_le _ _) t.isLt)).last y + if (y 0 : ℕ) = 0 then lastPart m c t (y 1) else 0 := by
  obtain ⟨h0, h1, h2, h3⟩ := weights m c (t.val - 1) (Nat.lt_of_le_of_lt (Nat.sub_le _ _) t.isLt)
  rw [left_later m c t h]; dsimp only [later, runLater]; frame_out
  rw [Common.read_top_row]
  simp only [read_unread_whole, h0, h1, h2, h3]
  split
  · rename_i hy
    obtain ⟨k, rfl⟩ : ∃ k, y = ix2 0 k := ⟨y 1, by idx_ext⟩
    rw [show (ix2 (0 : Fin 8) k : S8x1024.Idx) 1 = k from rfl, last_add]
    pointwise []
    rfl
  · rw [add_zero]
    exact congrFun (Memref.IsWhole.read_unread _ _) y

end Cert.Fwd.Run

end
-- ==== Proof.Fwd.Equation.lean ====
/- The constants of the loss: half a row's mean as the reference writes it is a product by one over twice the row's length, and the slope of its square a
   product by one over the length. -/
module

public import proofs.«01_k».proof.Proof.InProj.Equation
public import proofs.«01_k».proof.Proof.Fwd.Args

@[expose] public section

noncomputable section

namespace Cert.Fwd

open Idealize.ShloMosaic Cert.InProj Cert.Common

/-- One half, as the reference writes it. -/
abbrev half : EReal := Ideal.ofBits .f32 0x3F000000#32

/-- Two, as the reference writes it. -/
abbrev two : EReal := Ideal.ofBits .f32 0x40000000#32

theorem half_eq : half = ((2⁻¹ : ℝ) : EReal) := by
  simp [Ideal.ofBits, Ideal.ieee]
  show ((8388608 : ℝ) : EReal) * ((2 ^ 24 : ℝ) : EReal)⁻¹ = ((2⁻¹ : ℝ) : EReal)
  rw [← EReal.coe_inv, ← EReal.coe_mul]
  norm_num

theorem two_eq : two = ((2 : ℝ) : EReal) := by
  simp [Ideal.ofBits, Ideal.ieee]
  show ((8388608 : ℝ) : EReal) * ((2 ^ 22 : ℝ) : EReal)⁻¹ = ((2 : ℝ) : EReal)
  rw [← EReal.coe_inv, ← EReal.coe_mul]
  norm_num

theorem unit_eq : unit = ((1024⁻¹ : ℝ) : EReal) := by
  simp [Ideal.ofBits, Ideal.ieee]
  show ((8388608 : ℝ) : EReal) * ((2 ^ 33 : ℝ) : EReal)⁻¹ = ((1024⁻¹ : ℝ) : EReal)
  rw [← EReal.coe_inv, ← EReal.coe_mul]
  norm_num

theorem halfUnit_eq : halfUnit = ((2048⁻¹ : ℝ) : EReal) := by
  simp [Ideal.ofBits, Ideal.ieee]
  show ((8388608 : ℝ) : EReal) * ((2 ^ 34 : ℝ) : EReal)⁻¹ = ((2048⁻¹ : ℝ) : EReal)
  rw [← EReal.coe_inv, ← EReal.coe_mul]
  norm_num

/-- The slope of the loss at one element. -/
theorem slope_eq (e : EReal) : Ideal.div (half * 1) width * (two * e) = e * unit := by
  rw [width_eq, div_coe _ width_ne, half_eq, two_eq, unit_eq, mul_one, ← mul_assoc, ← EReal.coe_mul, ← EReal.coe_mul, mul_comm]
  refine congrArg (e * ·) (congrArg _ ?_)
  norm_num

/-- Half the sum of the rows' means. -/
theorem loss_eq (S : Fin 8192 → EReal) : half * ∑ n, Ideal.div (S n) width = ∑ n, S n * halfUnit := by
  rw [half_eq, mul_sum_of_nonneg _ (by norm_num)]
  refine Finset.sum_congr rfl fun n _ => ?_
  rw [width_eq, div_coe _ width_ne, halfUnit_eq, mul_comm, mul_assoc, ← EReal.coe_mul]
  refine congrArg (S n * ·) (congrArg _ ?_)
  norm_num

end Cert.Fwd

end
-- ==== Proof.Fwd.Array.lean ====
/- The five arrays the gated layer's forward kernel leaves, as the functions of its arguments. -/
module

public import proofs.«01_k».proof.Proof.Fwd.Block
public import proofs.«01_k».proof.Proof.Fwd.Equation
public import Idealize.ShloMosaic.Lib.StableHlo.ReadAt

@[expose] public section

set_option maxRecDepth 16384

noncomputable section

namespace Cert.Fwd.Run

open Cert.MlpFwdIdeal Cert.MlpFwdIdeal.Gen Cert.Mlp Cert.Mlp.Run Cert.Common Idealize.ShloMosaic Idealize.ShloMosaic.TcCoe Idealize.SL.Sem
  Idealize.ShloMosaic.Pipeline

variable (m : (ℓ : Loc nD τ sig) → Buf (Elt Ideal) ℓ)

/-- The arrays the kernel is launched with. -/
def launched (c : Dev nD) : Args where
  x := m ((c : Thread nD τ).loc main_arg0)
  ya := m ((c : Thread nD τ).loc main_arg1)
  ys := m ((c : Thread nD τ).loc main_arg2)
  target := m ((c : Thread nD τ).loc main_arg3)
  wo := m ((c : Thread nD τ).loc main_arg4)
  wgu := m ((c : Thread nD τ).loc main_arg5)
  wd := m ((c : Thread nD τ).loc main_arg6)
  gate1 := m ((c : Thread nD τ).loc main_arg7)
  norm := m ((c : Thread nD τ).loc main_arg8)
  scale := m ((c : Thread nD τ).loc main_arg9)
  shift := m ((c : Thread nD τ).loc main_arg10)
  gate2 := m ((c : Thread nD τ).loc main_arg11)
  final := m ((c : Thread nD τ).loc main_arg12)

/-- Every window's block index. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

/-- Row `r` of block `t` is a row of the whole array. -/
def token (t : Fin cfg0.N) (r : Fin 512) : Fin 8192 := ⟨t.val * 512 + r.val, by have : t.val < 16 := t.isLt; omega⟩

/-- Row `p` of the upper tile, among the block's rows. -/
abbrev rowU (p : Fin 256) : Fin 512 := ⟨p, by omega⟩
/-- Row `p` of the lower tile, among the block's rows. -/
abbrev rowL (p : Fin 256) : Fin 512 := ⟨256 + (p : ℕ), by omega⟩

/-- A block's rows are the two tiles'. -/
theorem sum_rows (f : Fin 512 → EReal) : ∑ r, f r = (∑ p, f (rowU p)) + ∑ p, f (rowL p) :=
  Fin.sum_univ_add (a := 256) (b := 256) f

/-- All blocks' rows together are all rows. -/
theorem sum_tokens (f : Fin 8192 → EReal) : ∑ t : Fin cfg0.N, ∑ r : Fin 512, f (token t r) = ∑ n, f n :=
  Fin.sum_mul_add_congr (fun t p h => rfl)

/-! The host's arrays. -/

theorem host_wo (c : Dev nD) (n l : Fin 1024) : hostWo m c (ix2 n l) = (launched m c).wo (ix2 n l) := by
  unfold hostWo
  entry_read
  pointwise [launched]

theorem host_wd (c : Dev nD) (n : Fin 2816) (l : Fin 1024) : hostWd m c (ix2 n l) = (launched m c).wd (ix2 n l) := by
  unfold hostWd
  entry_read
  pointwise [launched]

/-- A chunk of the first half of the weight, as the host cuts it. -/
theorem host_wga (c : Dev nD) (j : Fin 4) (k : Fin 512) (q : Fin 1408) :
    hostWga m c (ix3 j k q) = (launched m c).wgu (ix2 ⟨k, by omega⟩ ⟨j * 1408 + q, by omega⟩) := by
  unfold hostWga launched
  fin_cases j
  all_goals
    after_reads_simp
    pointwise []
    after_reads_simp
    pointwise []

/-- A chunk of the second half of the weight, as the host cuts it. -/
theorem host_wgb (c : Dev nD) (j : Fin 4) (k : Fin 512) (q : Fin 1408) :
    hostWgb m c (ix3 j k q) = (launched m c).wgu (ix2 ⟨512 + k, by omega⟩ ⟨j * 1408 + q, by omega⟩) := by
  unfold hostWgb launched
  fin_cases j
  all_goals
    after_reads_simp
    pointwise []
    after_reads_simp
    pointwise []

/-- The two halves together are the weight of gates and ups. -/
theorem host_weight (c : Dev nD) (k : Fin 1024) (x : Fin 5632) :
    weight (hostWga m c) (hostWgb m c) k x = (launched m c).wgu (ix2 k x) := by
  unfold weight
  split
  · rw [host_wga]
    refine congrArg _ ?_
    idx_ext
  · rw [host_wgb]
    refine congrArg _ ?_
    idx_ext

/-- The norm's scale, as the host prepares it. -/
theorem host_gain (c : Dev nD) (k : Fin 1024) :
    (show FVec Ideal S1x1024 .f32 from V m c main_v25) (ix2 0 k) = (launched m c).gain k := by
  entry_read
  pointwise [Args.gain, launched]

/-- The last norm's gain, as the host prepares it. -/
theorem host_final (c : Dev nD) (k : Fin 1024) :
    (show FVec Ideal S1x1024 .f32 from V m c main_v26) (ix2 0 k) = (launched m c).last k := by
  entry_read
  pointwise [Args.last, launched]

/-! What block `t` reads. -/

theorem x_eq (c : Dev nD) (t : Fin cfg0.N) (r : Fin 512) (k : Fin 1024) : xT m c t (ix2 r k) = (launched m c).x (ix2 (token t r) k) := by
  unfold xT launched token
  blk_point [iblk, V, idx t]

theorem ya_eq (c : Dev nD) (t : Fin cfg0.N) (r : Fin 512) (k : Fin 512) : yaT m c t (ix2 r k) = (launched m c).ya (ix2 (token t r) k) := by
  unfold yaT launched token
  blk_point [iblk, V, idx t]

theorem ys_eq (c : Dev nD) (t : Fin cfg0.N) (r : Fin 512) (k : Fin 512) : ysT m c t (ix2 r k) = (launched m c).ys (ix2 (token t r) k) := by
  unfold ysT launched token
  blk_point [iblk, V, idx t]

theorem tg_eq (c : Dev nD) (t : Fin cfg0.N) (r : Fin 512) (k : Fin 1024) : tgT m c t (ix2 r k) = (launched m c).target (ix2 (token t r) k) := by
  unfold tgT launched token
  blk_point [iblk, V, idx t]

theorem g1_eq (c : Dev nD) (t : Fin cfg0.N) (k : Fin 1024) : g1T m c t (ix2 0 k) = (launched m c).gate1 (ix2 0 k) := by
  unfold g1T launched
  blk_point [iblk, V, idx t]

theorem a_eq (c : Dev nD) (t : Fin cfg0.N) : (fun k => aT m c t (ix2 0 k)) = (launched m c).gain := by
  funext k
  rw [← host_gain]
  unfold aT
  blk_point [iblk, idx t]

theorem s_eq (c : Dev nD) (t : Fin cfg0.N) (k : Fin 1024) : sT m c t (ix2 0 k) = (launched m c).shift (ix2 0 k) := by
  unfold sT launched
  blk_point [iblk, V, idx t]

theorem g2_eq (c : Dev nD) (t : Fin cfg0.N) (k : Fin 1024) : g2T m c t (ix2 0 k) = (launched m c).gate2 (ix2 0 k) := by
  unfold g2T launched
  blk_point [iblk, V, idx t]

theorem f_eq (c : Dev nD) (t : Fin cfg0.N) : (fun k => fT m c t (ix2 0 k)) = (launched m c).last := by
  funext k
  rw [← host_final]
  unfold fT
  blk_point [iblk, idx t]

/-! The upper tile's rows. -/

section Upper

variable (c : Dev nD) (t : Fin cfg0.N) (p : Fin 256)

theorem midRow_up : midRow (upY (yaT m c t)) (upY (ysT m c t)) (woU (hostWo m c)) (woL (hostWo m c)) (up (xT m c t)) (g1T m c t) p
    = (launched m c).mid (token t (rowU p)) := by
  funext k
  unfold midRow Args.mid Args.mix
  simp only [up_at, upY_at, woU_at, woL_at, x_eq, ya_eq, ys_eq, g1_eq, host_wo]

theorem midU_eq (k : Fin 1024) : midU m c t (ix2 p k) = (launched m c).mid (token t (rowU p)) k := by
  unfold midU
  rw [midA_at, midRow_up]

theorem modU_eq (k : Fin 1024) : k0_pay9 (F := Ideal) (normU m c t) (k0_pay8 (aT m c t)) (sT m c t) (ix2 p k) = (launched m c).mod (token t (rowU p)) k := by
  unfold normU Args.mod
  rw [modA_at, modRow, midRow_up, a_eq, funext fun k => s_eq m c t k]

theorem guU_eq (x : Fin 5632) : guU m c t (ix2 p x) = (launched m c).gu (token t (rowU p)) x := by
  unfold guU Args.gu
  rw [guA_of]
  simp only [modU_eq, host_weight]

theorem outU_eq (k : Fin 1024) :
    k0_pay31 (F := Ideal) (midU m c t) (ffU m c t) (g2T m c t) (ix2 p k) = (launched m c).out (token t (rowU p)) k := by
  unfold ffU
  rw [outA_at]
  unfold outRow Args.out
  simp only [midU_eq, guU_eq, g2_eq, host_wd]

theorem tgU_eq : (fun k => up (tgT m c t) (ix2 p k)) = fun k => (launched m c).target (ix2 (token t (rowU p)) k) := by
  funext k
  rw [up_at, tg_eq]

theorem dxU_eq (k : Fin 1024) : dxU m c t (ix2 p k) = (launched m c).dout (token t (rowU p)) k := by
  unfold dxU Args.dout
  rw [dxA_of, funext fun k => outU_eq m c t p k, f_eq, tgU_eq]
  rfl

end Upper

/-! The lower tile's rows. -/

section Lower

variable (c : Dev nD) (t : Fin cfg0.N) (p : Fin 256)

theorem midRow_low : midRow (lowY (yaT m c t)) (lowY (ysT m c t)) (woU (hostWo m c)) (woL (hostWo m c)) (low (xT m c t)) (g1T m c t) p
    = (launched m c).mid (token t (rowL p)) := by
  funext k
  unfold midRow Args.mid Args.mix
  simp only [low_at, lowY_at, woU_at, woL_at, x_eq, ya_eq, ys_eq, g1_eq, host_wo]

theorem midL_eq (k : Fin 1024) : midL m c t (ix2 p k) = (launched m c).mid (token t (rowL p)) k := by
  unfold midL mixL
  rw [midB_at, midRow_low]

theorem modL_eq (k : Fin 1024) : k0_pay18 (F := Ideal) (midL m c t) (invL m c t) (aT m c t) (sT m c t) (ix2 p k) = (launched m c).mod (token t (rowL p)) k := by
  unfold midL invL mixL Args.mod
  rw [modB_at, modRow, midRow_low, a_eq, funext fun k => s_eq m c t k]

theorem guL_eq (x : Fin 5632) : guL m c t (ix2 p x) = (launched m c).gu (token t (rowL p)) x := by
  unfold guL chunkL0 chunkL1 Args.gu
  rw [guB_of]
  simp only [modL_eq, host_weight]

theorem actL_eq (l : Fin 2816) : actL m c t (ix2 p l) = actRow ((launched m c).gu (token t (rowL p))) l := by
  unfold actL actOf
  rw [actB_at]
  exact congrArg (actRow · l) (funext fun x => guL_eq m c t p x)

theorem outL_eq (k : Fin 1024) :
    k0_pay43 (F := Ideal) (midL m c t) (actL m c t) (hostWd m c) (g2T m c t) (ix2 p k) = (launched m c).out (token t (rowL p)) k := by
  rw [outB_at]
  unfold Args.out
  simp only [midL_eq, actL_eq, g2_eq, host_wd]

theorem tgL_eq : (fun k => low (tgT m c t) (ix2 p k)) = fun k => (launched m c).target (ix2 (token t (rowL p)) k) := by
  funext k
  rw [low_at, tg_eq]

theorem dxL_eq (k : Fin 1024) : dxL m c t (ix2 p k) = (launched m c).dout (token t (rowL p)) k := by
  unfold dxL Args.dout
  rw [dxB_of, funext fun k => outL_eq m c t p k, f_eq, tgL_eq]
  rfl

end Lower

/-! Both tiles together. -/

/-- An array whose upper tile's rows are `f`'s and whose lower tile's are too holds `f` at every row of the block. -/
theorem stack_at {W : ℕ} (f : Fin 8192 → Fin W → EReal) (t : Fin cfg0.N) (a b : (⟨2, ![256, W]⟩ : Shape).Idx → EReal)
    (ha : ∀ p k, a (ix2 p k) = f (token t (rowU p)) k) (hb : ∀ p k, b (ix2 p k) = f (token t (rowL p)) k) (r : Fin 512) (k : Fin W) :
    stack 512 rfl a b (ix2 r k) = f (token t r) k := by
  unfold stack
  split
  · exact (ha _ _).trans rfl
  · rename_i h
    refine (hb _ _).trans (congrArg (fun r => f (token t r) k) (Fin.ext ?_))
    have h' : ¬(r : ℕ) < 256 := h
    show 256 + ((r : ℕ) - 256) = r
    omega

/-- What a block adds to the loss. -/
theorem lossPart_eq (c : Dev nD) (t : Fin cfg0.N) :
    lossPart m c t = ∑ r, (∑ k, (launched m c).err (token t r) k * (launched m c).err (token t r) k) * halfUnit := by
  have h0 : (0 : ℝ) ≤ 2048⁻¹ := by norm_num
  unfold lossPart
  rw [sum_rows, lossA_of, lossB_of, halfUnit_eq, sum_mul_of_nonneg _ h0, sum_mul_of_nonneg _ h0]
  refine congrArg₂ (· + ·) (Finset.sum_congr rfl fun p _ => ?_) (Finset.sum_congr rfl fun p _ => ?_)
  · rw [funext fun k => outU_eq m c t p k, f_eq, tgU_eq]
    rfl
  · rw [funext fun k => outL_eq m c t p k, f_eq, tgL_eq]
    rfl

/-- What a block adds to the last norm's gradient. -/
theorem lastPart_eq (c : Dev nD) (t : Fin cfg0.N) (k : Fin 1024) :
    lastPart m c t k = ∑ r, (launched m c).dy (token t r) k * ((launched m c).out (token t r) k * InProj.inv ((launched m c).out (token t r))) := by
  unfold lastPart
  rw [sum_rows, lastA_of, lastB_of]
  refine congrArg₂ (· + ·) (Finset.sum_congr rfl fun p _ => ?_) (Finset.sum_congr rfl fun p _ => ?_)
  · rw [funext fun k => outU_eq m c t p k, f_eq, tgU_eq, outU_eq]
    rfl
  · rw [funext fun k => outL_eq m c t p k, f_eq, tgL_eq, outL_eq]
    rfl

/-! The five arrays. -/

/-- The tokens after the mixers. -/
theorem mid_array (c : Dev nD) : (dats m 0 c).arrAt 9 cfg0.N = fun y : S8192x1024.Idx => (launched m c).mid (y 0) (y 1) := by
  refine (dats m 0 c).arrAt_eq_of_covers 9 _ (by decide +kernel) fun t _ y => ?_
  blk_simp
  rw [after0_9, (blocks m c t).1]
  obtain ⟨r, k, rfl⟩ : ∃ (r : Fin 512) (k : Fin 1024), y = ix2 r k := ⟨y 0, y 1, by idx_ext⟩
  refine (stack_at _ t _ _ (midU_eq m c t) (midL_eq m c t) r k).trans (congrArg₂ _ (Fin.ext ?_) (Fin.ext ?_))
  all_goals blk_simp [idx t, token]

/-- The gates and ups. -/
theorem gu_array (c : Dev nD) : (dats m 0 c).arrAt 10 cfg0.N = fun y : S8192x5632.Idx => (launched m c).gu (y 0) (y 1) := by
  refine (dats m 0 c).arrAt_eq_of_covers 10 _ (by decide +kernel) fun t _ y => ?_
  blk_simp
  rw [after0_10, (blocks m c t).2.1]
  obtain ⟨r, k, rfl⟩ : ∃ (r : Fin 512) (k : Fin 5632), y = ix2 r k := ⟨y 0, y 1, by idx_ext⟩
  refine (stack_at _ t _ _ (guU_eq m c t) (guL_eq m c t) r k).trans (congrArg₂ _ (Fin.ext ?_) (Fin.ext ?_))
  all_goals blk_simp [idx t, token]

/-- The gradient of the tokens after the gated layer. -/
theorem dout_array (c : Dev nD) : (dats m 0 c).arrAt 11 cfg0.N = fun y : S8192x1024.Idx => (launched m c).dout (y 0) (y 1) := by
  refine (dats m 0 c).arrAt_eq_of_covers 11 _ (by decide +kernel) fun t _ y => ?_
  blk_simp
  rw [after0_11, (blocks m c t).2.2]
  obtain ⟨r, k, rfl⟩ : ∃ (r : Fin 512) (k : Fin 1024), y = ix2 r k := ⟨y 0, y 1, by idx_ext⟩
  refine (stack_at _ t _ _ (dxU_eq m c t) (dxL_eq m c t) r k).trans (congrArg₂ _ (Fin.ext ?_) (Fin.ext ?_))
  all_goals blk_simp [idx t, token]

/-- The last point. -/
def tLast : Fin cfg0.N := ⟨15, by show 15 < grid0.N; rw [N_0]; decide⟩

/-- The loss, everywhere. -/
theorem loss_array (c : Dev nD) : (dats m 0 c).arrAt 12 cfg0.N = fun _ : S8x128.Idx => (launched m c).loss := by
  refine (dats m 0 c).arrAt_eq_of_after_last 12 tLast (by decide +kernel) _ fun y => ?_
  blk_simp
  rw [after0_12, Pipeline.eq_sum_fin_of_reset_step_apply_last (fun n h => (left m c n h).loss) 16 (fun _ => 0)
    (fun t _ => lossPart m c t) (fun t h y => first_loss m c t h y) (fun t h y => later_loss m c t h y)
    (le_of_eq N_0) tLast N_0.symm _, zero_add]
  show ∑ t : Fin cfg0.N, lossPart m c t = _
  unfold Args.loss
  rw [← sum_tokens]
  exact Finset.sum_congr rfl fun t _ => lossPart_eq m c t

/-- The gradient of the last norm's gain. -/
theorem last_array (c : Dev nD) : (dats m 0 c).arrAt 13 cfg0.N = fun y : S8x1024.Idx => (launched m c).lastGrad (y 0) (y 1) := by
  refine (dats m 0 c).arrAt_eq_of_after_last 13 tLast (by decide +kernel) _ fun y => ?_
  blk_simp
  rw [after0_13, Pipeline.eq_sum_fin_of_reset_step_apply_last (fun n h => (left m c n h).last) 16 (fun _ => 0)
    (fun t y => if (y 0 : ℕ) = 0 then lastPart m c t (y 1) else 0) (fun t h y => first_last m c t h y) (fun t h y => later_last m c t h y)
    (le_of_eq N_0) tLast N_0.symm _, zero_add]
  show (∑ t : Fin cfg0.N, if (y 0 : ℕ) = 0 then lastPart m c t (y 1) else 0) = if (y 0 : ℕ) = 0 then _ else _
  split
  · rw [← sum_tokens]
    exact Finset.sum_congr rfl fun t _ => lastPart_eq m c t _
  · exact Finset.sum_const_zero

end Cert.Fwd.Run

end
-- ==== Proof.Fwd.Ref.lean ====
/- What the reference's forward of the gated layer and its loss compute, at an index. -/
module

public import proofs.«01_k».proof.Proof.Gen.MlpFwdRefIdeal.Read
public import proofs.«01_k».proof.Proof.InProj.Ref
public import proofs.«01_k».proof.Proof.Fwd.Equation

@[expose] public section

set_option maxRecDepth 16384

noncomputable section

namespace Cert.Fwd

open Idealize.ShloMosaic.StableHlo
open Cert.InProj Cert.Mlp Cert.MlpFwdRefIdeal Cert.MlpFwdRefIdeal.Gen Cert.MlpFwdRefIdeal.Read Idealize.ShloMosaic Idealize.ShloMosaic.TcCoe
  Idealize.SL.Sem

variable (a : Args)

/-- The two mixers' outputs side by side, through the output projection. -/
theorem ref_mix (n : Fin 8192) (k : Fin 1024) : val_main_v3 (F := Ideal) a.ya a.ys a.wo (ix2 n k) = a.mix n k := by
  pointwise [val_main_v3, val_main_v2, val_main_v1, val_main_v0]
  rfl

/-- A token after the mixers. -/
theorem ref_mid (n : Fin 8192) (k : Fin 1024) : val_main_v6 (F := Ideal) a.x a.ya a.ys a.wo a.gate1 (ix2 n k) = a.mid n k := by
  pointwise [val_main_v6, val_main_v5, val_main_v4]
  rw [ref_mix]; rfl

/-- A modulated row. -/
theorem ref_mod (n : Fin 8192) (k : Fin 1024) :
    val_main_v23 (F := Ideal) a.x a.ya a.ys a.wo a.gate1 a.norm a.scale a.shift (ix2 n k) = a.mod n k := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_cst, val_main_cst_0, val_main_cst_1,
    val_main_cst_2]
  simp only [ref_mid]
  rfl

/-- The gates and ups. -/
theorem ref_gu (n : Fin 8192) (x : Fin 5632) :
    val_main_v24 (F := Ideal) a.x a.ya a.ys a.wo a.wgu a.gate1 a.norm a.scale a.shift (ix2 n x) = a.gu n x := by
  pointwise [val_main_v24]
  simp only [ref_mod, Args.gu]

/-- The gates. -/
theorem ref_gate (n : Fin 8192) (l : Fin 2816) :
    val_main_v25 (F := Ideal) a.x a.ya a.ys a.wo a.wgu a.gate1 a.norm a.scale a.shift (ix2 n l) = gateOf (a.gu n) l := by
  refine Eq.trans ?_ (ref_gu a n ⟨l, Nat.lt_trans l.isLt (by decide)⟩)
  pointwise [val_main_v25]

/-- The ups. -/
theorem ref_up (n : Fin 8192) (l : Fin 2816) :
    val_main_v27 (F := Ideal) a.x a.ya a.ys a.wo a.wgu a.gate1 a.norm a.scale a.shift (ix2 n l) = upOf (a.gu n) l := by
  refine Eq.trans ?_ (ref_gu a n ⟨2816 + (l : ℕ), Nat.add_lt_add_left l.isLt 2816⟩)
  pointwise [val_main_v27]

/-- The activations. -/
theorem ref_act (n : Fin 8192) (l : Fin 2816) :
    val_main_v28 (F := Ideal) a.x a.ya a.ys a.wo a.wgu a.gate1 a.norm a.scale a.shift (ix2 n l) = actRow (a.gu n) l := by
  pointwise [val_main_v28, val_main_v26, val_main_call0_v5, val_main_call0_v4, val_main_call0_v3, val_main_call0_v2, val_main_call0_v1, val_main_call0_v0,
    val_main_call0_cst, val_main_call0_cst_0]
  rw [ref_gate, ref_up]
  rfl

/-- A token after the gated layer. -/
theorem ref_out (n : Fin 8192) (k : Fin 1024) :
    val_main_v32 (F := Ideal) a.x a.ya a.ys a.wo a.wgu a.wd a.gate1 a.norm a.scale a.shift a.gate2 (ix2 n k) = a.out n k := by
  pointwise [val_main_v32, val_main_v31, val_main_v30, val_main_v29]
  simp only [ref_act, ref_mid]
  rfl

/-- The reciprocal root mean square of a token after the gated layer. -/
theorem ref_inv (n : Fin 8192) :
    val_main_v40 (F := Ideal) a.x a.ya a.ys a.wo a.wgu a.wd a.gate1 a.norm a.scale a.shift a.gate2 (ix2 n 0) = inv (a.out n) := by
  pointwise [val_main_v40, val_main_v39, val_main_v38, val_main_v37, val_main_v36, val_main_v35, val_main_v34, val_main_v33, val_main_cst_3, val_main_cst_4,
    val_main_cst_5]
  simp only [ref_out]
  rfl

/-- The mean of its squares, plus the small constant. -/
theorem ref_meanSq (n : Fin 8192) :
    val_main_v39 (F := Ideal) a.x a.ya a.ys a.wo a.wgu a.wd a.gate1 a.norm a.scale a.shift a.gate2 (ix2 n 0) = meanSq (a.out n) := by
  pointwise [val_main_v39, val_main_v38, val_main_v37, val_main_v36, val_main_v35, val_main_v34, val_main_v33, val_main_cst_3, val_main_cst_4,
    val_main_cst_5]
  simp only [ref_out]
  rfl

/-- A normed token. -/
theorem ref_norm (n : Fin 8192) (k : Fin 1024) :
    val_main_v45 (F := Ideal) a.x a.ya a.ys a.wo a.wgu a.wd a.gate1 a.norm a.scale a.shift a.gate2 (ix2 n k) = a.out n k * inv (a.out n) := by
  pointwise [val_main_v45, val_main_v44]
  rw [ref_out, ref_inv]

/-- The difference from the target. -/
theorem ref_err (n : Fin 8192) (k : Fin 1024) :
    val_main_v49 (F := Ideal) a.x a.ya a.ys a.target a.wo a.wgu a.wd a.gate1 a.norm a.scale a.shift a.gate2 a.final (ix2 n k) = a.err n k := by
  pointwise [val_main_v49, val_main_v48, val_main_v47, val_main_v46]
  rw [ref_norm]
  rfl

/-- The gradient of a normed token. -/
theorem ref_dy (n : Fin 8192) (k : Fin 1024) :
    val_main_v63 (F := Ideal) a.x a.ya a.ys a.target a.wo a.wgu a.wd a.gate1 a.norm a.scale a.shift a.gate2 a.final (ix2 n k) = a.dy n k := by
  rw [Args.dy, ← slope_eq, ← ref_err]
  pointwise [val_main_v63, val_main_v62, val_main_v61, val_main_v60, val_main_v59, val_main_v58, val_main_v52, val_main_v51, val_main_cst_7, val_main_cst_12,
    val_main_cst_13, val_main_cst_14]

/-- The loss. -/
theorem ref_loss (r : Fin 8) (l : Fin 128) :
    val_main_v85 (F := Ideal) a.x a.ya a.ys a.target a.wo a.wgu a.wd a.gate1 a.norm a.scale a.shift a.gate2 a.final (ix2 r l) = a.loss := by
  rw [Args.loss, ← loss_eq]
  pointwise [val_main_v85, val_main_v57, val_main_v56, val_main_v55, val_main_v54, val_main_v53, val_main_v50, val_main_cst_8, val_main_cst_9, val_main_cst_10,
    val_main_cst_11]
  simp only [ref_err]

/-- The gradient of the last norm's gain, with seven rows of zeros below. -/
theorem ref_last (r : Fin 8) (k : Fin 1024) :
    val_main_v88 (F := Ideal) a.x a.ya a.ys a.target a.wo a.wgu a.wd a.gate1 a.norm a.scale a.shift a.gate2 a.final (ix2 r k) = a.lastGrad r k := by
  pointwise [val_main_v88, val_main_v87, val_main_v86, val_main_v69, val_main_v66, val_main_v65, val_main_v64, val_main_cst_15, val_main_cst_16,
    val_main_cst_20]
  simp only [ref_dy, ref_norm, Args.lastGrad, dite_eq_ite, Nat.lt_one_iff, mul_comm, Finset.univ_unique, Finset.sum_singleton]

/-- The gradient of a token after the gated layer. -/
theorem ref_dout (n : Fin 8192) (k : Fin 1024) :
    val_main_v83 (F := Ideal) a.x a.ya a.ys a.target a.wo a.wgu a.wd a.gate1 a.norm a.scale a.shift a.gate2 a.final (ix2 n k) = a.dout n k := by
  rw [Args.dout, grad_eq, gradRowRef, zero_add]
  pointwise [val_main_v83, val_main_v82, val_main_v81, val_main_v80, val_main_v79, val_main_v78, val_main_v77, val_main_v76, val_main_v75, val_main_v74,
    val_main_v73, val_main_v72, val_main_v71, val_main_v70, val_main_v68, val_main_v67, val_main_v46, val_main_v43, val_main_v42, val_main_v41, val_main_cst_6,
    val_main_cst_17, val_main_cst_18, val_main_cst_19]
  simp only [ref_dy, ref_out, Finset.univ_unique, Finset.sum_singleton]
  have hd : (default : Fin 1) = 0 := rfl
  rw [hd, ref_inv, ref_meanSq]
  rfl

theorem mid_of : val_main_v6 (F := Ideal) a.x a.ya a.ys a.wo a.gate1 = fun y : S8192x1024.Idx => a.mid (y 0) (y 1) := array_ext (ref_mid a)

theorem gu_of : val_main_v84 (F := Ideal) a.x a.ya a.ys a.wo a.wgu a.gate1 a.norm a.scale a.shift = fun y : S8192x5632.Idx => a.gu (y 0) (y 1) :=
  array_ext (ref_gu a)

theorem dout_of : val_main_v83 (F := Ideal) a.x a.ya a.ys a.target a.wo a.wgu a.wd a.gate1 a.norm a.scale a.shift a.gate2 a.final
    = fun y : S8192x1024.Idx => a.dout (y 0) (y 1) := array_ext (ref_dout a)

theorem loss_of : val_main_v85 (F := Ideal) a.x a.ya a.ys a.target a.wo a.wgu a.wd a.gate1 a.norm a.scale a.shift a.gate2 a.final
    = fun _ : S8x128.Idx => a.loss := array_ext (F := fun _ _ => a.loss) (ref_loss a)

theorem last_of : val_main_v88 (F := Ideal) a.x a.ya a.ys a.target a.wo a.wgu a.wd a.gate1 a.norm a.scale a.shift a.gate2 a.final
    = fun y : S8x1024.Idx => a.lastGrad (y 0) (y 1) := array_ext (ref_last a)

/-- The arrays the reference is launched with. -/
def given (m : (ℓ : Loc nD τ sig) → Buf (Elt Ideal) ℓ) (c : Dev nD) : Args where
  x := m ((c : Thread nD τ).loc main_arg0)
  ya := m ((c : Thread nD τ).loc main_arg1)
  ys := m ((c : Thread nD τ).loc main_arg2)
  target := m ((c : Thread nD τ).loc main_arg3)
  wo := m ((c : Thread nD τ).loc main_arg4)
  wgu := m ((c : Thread nD τ).loc main_arg5)
  wd := m ((c : Thread nD τ).loc main_arg6)
  gate1 := m ((c : Thread nD τ).loc main_arg7)
  norm := m ((c : Thread nD τ).loc main_arg8)
  scale := m ((c : Thread nD τ).loc main_arg9)
  shift := m ((c : Thread nD τ).loc main_arg10)
  gate2 := m ((c : Thread nD τ).loc main_arg11)
  final := m ((c : Thread nD τ).loc main_arg12)

section

variable (m : (ℓ : Loc nD τ sig) → Buf (Elt Ideal) ℓ) (c : Dev nD)

theorem res_mid : Value.res_main_v6 (launchContents m c) = fun y : S8192x1024.Idx => (given m c).mid (y 0) (y 1) :=
  (val_main_v6_eq _).trans (mid_of (given m c))

theorem res_gu : truncf .bf16 (Value.res_main_v24 (launchContents m c)) bitsLt_bf16_f32 = fun y : S8192x5632.Idx => (given m c).gu (y 0) (y 1) :=
  (val_main_v84_eq _).trans (gu_of (given m c))

end

/-- The reference ends with these results and with its arguments as they were. -/
theorem ref_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v6) = (fun y : S8192x1024.Idx => (given m c).mid (y 0) (y 1))
      ∧ r.2.mem ((c.tc : Thread nD τ).loc main_v84) = (fun y : S8192x5632.Idx => (given m c).gu (y 0) (y 1))
      ∧ r.2.mem ((c.tc : Thread nD τ).loc main_v83) = (fun y : S8192x1024.Idx => (given m c).dout (y 0) (y 1))
      ∧ r.2.mem ((c.tc : Thread nD τ).loc main_v85) = (fun _ : S8x128.Idx => (given m c).loss)
      ∧ r.2.mem ((c.tc : Thread nD τ).loc main_v88) = (fun y : S8x1024.Idx => (given m c).lastGrad (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r hr c => by
    obtain ⟨h0, h1, h2, h3, h4, hargs⟩ := hr c
    exact ⟨h0.trans (res_mid m c), h1.trans (res_gu m c), (h2.trans (val_main_v83_eq _)).trans (dout_of (given m c)),
      (h3.trans (val_main_v85_eq _)).trans (loss_of (given m c)), (h4.trans (val_main_v88_eq _)).trans (last_of (given m c)), hargs⟩) (Value.run m g)

end Cert.Fwd

end
-- ==== Proof.Fwd.Claim.lean ====
/- The gated layer's forward with the loss: the kernel and the reference, launched with the same arrays, end with equal results. -/
module

public import proofs.«01_k».proof.Defs
public import proofs.«01_k».proof.Proof.Fwd.Same
public import proofs.«01_k».proof.Proof.Gen.MlpFwdRefIdeal.Run
public import proofs.«01_k».proof.Proof.Fwd.Array
public import proofs.«01_k».proof.Proof.Fwd.Ref
public import Idealize.ShloMosaic.Lib.Claim

@[expose] public section

noncomputable section

namespace Cert.Fwd

open Cert.MlpFwdIdeal Idealize.ShloMosaic Idealize.SL.Sem

theorem frame_ideal : Cert.quiescent_MlpFwdIdeal := fun m g _ => Run.frame m g

/-- The kernel's own program is the same text, so its frame is the one run read at the machine's floats. -/
theorem frame_kernel : Cert.quiescent_MlpFwd := fun m g _ => by
  rw [defs_same, main_same]
  exact Run.frame (F := Bits) m g

theorem ref_frame : Cert.quiescent_MlpFwdRefIdeal := fun m g _ =>
  (θ_run _ _ _).mono (fun r h => ⟨fun c => (h c).2.2.2.2.2, sem_eq_zero_of_no_sems (by decide) r.2⟩) (Cert.MlpFwdRefIdeal.Value.run m g)

theorem agree : Cert.algebraic_MlpFwdIdeal_MlpFwdRefIdeal := by
  intro m g m' g' _ hargs
  have he (c) : given m' c = Run.launched m c := by
    obtain ⟨h0, h1, h2, h3, h4, h5, h6, h7, h8, h9, h10, h11, h12⟩ := hargs c
    unfold given Run.launched
    congr 1
  refine ⟨fun c => (fun y : S8192x1024.Idx => (Run.launched m c).mid (y 0) (y 1)), fun c => (fun y : S8192x5632.Idx => (Run.launched m c).gu (y 0) (y 1)),
    fun c => (fun y : S8192x1024.Idx => (Run.launched m c).dout (y 0) (y 1)), fun c => (fun _ : S8x128.Idx => (Run.launched m c).loss),
    fun c => (fun y : S8x1024.Idx => (Run.launched m c).lastGrad (y 0) (y 1)),
    (θ_run _ _ _).mono (fun r h c => ?_) (Run.run m g),
    (θ_run _ _ _).mono (fun r h c => ?_) (ref_run m' g')⟩
  · obtain ⟨h0, h1, h2, h3, h4, hkept⟩ := h c
    exact ⟨h0.trans (Run.mid_array m c), h1.trans (Run.gu_array m c), h2.trans (Run.dout_array m c), h3.trans (Run.loss_array m c),
      h4.trans (Run.last_array m c), hkept⟩
  · have hc := h c
    rw [he c] at hc
    exact hc

end Cert.Fwd

end
-- ==== Proof.GateUp.Same.lean ====
/- The kernel's program and its reading over the reals are one text: every part of the one is the same part of the other, so one run serves both. -/
module

public import proofs.«01_k».proof.Proof.Gen.GateUpGrad
public import proofs.«01_k».proof.Proof.Gen.GateUpGradIdeal

@[expose] public section
set_option maxRecDepth 16384
set_option maxHeartbeats 1000000

noncomputable section

namespace Cert.GateUp

open Idealize.ShloMosaic Idealize.SL.Sem

variable {F : FTy → Type} [FloatOps F]

theorem body_same : @Cert.GateUpGrad.cc0_wgrad_gate_up F _ _ = @Cert.GateUpGradIdeal.cc0_wgrad_gate_up F _ _ := by
  delta Cert.GateUpGrad.cc0_wgrad_gate_up Cert.GateUpGradIdeal.cc0_wgrad_gate_up; rfl

theorem calls_same : @Cert.GateUpGrad.defs₀ F _ _ = @Cert.GateUpGradIdeal.defs₀ F _ _ := by
  delta Cert.GateUpGrad.defs₀ Cert.GateUpGradIdeal.defs₀
  rw [body_same]
  exact congrArg Defs.onTc (funext fun l => match l with
    | 0 => funext fun ⟨t, s⟩ => rfl
    | ⟨n + 1, h⟩ => absurd h (Nat.not_lt.2 (Nat.le_add_left _ _)))

theorem defs_same : @Cert.GateUpGrad.defs F _ _ = @Cert.GateUpGradIdeal.defs F _ _ := by
  delta Cert.GateUpGrad.defs
  rw [calls_same]
  rfl

theorem main_same : @Cert.GateUpGrad.main F _ = @Cert.GateUpGradIdeal.main F _ := by
  delta Cert.GateUpGrad.main Cert.GateUpGradIdeal.main
  rfl

end Cert.GateUp

end
-- ==== Proof.GateUp.Setup.lean ====
/- What the run of the gated layer's weight-gradient kernel is stated over: the arrays as the call finds them, the blocks of its two
   inputs, the points at which its two conditions hold, and the buffers and counters it owns. -/
module

public import proofs.«01_k».proof.Proof.Gen.GateUpGradIdeal.Launch
public import proofs.«01_k».proof.Proof.Gen.GateUpGradIdeal.Skeleton
public import proofs.«01_k».proof.Proof.Gen.GateUpGradIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.GateUp.Run

open Cert.GateUpGradIdeal Cert.GateUpGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays as the call finds them: the program is the call alone. -/
abbrev V (c : Dev nD) (b : Ref sig .tc) : Buf (Elt F) ((c : Thread nD τ).loc b) := m ((c : Thread nD τ).loc b)

set_option maxHeartbeats 800000 in
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's block is in place at every point. -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result left in the large memory, which the kernel's own copies write. -/
def R0 : Finset (Ref sig .tc) := {main_v0}

/-- There is no array in the large memory that the kernel only reads. -/
def H0 : Finset (Ref sig .tc) := {}

theorem H0_sub : H0 ⊆ Pipeline.restRefs sig spec0 := by decide
theorem R0_sub : R0 ⊆ Pipeline.restRefs sig spec0 \ H0 := by decide

/-- The first condition holds at the first point only. -/
abbrev cond0_0 (i : grid0.Coords) : Prop := (Scalar.cmpi .ne (Scalar.extui (Scalar.cmpi .eq (BitVec.ofNat 32 (i 0).val) 0#32)) 0#32) = 1#1

theorem hcond0_0 (t : Fin grid0.N) : cond0_0 (grid0.coords t) ↔ t.val % 8 = 0 := by
  have ht : t.val < 8 := Nat.lt_of_lt_of_eq t.isLt N_0
  have e0 : (grid0.coords t 0).val = t.val / 1 % 8 := Pipeline.Grid.coords_val t 0 (by decide) rfl
  simp only [cond0_0, e0]
  word_cmp

/-- The second condition holds at the last point only. -/
abbrev cond0_1 (i : grid0.Coords) : Prop := (Scalar.cmpi .ne (Scalar.extui (Scalar.cmpi .eq (BitVec.ofNat 32 (i 0).val) 7#32)) 0#32) = 1#1

theorem hcond0_1 (t : Fin grid0.N) : cond0_1 (grid0.coords t) ↔ t.val % 8 = 7 := by
  have ht : t.val < 8 := Nat.lt_of_lt_of_eq t.isLt N_0
  have e0 : (grid0.coords t 0).val = t.val / 1 % 8 := Pipeline.Grid.coords_val t 0 (by decide) rfl
  simp only [cond0_1, e0]
  word_cmp

/-- Where the two inputs' blocks are at a point. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x5632 .bf16 := win0_1.stage (cfg0.slots t 1)
abbrev hs0_1 (t : Fin cfg0.N) : (ms0_1 t).IsWhole := hstage0_1 ((cfg0.slots t 1).cast nbuf0_1)

/-- The buffer the sum is kept in, and the result. -/
abbrev scM0_0 : Memref sig .tc .vmem S1024x5632 .f32 := Memref.whole cc0_scratch0
abbrev VS0_0 : View sig .tc .vmem S1024x5632 .f32 := scM0_0.view
abbrev hbM0_0 : Memref sig .tc .hbm S4x1024x1408 .f32 := Memref.whole main_v0

/-- A buffer of the large memory held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The counters of the kernel's own copies. -/
abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3] (by decide) (by decide)]; rfl

theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl

/-- The result held at the contents `G` gives it. -/
theorem routed_eq (c : Dev nD) (G : (b : Ref sig .tc) → Buf (Elt F) ((c : Thread nD τ).loc b)) :
    (Pipeline.routed R0 c G : sProp 𝕄) = iprop(hbPt0 c hbM0_0 (G main_v0)) := by
  unfold Pipeline.routed; rw [BI.bigSep_eq_bigSepL_of_eq [main_v0] (by decide) (by decide)]
  simp only [BI.bigSepL_singleton]; try rfl

/-- What a call hands its first point and takes back after its last one, listed: the sum at anything, the register of the generator, the
    counters at zero and the result at what `G` gives it. -/
theorem ends_eq (c : Dev nD) (G : (c : Dev nD) → (b : Ref sig .tc) → Buf (Elt F) ((c : Thread nD τ).loc b)) :
    (Pipeline.ΦDRG osem0 spec0 H0 R0 (V m) G c : sProp 𝕄)
      = iprop(iprop((∃ d, owns (c : Thread nD τ) scM0_0 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(emp) ∗ iprop(hbPt0 c hbM0_0 (G c main_v0))) := by
  rw [Pipeline.ΦDRG_eq, scopedRest0_eq, ownSems00_eq, hbmPts0_eq, routed_eq]; simp only [scM0_0, owns_whole]; try rfl

end Cert.GateUp.Run

end
-- ==== Proof.GateUp.Runs.lean ====
/- The three runs of the body: at the first point, between, and at the last point, whose four copies carry the sum out by columns. -/
module

public import proofs.«01_k».proof.Proof.GateUp.Setup

@[expose] public section

set_option maxRecDepth 16384

noncomputable section

namespace Cert.GateUp.Run

open Cert.GateUpGradIdeal Cert.GateUpGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The first point: the sum is cleared and the first product added; the result is untouched. -/
def kernelFirst (c : Dev nD) (i : grid0.Coords) (arg1 : Memref sig .tc .vmem S1024x1024 .bf16) (harg1 : arg1.IsWhole)
    (arg2 : Memref sig .tc .vmem S1024x5632 .bf16) (harg2 : arg2.IsWhole) (arg4 : Memref sig .tc .vmem S1024x5632 .f32) (harg4 : arg4.IsWhole)
    (hc0 : cond0_0 i) (hc1 : ¬cond0_1 i) (x0 : Vec F S1024x1024 .bf16) (x1 : Vec F S1024x5632 .bf16) (fw : HbBuf0 (F := F) c hbM0_0) :
    { L : List (View.Piece (Elt F) S1024x5632 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ semVal ((c : Thread nD τ), SemLoc.dma 4) 0 ∗ semVal ((c : Thread nD τ), SemLoc.dma 5) 0 ∗ semVal ((c : Thread nD τ), SemLoc.dma 6) 0
              ∗ semVal ((c : Thread nD τ), SemLoc.dma 7) 0 ∗ hbPt0 c hbM0_0 fw ∗ owes (c : Thread nD τ) 0 W
            ∗ (iprop(owns (c : Thread nD τ) arg1 fullShare x0 ∗ owns (c : Thread nD τ) arg2 fullShare x1
              ∗ (∃ f, arg4.view.loc (c : Thread nD τ) ↦[arg4.view.set]{fullShare} arg4.view.writes (Elt F) f L) ∗ semVal ((c : Thread nD τ), SemLoc.dma 4) 0 ∗ semVal ((c : Thread nD τ), SemLoc.dma 5) 0 ∗ semVal ((c : Thread nD τ), SemLoc.dma 6) 0
              ∗ semVal ((c : Thread nD τ), SemLoc.dma 7) 0
              ∗ hbPt0 c hbM0_0 fw ∗ (∃ W', owes (c : Thread nD τ) 0 W')) -∗ K ⟨⟩))
          ⊢ wp frame (wpE (defs₀ (F := F)) Variants.none c none) Set.univ
            (cc0_wgrad_gate_up i arg1 harg1 arg2 harg2 (Memref.whole main_v0) (Memref.isWhole_whole _) arg4 harg4 cc0_scratch1) K } := by
  refine ⟨?_, fun W K => ?run⟩
  case run =>
    simp only [cc0_wgrad_gate_up_eq_skeleton]; unfold cc0_wgrad_gate_up_skel
    simp only [k0_part1_eq_skeleton]; unfold k0_part1_skel
    unfold owns
    iintro ⟨⟨%f0, %hf0, H0⟩, ⟨%f1, %hf1, H1⟩, ⟨%ds, %fs, -, HS⟩, Hq0, Hq1, Hq2, Hq3, Hh, HW, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS]; · iexists _; iexact HS
    isplitl [Hq0]; · iexact Hq0
    isplitl [Hq1]; · iexact Hq1
    isplitl [Hq2]; · iexact Hq2
    isplitl [Hq3]; · iexact Hq3
    isplitl [Hh]; · iexact Hh
    iexists _; iexact HW

set_option maxHeartbeats 1000000 in
/-- A point between: the product of its two blocks is added to the sum; the result is untouched. -/
def kernelMiddle (c : Dev nD) (i : grid0.Coords) (arg1 : Memref sig .tc .vmem S1024x1024 .bf16) (harg1 : arg1.IsWhole)
    (arg2 : Memref sig .tc .vmem S1024x5632 .bf16) (harg2 : arg2.IsWhole) (arg4 : Memref sig .tc .vmem S1024x5632 .f32) (harg4 : arg4.IsWhole)
    (hc0 : ¬cond0_0 i) (hc1 : ¬cond0_1 i) (x0 : Vec F S1024x1024 .bf16) (x1 : Vec F S1024x5632 .bf16) (xs : Vec F S1024x5632 .f32) (fw : HbBuf0 (F := F) c hbM0_0) :
    { L : List (View.Piece (Elt F) S1024x5632 .f32) //
      ∀ (W : Waits sig Unit) (K : PUnit → sProp 𝕄),
        iprop(owns (c : Thread nD τ) arg1 fullShare x0 ∗ owns (c : Thread nD τ) arg2 fullShare x1 ∗ owns (c : Thread nD τ) arg4 fullShare xs ∗ semVal ((c : Thread nD τ), SemLoc.dma 4) 0 ∗ semVal ((c : Thread nD τ), SemLoc.dma 5) 0 ∗ semVal ((c : Thread nD τ), SemLoc.dma 6) 0
              ∗ semVal ((c : Thread nD τ), SemLoc.dma 7) 0 ∗ hbPt0 c hbM0_0 fw ∗ owes (c : Thread nD τ) 0 W
            ∗ (iprop(owns (c : Thread nD τ) arg1 fullShare x0 ∗ owns (c : Thread nD τ) arg2 fullShare x1
              ∗ (∃ f, arg4.view.loc (c : Thread nD τ) ↦[arg4.view.set]{fullShare} arg4.view.writes (Elt F) f L) ∗ semVal ((c : Thread nD τ), SemLoc.dma 4) 0 ∗ semVal ((c : Thread nD τ), SemLoc.dma 5) 0 ∗ semVal ((c : Thread nD τ), SemLoc.dma 6) 0
              ∗ semVal ((c : Thread nD τ), SemLoc.dma 7) 0
              ∗ hbPt0 c hbM0_0 fw ∗ (∃ W', owes (c : Thread nD τ) 0 W')) -∗ K ⟨⟩))
          ⊢ wp frame (wpE (defs₀ (F := F)) Variants.none c none) Set.univ
            (cc0_wgrad_gate_up i arg1 harg1 arg2 harg2 (Memref.whole main_v0) (Memref.isWhole_whole _) arg4 harg4 cc0_scratch1) K } := by
  refine ⟨?_, fun W K => ?run⟩
  case run =>
    simp only [cc0_wgrad_gate_up_eq_skeleton]; unfold cc0_wgrad_gate_up_skel
    simp only [k0_part1_eq_skeleton]; unfold k0_part1_skel
    unfold owns
    iintro ⟨⟨%f0, %hf0, H0⟩, ⟨%f1, %hf1, H1⟩, ⟨%fs, %hfs, HS⟩, Hq0, Hq1, Hq2, Hq3, Hh, HW, Hk⟩
    obtain rfl := harg1.eq_unread hf0; obtain rfl := harg2.eq_unread hf1; obtain rfl := harg4.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS]; · iexists _; iexact HS
    isplitl [Hq0]; · iexact Hq0
    isplitl [Hq1]; · iexact Hq1
    isplitl [Hq2]; · iexact Hq2
    isplitl [Hq3]; · iexact Hq3
    isplitl [Hh]; · iexact Hh
    iexists _; iexact HW

set_option maxHeartbeats 1000000 in
set_option sl_exec.dmaWindow true in
/-- The last point: its product is added, then four copies, all under way together, carry a quarter of the columns each to the result. -/
def kernelLast (c : Dev nD) (i : grid0.Coords) (arg1 : Memref sig .tc .vmem S1024x1024 .bf16) (harg1 : arg1.IsWhole)
    (arg2 : Memref sig .tc .vmem S1024x5632 .bf16) (harg2 : arg2.IsWhole) (arg4 : Memref sig .tc .vmem S1024x5632 .f32) (harg4 : arg4.IsWhole)
    (hc0 : ¬cond0_0 i) (hc1 : cond0_1 i) (x0 : Vec F S1024x1024 .bf16) (x1 : Vec F S1024x5632 .bf16) (xs : Vec F S1024x5632 .f32) (fw : HbBuf0 (F := F) c hbM0_0) :
    Σ' (L : List (View.Piece (Elt F) S1024x5632 .f32)), { gw : HbBuf0 (F := F) c hbM0_0 //
      ∀ (W : Waits sig Unit) (K : PUnit → sProp 𝕄),
        iprop(owns (c : Thread nD τ) arg1 fullShare x0 ∗ owns (c : Thread nD τ) arg2 fullShare x1 ∗ owns (c : Thread nD τ) arg4 fullShare xs ∗ semVal ((c : Thread nD τ), SemLoc.dma 4) 0 ∗ semVal ((c : Thread nD τ), SemLoc.dma 5) 0 ∗ semVal ((c : Thread nD τ), SemLoc.dma 6) 0
              ∗ semVal ((c : Thread nD τ), SemLoc.dma 7) 0 ∗ hbPt0 c hbM0_0 fw ∗ owes (c : Thread nD τ) 0 W
            ∗ (iprop(owns (c : Thread nD τ) arg1 fullShare x0 ∗ owns (c : Thread nD τ) arg2 fullShare x1
              ∗ (∃ f, arg4.view.loc (c : Thread nD τ) ↦[arg4.view.set]{fullShare} arg4.view.writes (Elt F) f L) ∗ semVal ((c : Thread nD τ), SemLoc.dma 4) 0 ∗ semVal ((c : Thread nD τ), SemLoc.dma 5) 0 ∗ semVal ((c : Thread nD τ), SemLoc.dma 6) 0
              ∗ semVal ((c : Thread nD τ), SemLoc.dma 7) 0
              ∗ hbPt0 c hbM0_0 gw ∗ (∃ W', owes (c : Thread nD τ) 0 W')) -∗ K ⟨⟩))
          ⊢ wp frame (wpE (defs₀ (F := F)) Variants.none c none) Set.univ
            (cc0_wgrad_gate_up i arg1 harg1 arg2 harg2 (Memref.whole main_v0) (Memref.isWhole_whole _) arg4 harg4 cc0_scratch1) K } := by
  refine ⟨?_, ?_, fun W K => ?run⟩
  case run =>
    simp only [cc0_wgrad_gate_up_eq_skeleton]; unfold cc0_wgrad_gate_up_skel
    simp only [k0_part1_eq_skeleton]; unfold k0_part1_skel
    unfold owns
    iintro ⟨⟨%f0, %hf0, H0⟩, ⟨%f1, %hf1, H1⟩, ⟨%fs, %hfs, HS⟩, Hq0, Hq1, Hq2, Hq3, Hh, HW, Hk⟩
    obtain rfl := harg1.eq_unread hf0; obtain rfl := harg2.eq_unread hf1; obtain rfl := harg4.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS]; · iexists _; iexact HS
    isplitl [Hq0]; · iexact Hq0
    isplitl [Hq1]; · iexact Hq1
    isplitl [Hq2]; · iexact Hq2
    isplitl [Hq3]; · iexact Hq3
    isplitl [Hh]; · iexact Hh
    iexists _; iexact HW

end Cert.GateUp.Run

end
-- ==== Proof.GateUp.Frame.lean ====
/- The run of the gated layer's weight-gradient kernel: every run ends, with the sum that the last point left carried to the result and the
   arguments unchanged. Over any float values, so that it serves the kernel and its reading over the reals alike. -/
module

public import proofs.«01_k».proof.Proof.GateUp.Runs
public import Idealize.ShloMosaic.Lib.Claim

@[expose] public section

set_option maxRecDepth 16384

noncomputable section

namespace Cert.GateUp.Run

open Cert.GateUpGradIdeal Cert.GateUpGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point leaves: the sum, and the result as far as it is written. -/
structure Left (F : FTy → Type) [FloatOps F] (c : Dev nD) where
  /-- The sum over the rows of the points so far. -/
  acc : Vec F S1024x5632 .f32
  /-- The result in the large memory. -/
  out : HbBuf0 (F := F) c hbM0_0

/-- The first point's run. -/
def runFirst (c : Dev nD) (t : Fin cfg0.N) (h0 : t.val % 8 = 0) (h1 : ¬t.val % 8 = 7) :=
  kernelFirst c (grid0.coords t) (ms0_0 t) (hs0_0 t) (ms0_1 t) (hs0_1 t) scM0_0 (Memref.isWhole_whole _) ((hcond0_0 t).mpr h0)
    (fun e => h1 ((hcond0_1 t).mp e)) (iblk m c 0 t) (iblk m c 1 t) (V m c main_v0)

/-- A middle point's run, over what the point before left. -/
def runMiddle (c : Dev nD) (t : Fin cfg0.N) (h0 : ¬t.val % 8 = 0) (h1 : ¬t.val % 8 = 7) (l : Left F c) :=
  kernelMiddle c (grid0.coords t) (ms0_0 t) (hs0_0 t) (ms0_1 t) (hs0_1 t) scM0_0 (Memref.isWhole_whole _) (fun e => h0 ((hcond0_0 t).mp e))
    (fun e => h1 ((hcond0_1 t).mp e)) (iblk m c 0 t) (iblk m c 1 t) l.acc l.out

/-- The last point's run. -/
def runLast (c : Dev nD) (t : Fin cfg0.N) (h0 : ¬t.val % 8 = 0) (h1 : t.val % 8 = 7) (l : Left F c) :=
  kernelLast c (grid0.coords t) (ms0_0 t) (hs0_0 t) (ms0_1 t) (hs0_1 t) scM0_0 (Memref.isWhole_whole _) (fun e => h0 ((hcond0_0 t).mp e))
    ((hcond0_1 t).mpr h1) (iblk m c 0 t) (iblk m c 1 t) l.acc l.out

/-! Every run stores the sum whole. -/

theorem first_covers (c : Dev nD) (t : Fin cfg0.N) (h0 : t.val % 8 = 0) (h1 : ¬t.val % 8 = 7) (y : S1024x5632.Idx) :
    ∃ pc ∈ (runFirst m c t h0 h1).1, y ∈ pc.1.set :=
  View.cover_of_tiledL (runFirst m c t h0 h1).1 S1024x5632.size (by sl_kernel_rfl) y

theorem middle_covers (c : Dev nD) (t : Fin cfg0.N) (h0 : ¬t.val % 8 = 0) (h1 : ¬t.val % 8 = 7) (l : Left F c) (y : S1024x5632.Idx) :
    ∃ pc ∈ (runMiddle m c t h0 h1 l).1, y ∈ pc.1.set :=
  View.cover_of_tiledL (runMiddle m c t h0 h1 l).1 S1024x5632.size (by sl_kernel_rfl) y

theorem last_covers (c : Dev nD) (t : Fin cfg0.N) (h0 : ¬t.val % 8 = 0) (h1 : t.val % 8 = 7) (l : Left F c) (y : S1024x5632.Idx) :
    ∃ pc ∈ (runLast m c t h0 h1 l).1, y ∈ pc.1.set :=
  View.cover_of_tiledL (runLast m c t h0 h1 l).1 S1024x5632.size (by sl_kernel_rfl) y

/-- What the first point leaves, -/
def first (c : Dev nD) (t : Fin cfg0.N) (h0 : t.val % 8 = 0) (h1 : ¬t.val % 8 = 7) : Left F c where
  acc := VS0_0.read (Elt F) (VS0_0.writes (Elt F) VS0_0.junk (runFirst m c t h0 h1).1)
  out := V m c main_v0

/-- a middle one -/
def middle (c : Dev nD) (t : Fin cfg0.N) (h0 : ¬t.val % 8 = 0) (h1 : ¬t.val % 8 = 7) (l : Left F c) : Left F c where
  acc := VS0_0.read (Elt F) (VS0_0.writes (Elt F) VS0_0.junk (runMiddle m c t h0 h1 l).1)
  out := l.out

/-- and the last one. -/
def last (c : Dev nD) (t : Fin cfg0.N) (h0 : ¬t.val % 8 = 0) (h1 : t.val % 8 = 7) (l : Left F c) : Left F c where
  acc := VS0_0.read (Elt F) (VS0_0.writes (Elt F) VS0_0.junk (runLast m c t h0 h1 l).1)
  out := (runLast m c t h0 h1 l).2.1

/-- What the buffers hold after point `n`. -/
def left (c : Dev nD) : (n : ℕ) → n < cfg0.N → Left F c
  | 0, hn => first m c ⟨0, hn⟩ (Nat.zero_mod _) (fun h => absurd ((Nat.zero_mod 8).symm.trans h) (by decide))
  | n + 1, hn =>
    if h0 : (n + 1) % 8 = 0 then first m c ⟨n + 1, hn⟩ h0 (by dsimp only; omega)
    else if h1 : (n + 1) % 8 = 7 then last m c ⟨n + 1, hn⟩ h0 h1 (left c n (Nat.lt_of_succ_lt hn))
    else middle m c ⟨n + 1, hn⟩ h0 h1 (left c n (Nat.lt_of_succ_lt hn))

theorem left_first (c : Dev nD) (t : Fin cfg0.N) (h0 : t.val % 8 = 0) (h1 : ¬t.val % 8 = 7) : left m c t.val t.isLt = first m c t h0 h1 := by
  obtain ⟨n, hn⟩ := t
  cases n with
  | zero => exact rfl
  | succ n => exact (dif_pos h0).trans rfl

theorem left_middle (c : Dev nD) (t : Fin cfg0.N) (h0 : ¬t.val % 8 = 0) (h1 : ¬t.val % 8 = 7) :
    left m c t.val t.isLt = middle m c t h0 h1 (left m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem left_last (c : Dev nD) (t : Fin cfg0.N) (h0 : ¬t.val % 8 = 0) (h1 : t.val % 8 = 7) :
    left m c t.val t.isLt = last m c t h0 h1 (left m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What a point starts from: before the first one any sum and the result as the call found it, later both as the point before left them;
    with them the register of the generator and the counters of the copies at zero. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare (left m c n hn).acc) ∗ (∃ r, prngReg c r)
      ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
      ∗ iprop(emp) ∗ iprop(hbPt0 c hbM0_0 (left m c n hn).out))

theorem PhiS_zero (c : Dev nD) (n : ℕ) (h : n ≤ cfg0.N) (hz : n = 0) : PhiS m c n h = Pipeline.ΦDRG osem0 spec0 H0 R0 (V m) (V m) c := by
  subst hz; rfl

theorem PhiS_succ (c : Dev nD) (n : ℕ) (hn : n < cfg0.N) :
    PhiS m c (n + 1) hn = iprop(iprop(owns (c : Thread nD τ) scM0_0 fullShare (left m c n hn).acc) ∗ (∃ r, prngReg c r)
      ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
      ∗ iprop(emp) ∗ iprop(hbPt0 c hbM0_0 (left m c n hn).out)) := rfl

theorem PhiS_pos (c : Dev nD) (n : ℕ) (h : n ≤ cfg0.N) (hz : n ≠ 0) :
    PhiS m c n h = iprop(iprop(owns (c : Thread nD τ) scM0_0 fullShare (left m c (n - 1) (by omega)).acc) ∗ (∃ r, prngReg c r)
      ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
      ∗ iprop(emp) ∗ iprop(hbPt0 c hbM0_0 (left m c (n - 1) (by omega)).out)) := by
  cases n with
  | zero => exact absurd rfl hz
  | succ n => rfl

/-- The proof data: the two input arrays as the call finds them, their blocks left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- The body at any point: it finds its blocks, the sum and the result of the point before, and leaves what `left` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ, after0_0, after0_1]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · have h1 : ¬t.val % 8 = 7 := by omega
    have hz : t.val = 0 := by omega
    rw [PhiS_castSucc m c t, PhiS_zero m c _ _ hz, ends_eq m c (V m)]
    rw [left_first m c t h0 h1]
    dsimp only [first]
    iintro ⟨⟨HS, Hg, ⟨Hq0, Hq1, Hq2, Hq3⟩, -, Hh⟩, ⟨%W, -, HW⟩, ⟨%d0, H0⟩, ⟨%d1, H1⟩⟩
    iapply ((runFirst m c t h0 h1).2 W _)
    isplitl [H0]; · iexact H0
    isplitl [H1]; · iexact H1
    isplitl [HS]; · iexact HS
    isplitl [Hq0]; · iexact Hq0
    isplitl [Hq1]; · iexact Hq1
    isplitl [Hq2]; · iexact Hq2
    isplitl [Hq3]; · iexact Hq3
    isplitl [Hh]; · iexact Hh
    isplitl [HW]; · iexact HW
    iintro ⟨H0, H1, ⟨%es, HS⟩, Hq0, Hq1, Hq2, Hq3, Hh, ⟨%W', HW'⟩⟩
    isplitl [HS Hg Hq0 Hq1 Hq2 Hq3 Hh]
    · isplitl [HS]
      · unfold owns; iexists _; isplitr
        swap; · iexact HS
        ipureintro; exact View.read_writes_of_cover _ _ _ _ _ (first_covers m c t h0 h1)
      isplitl [Hg]; · iexact Hg
      isplitl [Hq0 Hq1 Hq2 Hq3]
      · isplitl [Hq0]; · iexact Hq0
        isplitl [Hq1]; · iexact Hq1
        isplitl [Hq2]; · iexact Hq2
        iexact Hq3
      isplitr [Hh]; · iempintro
      iexact Hh
    isplitl [HW']
    · iexists W'; isplitr; · ipureintro; exact fun _ _ => Or.inl trivial
      iexact HW'
    isplitl [H0]; · iexact H0
    iexact H1
  by_cases h1 : t.val % 8 = 7
  · have hz : t.val ≠ 0 := by rintro h; omega
    rw [PhiS_castSucc m c t, PhiS_pos m c _ _ hz]
    rw [left_last m c t h0 h1]
    dsimp only [last]
    iintro ⟨⟨HS, Hg, ⟨Hq0, Hq1, Hq2, Hq3⟩, -, Hh⟩, ⟨%W, -, HW⟩, ⟨%d0, H0⟩, ⟨%d1, H1⟩⟩
    iapply ((runLast m c t h0 h1 (left m c (t.val - 1) (Nat.lt_of_le_of_lt (Nat.sub_le _ _) t.isLt))).2.2 W _)
    isplitl [H0]; · iexact H0
    isplitl [H1]; · iexact H1
    isplitl [HS]; · iexact HS
    isplitl [Hq0]; · iexact Hq0
    isplitl [Hq1]; · iexact Hq1
    isplitl [Hq2]; · iexact Hq2
    isplitl [Hq3]; · iexact Hq3
    isplitl [Hh]; · iexact Hh
    isplitl [HW]; · iexact HW
    iintro ⟨H0, H1, ⟨%es, HS⟩, Hq0, Hq1, Hq2, Hq3, Hh, ⟨%W', HW'⟩⟩
    isplitl [HS Hg Hq0 Hq1 Hq2 Hq3 Hh]
    · isplitl [HS]
      · unfold owns; iexists _; isplitr
        swap; · iexact HS
        ipureintro; exact View.read_writes_of_cover _ _ _ _ _ (last_covers m c t h0 h1 _)
      isplitl [Hg]; · iexact Hg
      isplitl [Hq0 Hq1 Hq2 Hq3]
      · isplitl [Hq0]; · iexact Hq0
        isplitl [Hq1]; · iexact Hq1
        isplitl [Hq2]; · iexact Hq2
        iexact Hq3
      isplitr [Hh]; · iempintro
      iexact Hh
    isplitl [HW']
    · iexists W'; isplitr; · ipureintro; exact fun _ _ => Or.inl trivial
      iexact HW'
    isplitl [H0]; · iexact H0
    iexact H1
  · have hz : t.val ≠ 0 := by rintro h; omega
    rw [PhiS_castSucc m c t, PhiS_pos m c _ _ hz]
    rw [left_middle m c t h0 h1]
    dsimp only [middle]
    iintro ⟨⟨HS, Hg, ⟨Hq0, Hq1, Hq2, Hq3⟩, -, Hh⟩, ⟨%W, -, HW⟩, ⟨%d0, H0⟩, ⟨%d1, H1⟩⟩
    iapply ((runMiddle m c t h0 h1 (left m c (t.val - 1) (Nat.lt_of_le_of_lt (Nat.sub_le _ _) t.isLt))).2 W _)
    isplitl [H0]; · iexact H0
    isplitl [H1]; · iexact H1
    isplitl [HS]; · iexact HS
    isplitl [Hq0]; · iexact Hq0
    isplitl [Hq1]; · iexact Hq1
    isplitl [Hq2]; · iexact Hq2
    isplitl [Hq3]; · iexact Hq3
    isplitl [Hh]; · iexact Hh
    isplitl [HW]; · iexact HW
    iintro ⟨H0, H1, ⟨%es, HS⟩, Hq0, Hq1, Hq2, Hq3, Hh, ⟨%W', HW'⟩⟩
    isplitl [HS Hg Hq0 Hq1 Hq2 Hq3 Hh]
    · isplitl [HS]
      · unfold owns; iexists _; isplitr
        swap; · iexact HS
        ipureintro; exact View.read_writes_of_cover _ _ _ _ _ (middle_covers m c t h0 h1 _)
      isplitl [Hg]; · iexact Hg
      isplitl [Hq0 Hq1 Hq2 Hq3]
      · isplitl [Hq0]; · iexact Hq0
        isplitl [Hq1]; · iexact Hq1
        isplitl [Hq2]; · iexact Hq2
        iexact Hq3
      isplitr [Hh]; · iempintro
      iexact Hh
    isplitl [HW']
    · iexists W'; isplitr; · ipureintro; exact fun _ _ => Or.inl trivial
      iexact HW'
    isplitl [H0]; · iexact H0
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the last point leaves. -/
abbrev final (c : Dev nD) : Left F c := left m c ((Fin.last cfg0.N).val - 1) (by rw [Fin.val_last]; have : cfg0.N = 8 := N_0; omega)

/-- The arrays after the call: the result at what the last point left in it. -/
def G (c : Dev nD) : (b : Ref sig .tc) → Buf (Elt F) ((c : Thread nD τ).loc b) :=
  Function.update ((V m) c) main_v0 (final m c).out

theorem G_result (c : Dev nD) : G m c main_v0 = (final m c).out := by
  unfold G; simp only [Function.update_self]

theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦDRG osem0 spec0 H0 R0 (V m) (G m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), ends_eq, G_result]
  iintro ⟨HS, Hg, Hq, He, Hh⟩
  isplitl [HS]; · iexists _; iexact HS
  isplitl [Hg]; · iexact Hg
  isplitl [Hq]; · iexact Hq
  isplitl [He]; · iexact He
  iexact Hh

set_option backward.isDefEq.respectTransparency.types false in
/-- Every run ends, with the result at what the last point left, and every counter at zero. -/
theorem run_main_quiescent : θ_run defs (onTc (τ := τ) (main (F := F))) (s₀ m ρ)
    (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := hin m) (hout := hout m)

/-- Every run ends with the result at what the last point left, the arguments as they were and every counter at zero. -/
theorem run_full : θ_run defs (onTc (τ := τ) (main (F := F))) ⟨m, fun _ => 0, ρ⟩ (fun r => (∀ c : Dev nD,
      r.2.mem ((c.tc : Thread nD τ).loc main_v0) = (final m c).out
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1.written c (by decide : main_v0 ∈ R0)).trans (G_result m c),
      ((h.1.toR c).1 0).trans (((dats m 0 c).arrAt_in 0 rfl _).trans (A_eq m c 0)),
      ((h.1.toR c).1 1).trans (((dats m 0 c).arrAt_in 1 rfl _).trans (A_eq m c 1))⟩, h.2⟩) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h.1 c).2, h.2⟩) (run_full m ρ)

/-- Every run ends with the result at what the last point left, and with the arguments as they were. -/
theorem run : θ_run defs (onTc (τ := τ) (main (F := F))) ⟨m, fun _ => 0, ρ⟩ (fun r => ∀ c : Dev nD,
      r.2.mem ((c.tc : Thread nD τ).loc main_v0) = (final m c).out
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h => h.1) (run_full m ρ)

end Cert.GateUp.Run

end
-- ==== Proof.GateUp.Value.lean ====
/- What the gated layer's weight-gradient kernel leaves in the result: at every place the sum over all tokens of the products of the two
   arguments. -/
module

public import proofs.«01_k».proof.Proof.GateUp.Frame
public import Idealize.ShloMosaic.Lib.Pipeline.ValueKit

@[expose] public section

set_option maxRecDepth 16384

noncomputable section

namespace Cert.GateUp.Run

open Cert.GateUpGradIdeal Cert.GateUpGradIdeal.Gen Idealize.ShloMosaic Idealize.ShloMosaic.TcCoe Idealize.ShloMosaic.Tactic Idealize.SL.Sem
  Idealize.ShloMosaic.Pipeline

variable (m : (ℓ : Loc nD τ sig) → Buf (Elt Ideal) ℓ)

/-- A point's product, added to the sum it found. -/
theorem add_product (xs : FVec Ideal S1024x5632 .f32) (a : FVec Ideal S1024x1024 .bf16) (b : FVec Ideal S1024x5632 .bf16) (r : Fin 1024) (x : Fin 5632) :
    k0_pay2 (F := Ideal) xs a b (ix2 r x) = xs (ix2 r x) + ∑ k : Fin 1024, a (ix2 k r) * b (ix2 k x) := by
  pointwise [k0_pay2]

/-- A point's part of the sum. -/
def part (c : Dev nD) (t : Fin cfg0.N) (y : S1024x5632.Idx) : EReal :=
  ∑ k : Fin 1024, (show FVec Ideal S1024x1024 .bf16 from iblk m c 0 t) (ix2 k (y 0)) * (show FVec Ideal S1024x5632 .bf16 from iblk m c 1 t) (ix2 k (y 1))

/-- The first point leaves its part. -/
theorem acc_first (c : Dev nD) (t : Fin cfg0.N) (h : t.val % 8 = 0) (y : S1024x5632.Idx) :
    (left m c t.val t.isLt).acc y = 0 + part m c t y := by
  rw [left_first m c t h (by omega)]
  unfold first runFirst kernelFirst
  frame_out
  obtain ⟨r, x, rfl⟩ : ∃ r x, y = ix2 r x := ⟨y 0, y 1, by idx_ext⟩
  rw [add_product]
  pointwise [k0_pay1]
  rfl

/-- Every later point adds its own. -/
theorem acc_later (c : Dev nD) (t : Fin cfg0.N) (h : ¬t.val % 8 = 0) (y : S1024x5632.Idx) :
    (left m c t.val t.isLt).acc y = (left m c (t.val - 1) (Nat.lt_of_le_of_lt (Nat.sub_le _ _) t.isLt)).acc y + part m c t y := by
  obtain ⟨r, x, rfl⟩ : ∃ r x, y = ix2 r x := ⟨y 0, y 1, by idx_ext⟩
  by_cases h1 : t.val % 8 = 7
  · rw [left_last m c t h h1]
    unfold last runLast kernelLast
    frame_out
    rw [add_product]
    exact congrArg₂ (· + ·) (congrFun (Memref.IsWhole.read_unread _ _) _) rfl
  · rw [left_middle m c t h h1]
    unfold middle runMiddle kernelMiddle
    frame_out
    rw [add_product]
    exact congrArg₂ (· + ·) (congrFun (Memref.IsWhole.read_unread _ _) _) rfl

/-- One of the four planes of the result. -/
abbrev plane (j : ℕ) (h : ∀ a, (![j, 0, 0] : Fin 3 → ℕ) a + (![1, 1024, 1408] : Fin 3 → ℕ) a ≤ S4x1024x1408.size a)
    (hn : S1024x1408.numel = (Rect.unit (s := S4x1024x1408) ![j, 0, 0] ![1, 1024, 1408] h).shape.numel) : View sig .tc .hbm S1024x1408 .f32 :=
  ((View.whole main_v0).slice (Rect.unit (s := S4x1024x1408) ![j, 0, 0] ![1, 1024, 1408] h)).reshape S1024x1408 hn

theorem plane_at (j : ℕ) (h) (hn) (hj : j < 4) (r : Fin 1024) (q : Fin 1408) : (plane j h hn).emb (ix2 r q) = ix3 ⟨j, hj⟩ r q := by
  show (Rect.unit (s := S4x1024x1408) ![j, 0, 0] ![1, 1024, 1408] h).emb (Shape.reshapeEquiv hn (ix2 r q)) = _
  rw [Shape.reshapeEquiv_eq_of_rowMajor hn (y := ix3 0 r q) (by
    rw [Shape.rowMajor_val_three, Shape.rowMajor_val_two]; show (0 * 1024 + (r : ℕ)) * 1408 + (q : ℕ) = (r : ℕ) * 1408 + (q : ℕ); omega)]
  idx_ext

/-- What is written to a plane is found there, -/
theorem written (j : ℕ) (h) (hn) (f : FVec Ideal S4x1024x1408 .f32) (w : FVec Ideal S1024x1408 .f32) (hj : j < 4) (r : Fin 1024) (q : Fin 1408) :
    (plane j h hn).write (Elt Ideal) f w Finset.univ (ix3 ⟨j, hj⟩ r q) = w (ix2 r q) := by
  rw [← plane_at j h hn hj r q, View.write_emb_of_mem _ _ (Finset.mem_univ _)]
  rfl

/-- and the other planes keep what they held. -/
theorem kept (j : ℕ) (h) (hn) (f : FVec Ideal S4x1024x1408 .f32) (w : FVec Ideal S1024x1408 .f32) (i : Fin 4) (hi : (i : ℕ) ≠ j) (r : Fin 1024) (q : Fin 1408) :
    (plane j h hn).write (Elt Ideal) f w Finset.univ (ix3 i r q) = f (ix3 i r q) := by
  refine View.write_of_not_mem _ _ _ fun hm => hi ?_
  obtain ⟨y, -, hy⟩ := Finset.mem_map.mp hm
  obtain ⟨r', q', rfl⟩ : ∃ r' q', y = ix2 r' q' := ⟨y 0, y 1, by idx_ext⟩
  have hj : j < 4 := h 0
  rw [plane_at j h hn hj r' q'] at hy
  exact (congrArg Fin.val (congrFun hy 0)).symm

/-- Four planes written one after another. -/
theorem planes (h0 h1 h2 h3) (n0 n1 n2 n3) (f : FVec Ideal S4x1024x1408 .f32) (w0 w1 w2 w3 : FVec Ideal S1024x1408 .f32) (j : Fin 4) (r : Fin 1024)
    (q : Fin 1408) :
    (plane 3 h3 n3).write (Elt Ideal) ((plane 2 h2 n2).write (Elt Ideal) ((plane 1 h1 n1).write (Elt Ideal) ((plane 0 h0 n0).write (Elt Ideal) f
      w0 Finset.univ) w1 Finset.univ) w2 Finset.univ) w3 Finset.univ (ix3 j r q) = (![w0, w1, w2, w3] : Fin 4 → _) j (ix2 r q) := by
  obtain ⟨j, hj⟩ := j
  match j, hj with
  | 0, hj => rw [kept 3 h3 n3 _ w3 ⟨0, hj⟩ (show 0 ≠ 3 by decide), kept 2 h2 n2 _ w2 ⟨0, hj⟩ (show 0 ≠ 2 by decide), kept 1 h1 n1 _ w1 ⟨0, hj⟩ (show 0 ≠ 1 by decide), written 0 h0 n0 f w0 hj]; rfl
  | 1, hj => rw [kept 3 h3 n3 _ w3 ⟨1, hj⟩ (show 1 ≠ 3 by decide), kept 2 h2 n2 _ w2 ⟨1, hj⟩ (show 1 ≠ 2 by decide), written 1 h1 n1 _ w1 hj]; rfl
  | 2, hj => rw [kept 3 h3 n3 _ w3 ⟨2, hj⟩ (show 2 ≠ 3 by decide), written 2 h2 n2 _ w2 hj]; rfl
  | 3, hj => rw [written 3 h3 n3 _ w3 hj]; rfl

/-- Columns of the sum, as a copy reads them. -/
theorem columns (o : ℕ) (h hh) (ho : o + 1408 ≤ 5632) (g : FVec Ideal S1024x5632 .f32) (r : Fin 1024) (q : Fin 1408) :
    ReadAs.same.apply (View.read (Elt Ideal) (scM0_0.slice (Rect.unit (s := S1024x5632) ![0, o] S1024x1408.size h) hh).view g) (ix2 r q)
      = VS0_0.read (Elt Ideal) g (ix2 r ⟨o + (q : ℕ), by omega⟩) := by
  refine congrArg (VS0_0.read (Elt Ideal) g) (?_ : (Rect.unit (s := S1024x5632) ![0, o] S1024x1408.size h).emb (ix2 r q) = _)
  idx_ext

/-- The four copies, of whatever the sum's buffer holds. -/
def copies (f : FVec Ideal S4x1024x1408 .f32) (g : FVec Ideal S1024x5632 .f32) : FVec Ideal S4x1024x1408 .f32 :=
  (plane 3 inb_S4x1024x1408_S1x1024x1408_3_0_0 rfl).write (Elt Ideal) ((plane 2 inb_S4x1024x1408_S1x1024x1408_2_0_0 rfl).write (Elt Ideal)
    ((plane 1 inb_S4x1024x1408_S1x1024x1408_1_0_0 rfl).write (Elt Ideal) ((plane 0 inb_S4x1024x1408_S1x1024x1408_0_0_0 rfl).write (Elt Ideal) f
    (ReadAs.same.apply (View.read (Elt Ideal) (scM0_0.slice (Rect.unit (s := S1024x5632) ![0, 0] S1024x1408.size inb_S1024x5632_S1024x1408_0_0) (fun _ => rfl)).view g)) Finset.univ)
    (ReadAs.same.apply (View.read (Elt Ideal) (scM0_0.slice (Rect.unit (s := S1024x5632) ![0, 1408] S1024x1408.size inb_S1024x5632_S1024x1408_0_1408) (fun _ => rfl)).view g)) Finset.univ)
    (ReadAs.same.apply (View.read (Elt Ideal) (scM0_0.slice (Rect.unit (s := S1024x5632) ![0, 2816] S1024x1408.size inb_S1024x5632_S1024x1408_0_2816) (fun _ => rfl)).view g)) Finset.univ)
    (ReadAs.same.apply (View.read (Elt Ideal) (scM0_0.slice (Rect.unit (s := S1024x5632) ![0, 4224] S1024x1408.size inb_S1024x5632_S1024x1408_0_4224) (fun _ => rfl)).view g)) Finset.univ

/-- They put a quarter of its columns into each plane. -/
theorem copies_at (f : FVec Ideal S4x1024x1408 .f32) (g : FVec Ideal S1024x5632 .f32) (j : Fin 4) (r : Fin 1024) (q : Fin 1408) :
    copies f g (ix3 j r q) = VS0_0.read (Elt Ideal) g (ix2 r ⟨1408 * (j : ℕ) + q, by omega⟩) := by
  unfold copies
  refine (planes _ _ _ _ _ _ _ _ f _ _ _ _ j r q).trans ?_
  obtain ⟨j, hj⟩ := j
  match j, hj with
  | 0, hj => refine (columns 0 inb_S1024x5632_S1024x1408_0_0 (fun _ => rfl) (by decide) g r q).trans (congrArg _ ?_); idx_ext
  | 1, hj => refine (columns 1408 inb_S1024x5632_S1024x1408_0_1408 (fun _ => rfl) (by decide) g r q).trans (congrArg _ ?_); idx_ext
  | 2, hj => refine (columns 2816 inb_S1024x5632_S1024x1408_0_2816 (fun _ => rfl) (by decide) g r q).trans (congrArg _ ?_); idx_ext
  | 3, hj => refine (columns 4224 inb_S1024x5632_S1024x1408_0_4224 (fun _ => rfl) (by decide) g r q).trans (congrArg _ ?_); idx_ext

/-- The last point's result is those copies of the sum it has just stored. -/
theorem last_out (c : Dev nD) (t : Fin cfg0.N) (h0 : ¬t.val % 8 = 0) (h1 : t.val % 8 = 7) (l : Left Ideal c) :
    (last m c t h0 h1 l).out = copies l.out (VS0_0.writes (Elt Ideal) ((Memref.isWhole_whole cc0_scratch0).unread l.acc) (runLast m c t h0 h1 l).1) := by
  unfold last runLast kernelLast copies
  dsimp only
  sl_unfold_words
  rfl

/-- So it is the sum, by columns. -/
theorem carried (c : Dev nD) (t : Fin cfg0.N) (h0 : ¬t.val % 8 = 0) (h1 : t.val % 8 = 7) (l : Left Ideal c) (j : Fin 4) (r : Fin 1024) (q : Fin 1408) :
    (show FVec Ideal S4x1024x1408 .f32 from (last m c t h0 h1 l).out) (ix3 j r q) = (last m c t h0 h1 l).acc (ix2 r ⟨1408 * (j : ℕ) + q, by omega⟩) := by
  refine (congrFun (last_out m c t h0 h1 l) _).trans ((copies_at _ _ j r q).trans ?_)
  unfold last; dsimp only
  exact congrFun (View.read_writes_of_cover _ _ _ _ _ (last_covers m c t h0 h1 l)) _

/-- The windows' block indices. -/
theorem idx : ∀ t : Fin cfg0.N, win0_0.index t = ![t.val, 0] ∧ win0_1.index t = ![t.val, 0] :=
  (by decide +kernel : ∀ t : Fin grid0.N, _)

/-- The weight's gradient, a quarter of its columns to a plane. -/
def grad (h2 : FVec Ideal S8192x1024 .bf16) (dgu : FVec Ideal S8192x5632 .bf16) (j : Fin 4) (r : Fin 1024) (q : Fin 1408) : EReal :=
  ∑ n : Fin 8192, h2 (ix2 n r) * dgu (ix2 n ⟨1408 * (j : ℕ) + q, by omega⟩)

/-- All points' parts together are the sum over all tokens. -/
theorem sum_parts (c : Dev nD) (r : Fin 1024) (x : Fin 5632) :
    ∑ t : Fin cfg0.N, part m c t (ix2 r x) = ∑ n : Fin 8192, (show FVec Ideal S8192x1024 .bf16 from V m c main_arg0) (ix2 n r)
      * (show FVec Ideal S8192x5632 .bf16 from V m c main_arg1) (ix2 n x) := by
  refine Fin.sum_mul_add_congr (fun t p h => congrArg₂ (· * ·) ?_ ?_)
  all_goals blk_point [iblk, V, idx t]

theorem out_at (c : Dev nD) (j : Fin 4) (r : Fin 1024) (q : Fin 1408) :
    (show FVec Ideal S4x1024x1408 .f32 from (final m c).out) (ix3 j r q)
      = grad (m ((c : Thread nD τ).loc main_arg0)) (m ((c : Thread nD τ).loc main_arg1)) j r q := by
  have hl : final m c = left m c t0_7.val t0_7.isLt := rfl
  rw [hl, left_last m c t0_7 (by decide) (by decide), carried, ← left_last,
    Pipeline.eq_sum_fin_of_reset_step_apply_last (fun n h => (left m c n h).acc) 8 (fun _ => 0)
      (part m c) (acc_first m c) (acc_later m c) (le_of_eq N_0) t0_7 rfl _, zero_add, sum_parts]
  rfl

end Cert.GateUp.Run

end
-- ==== Proof.GateUp.Ref.lean ====
/- What the reference computes: the gated layer's weight gradient, at an index. -/
module

public import proofs.«01_k».proof.Proof.Gen.GateUpRefIdeal.Run
public import proofs.«01_k».proof.Proof.Gen.GateUpRefIdeal.Read
public import Idealize.ShloMosaic.Lib.Pipeline.ValueKit

@[expose] public section

set_option maxRecDepth 16384

noncomputable section

namespace Cert.GateUp

open Idealize.ShloMosaic.StableHlo
open Cert.GateUpRefIdeal Cert.GateUpRefIdeal.Gen Cert.GateUpRefIdeal.Read Idealize.ShloMosaic Idealize.ShloMosaic.TcCoe Idealize.SL.Sem

variable (h2 : FVec Ideal S8192x1024 .bf16) (dgu : FVec Ideal S8192x5632 .bf16)

/-- The whole weight's gradient. -/
theorem ref_weight (r : Fin 1024) (x : Fin 5632) :
    val_main_v5 (F := Ideal) h2 dgu (ix2 r x) = ∑ n : Fin 8192, h2 (ix2 n r) * dgu (ix2 n x) := by
  pointwise [val_main_v5, val_main_v4, val_main_v3, val_main_v2, val_main_v1, val_main_v0]
  exact Finset.sum_congr rfl fun n _ => mul_comm _ _

/-- Its four quarters of columns, one above another. -/
theorem ref_grad (j : Fin 4) (r : Fin 1024) (q : Fin 1408) :
    val_main_v14 (F := Ideal) h2 dgu (ix3 j r q) = ∑ n : Fin 8192, h2 (ix2 n r) * dgu (ix2 n ⟨1408 * (j : ℕ) + q, by omega⟩) := by
  rw [← ref_weight]
  obtain ⟨j, hj⟩ := j
  match j, hj with
  | 0, hj => pointwise [val_main_v14, val_main_v10, val_main_v6]
  | 1, hj => pointwise [val_main_v14, val_main_v11, val_main_v7]
  | 2, hj => pointwise [val_main_v14, val_main_v12, val_main_v8]
  | 3, hj => pointwise [val_main_v14, val_main_v13, val_main_v9]

end Cert.GateUp

end
-- ==== Proof.GateUp.Claim.lean ====
/- The gated layer's weight gradient: the kernel and the reference, launched with the same arrays, end with equal results. -/
module

public import proofs.«01_k».proof.Defs
public import proofs.«01_k».proof.Proof.GateUp.Same
public import proofs.«01_k».proof.Proof.GateUp.Value
public import proofs.«01_k».proof.Proof.GateUp.Ref
public import Idealize.ShloMosaic.Lib.Claim

@[expose] public section

noncomputable section

namespace Cert.GateUp

open Cert.GateUpGradIdeal Idealize.ShloMosaic Idealize.ShloMosaic.TcCoe Idealize.SL.Sem

theorem frame_ideal : Cert.quiescent_GateUpGradIdeal := fun m g _ => Run.frame m g

/-- The kernel's own program is the same text, so its frame is the one run read at the machine's floats. -/
theorem frame_kernel : Cert.quiescent_GateUpGrad := fun m g _ => by
  rw [defs_same, main_same]
  exact Run.frame (F := Bits) m g

theorem ref_frame : Cert.quiescent_GateUpRefIdeal := fun m g _ =>
  (θ_run _ _ _).mono (fun r h => ⟨fun c => (h c).2, sem_eq_zero_of_no_sems (by decide) r.2⟩) (Cert.GateUpRefIdeal.Value.run m g)

/-- An array of planes is known by its elements. -/
theorem planes_ext {f g : S4x1024x1408.Idx → EReal} (h : ∀ j r q, f (ix3 j r q) = g (ix3 j r q)) : f = g := by
  funext y
  obtain ⟨j, r, q, rfl⟩ : ∃ j r q, y = ix3 j r q := ⟨y 0, y 1, y 2, by idx_ext⟩
  exact h j r q

theorem agree : Cert.algebraic_GateUpGradIdeal_GateUpRefIdeal := by
  intro m g m' g' _ hargs
  refine ⟨fun c => (Run.final m c).out, (θ_run _ _ _).mono (fun r h => h) (Run.run m g),
    (θ_run _ _ _).mono (fun r h c => ?_) (Cert.GateUpRefIdeal.Value.run m' g')⟩
  obtain ⟨h0, h1⟩ := hargs c
  refine ⟨(h c).1.trans ((GateUpRefIdeal.Read.val_main_v14_eq _ _).trans ?_), (h c).2⟩
  rw [h0, h1]
  exact planes_ext fun j r q => (ref_grad _ _ j r q).trans (Run.out_at m c j r q).symm

end Cert.GateUp

end
-- ==== Proof.InWeight.Same.lean ====
/- The kernel's program and its reading over the reals are one text: every part of the one is the same part of the other, so one run serves both. -/
module

public import proofs.«01_k».proof.Proof.Gen.InGrad
public import proofs.«01_k».proof.Proof.Gen.InGradIdeal

@[expose] public section
set_option maxRecDepth 16384
set_option maxHeartbeats 1000000

noncomputable section

namespace Cert.InWeight

open Idealize.ShloMosaic Idealize.SL.Sem

variable {F : FTy → Type} [FloatOps F]

theorem part1_same : @Cert.InGrad.k0_part1 F _ = @Cert.InGradIdeal.k0_part1 F _ := by
  delta Cert.InGrad.k0_part1 Cert.InGradIdeal.k0_part1; rfl

theorem part2_same : @Cert.InGrad.k0_part2 F _ = @Cert.InGradIdeal.k0_part2 F _ := by
  delta Cert.InGrad.k0_part2 Cert.InGradIdeal.k0_part2; rfl

theorem part3_same : @Cert.InGrad.k0_part3 F _ = @Cert.InGradIdeal.k0_part3 F _ := by
  delta Cert.InGrad.k0_part3 Cert.InGradIdeal.k0_part3; rfl

theorem body_same : @Cert.InGrad.cc0_wgrad_in F _ _ = @Cert.InGradIdeal.cc0_wgrad_in F _ _ := by
  delta Cert.InGrad.cc0_wgrad_in Cert.InGradIdeal.cc0_wgrad_in
  simp only [part1_same, part2_same, part3_same]
  rfl

theorem calls_same : @Cert.InGrad.defs₀ F _ _ = @Cert.InGradIdeal.defs₀ F _ _ := by
  delta Cert.InGrad.defs₀ Cert.InGradIdeal.defs₀
  rw [body_same]
  exact congrArg Defs.onTc (funext fun l => match l with
    | 0 => funext fun ⟨t, s⟩ => rfl
    | ⟨n + 1, h⟩ => absurd h (Nat.not_lt.2 (Nat.le_add_left _ _)))

theorem defs_same : @Cert.InGrad.defs F _ _ = @Cert.InGradIdeal.defs F _ _ := by
  delta Cert.InGrad.defs
  rw [calls_same]
  rfl

theorem main_same : @Cert.InGrad.main F _ = @Cert.InGradIdeal.main F _ := by
  delta Cert.InGrad.main Cert.InGradIdeal.main
  rfl

end Cert.InWeight

end
-- ==== Proof.InWeight.Last.lean ====
/- What the run of the input projection's weight-gradient kernel is stated over, beside what is generated: the result in the large memory
   with its contents named, and the last point's run, whose copy carries the sum out, turned over. -/
module

public import proofs.«01_k».proof.Proof.Gen.InGradIdeal.Frame.RunB
public import Idealize.ShloMosaic.Lib.Pipeline.FrameValue

@[expose] public section

set_option maxRecDepth 16384

noncomputable section

namespace Cert.InWeight.Run

open Cert.InGradIdeal Cert.InGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The result held at the contents `G` gives it. -/
theorem routed_eq (c : Dev nD) (G : (b : Ref sig .tc) → Buf (Elt F) ((c : Thread nD τ).loc b)) :
    (Pipeline.routed R0 c G : sProp 𝕄) = iprop(hbPt0 c hbM0_0 (G main_v0)) := by
  unfold Pipeline.routed; rw [BI.bigSep_eq_bigSepL_of_eq [main_v0] (by decide) (by decide)]
  simp only [BI.bigSepL_singleton]; try rfl

/-- What a call hands its first point and takes back after its last one, listed: the sum and the two buffers it is turned over in at anything,
    the register of the generator, the counter at zero and the result at what `G` gives it. -/
theorem ends_eq (c : Dev nD) (G : (c : Dev nD) → (b : Ref sig .tc) → Buf (Elt F) ((c : Thread nD τ).loc b)) :
    (Pipeline.ΦDRG osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d))
          ∗ (∃ r, prngReg c r) ∗ iprop(semVal ((c : Thread nD τ), SemLoc.dma 12) 0) ∗ iprop(emp) ∗ iprop(hbPt0 c hbM0_0 (G c main_v0))) := by
  rw [Pipeline.ΦDRG_eq, scopedRest0_eq, ownSems00_eq, hbmPts0_eq, routed_eq]; simp only [scM0_0, scM0_1, scM0_2, owns_whole]; try rfl

set_option maxHeartbeats 8000000 in
/-- The last point: its product is added, the sum is turned over by columns of 128 and laid out in four planes, which one copy carries to the
    result: the pieces the sum is stored by, and the array copied, over what the buffer it is laid out in held before. -/
def kernelLast (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x128 .bf16) (harg6 : arg6.IsWhole) (arg8 : Memref sig .tc .vmem S1024x2432 .f32) (harg8 : arg8.IsWhole) (arg9 : Memref sig .tc .vmem S2432x1024 .f32) (harg9 : arg9.IsWhole) (arg10 : Memref sig .tc .vmem S4x578x1024 .f32) (harg10 : arg10.IsWhole) (hc0 : ¬cond0_0 i) (hc1 : cond0_1 i)
    (x0 : Vec F S1024x1024 .bf16) (x1 : Vec F S1024x512 .bf16) (x2 : Vec F S1024x256 .bf16) (x3 : Vec F S1024x512 .bf16) (x4 : Vec F S1024x1024 .bf16) (x5 : Vec F S1024x128 .bf16) (xs0 : Vec F S1024x2432 .f32) :
    Σ' (L : List (View.Piece (Elt F) S1024x2432 .f32)), { w : arg10.view.ty.Contents (Elt F) → Vec F S4x578x1024 .f32 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs0 ∗ (∃ d, owns (c : Thread nD τ) arg9 fullShare d) ∗ (∃ d, owns (c : Thread nD τ) arg10 fullShare d) ∗ semVal ((c : Thread nD τ), SemLoc.dma 12) 0 ∗ (∃ f, hbPt0 c hbM0_0 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f L) ∗ (∃ d, owns (c : Thread nD τ) arg9 fullShare d) ∗ (∃ d, owns (c : Thread nD τ) arg10 fullShare d) ∗ semVal ((c : Thread nD τ), SemLoc.dma 12) 0
              ∗ (∃ g f, hbPt0 c hbM0_0 (View.write (Elt F) hbM0_0.view f (w g) Finset.univ)) ∗ (∃ W', owes (c : Thread nD τ) 0 W')) -∗ K ⟨⟩))
          ⊢ wp frame (wpE (defs₀ (F := F)) Variants.none c none) Set.univ (cc0_wgrad_in i arg1 harg1 arg2 harg2 arg3 harg3 arg4 harg4 arg5 harg5 arg6 harg6 (Memref.whole main_v0) (Memref.isWhole_whole _) arg8 harg8 arg9 harg9 arg10 harg10 cc0_scratch3) K } := by
  refine ⟨?_, ?_, fun W K => ?run⟩
  case run =>
    simp only [cc0_wgrad_in_eq_skeleton]; unfold cc0_wgrad_in_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, Hq0, ⟨%fw0, Hh0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexists fs2, fw0; iexact Hh0
    iexists _; iexact HW

end Cert.InWeight.Run

end
-- ==== Proof.InWeight.Frame.lean ====
/- The run of the input projection's weight-gradient kernel: every run ends, with the sum that the last point left turned over and carried
   to the result and the arguments unchanged. Over any float values, so that it serves the kernel and its reading over the reals alike. -/
module

public import proofs.«01_k».proof.Proof.InWeight.Last
public import Idealize.ShloMosaic.Lib.Claim

@[expose] public section

set_option maxRecDepth 16384

noncomputable section

namespace Cert.InWeight.Run

open Cert.InGradIdeal Cert.InGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point's run. -/
def runFirst (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    ((hcond0_0 t).mpr h0) (fun e => h1 ((hcond0_1 t).mp e)) (iblk m c 0 t) (iblk m c 1 t) (iblk m c 2 t) (iblk m c 3 t) (iblk m c 4 t) (iblk m c 5 t)

/-- A middle point's run, over the sum the point before left. -/
def runMiddle (c : Dev nD) (t : Fin cfg0.N) (h0 : ¬t.val % 8 = 0) (h1 : ¬t.val % 8 = 7) (acc : Vec F S1024x2432 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun e => h0 ((hcond0_0 t).mp e)) (fun e => h1 ((hcond0_1 t).mp e)) (iblk m c 0 t) (iblk m c 1 t) (iblk m c 2 t) (iblk m c 3 t) (iblk m c 4 t) (iblk m c 5 t) acc

/-- The last point's run. -/
def runLast (c : Dev nD) (t : Fin cfg0.N) (h0 : ¬t.val % 8 = 0) (h1 : t.val % 8 = 7) (acc : Vec F S1024x2432 .f32) :=
  kernelLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun e => h0 ((hcond0_0 t).mp e)) ((hcond0_1 t).mpr h1) (iblk m c 0 t) (iblk m c 1 t) (iblk m c 2 t) (iblk m c 3 t) (iblk m c 4 t) (iblk m c 5 t) acc

/-! Every run stores the sum whole. -/

theorem first_covers (c : Dev nD) (t : Fin cfg0.N) (h0 : t.val % 8 = 0) (h1 : ¬t.val % 8 = 7) (y : S1024x2432.Idx) :
    ∃ pc ∈ (runFirst m c t h0 h1).1, y ∈ pc.1.set :=
  View.cover_of_tiledL (runFirst m c t h0 h1).1 S1024x2432.size (by sl_kernel_rfl) y

theorem middle_covers (c : Dev nD) (t : Fin cfg0.N) (h0 : ¬t.val % 8 = 0) (h1 : ¬t.val % 8 = 7) (acc : Vec F S1024x2432 .f32) (y : S1024x2432.Idx) :
    ∃ pc ∈ (runMiddle m c t h0 h1 acc).1, y ∈ pc.1.set :=
  View.cover_of_tiledL (runMiddle m c t h0 h1 acc).1 S1024x2432.size (by sl_kernel_rfl) y

theorem last_covers (c : Dev nD) (t : Fin cfg0.N) (h0 : ¬t.val % 8 = 0) (h1 : t.val % 8 = 7) (acc : Vec F S1024x2432 .f32) (y : S1024x2432.Idx) :
    ∃ pc ∈ (runLast m c t h0 h1 acc).1, y ∈ pc.1.set :=
  View.cover_of_tiledL (runLast m c t h0 h1 acc).1 S1024x2432.size (by sl_kernel_rfl) y

/-- The sum the first point leaves, -/
def first (c : Dev nD) (t : Fin cfg0.N) (h0 : t.val % 8 = 0) (h1 : ¬t.val % 8 = 7) : Vec F S1024x2432 .f32 :=
  VS0_0.read (Elt F) (VS0_0.writes (Elt F) VS0_0.junk (runFirst m c t h0 h1).1)

/-- a middle one -/
def middle (c : Dev nD) (t : Fin cfg0.N) (h0 : ¬t.val % 8 = 0) (h1 : ¬t.val % 8 = 7) (acc : Vec F S1024x2432 .f32) : Vec F S1024x2432 .f32 :=
  VS0_0.read (Elt F) (VS0_0.writes (Elt F) VS0_0.junk (runMiddle m c t h0 h1 acc).1)

/-- and the last one. -/
def last (c : Dev nD) (t : Fin cfg0.N) (h0 : ¬t.val % 8 = 0) (h1 : t.val % 8 = 7) (acc : Vec F S1024x2432 .f32) : Vec F S1024x2432 .f32 :=
  VS0_0.read (Elt F) (VS0_0.writes (Elt F) VS0_0.junk (runLast m c t h0 h1 acc).1)

/-- The sum after point `n`. -/
def left (c : Dev nD) : (n : ℕ) → n < cfg0.N → Vec F S1024x2432 .f32
  | 0, hn => first m c ⟨0, hn⟩ (Nat.zero_mod _) (fun h => absurd ((Nat.zero_mod 8).symm.trans h) (by decide))
  | n + 1, hn =>
    if h0 : (n + 1) % 8 = 0 then first m c ⟨n + 1, hn⟩ h0 (by dsimp only; omega)
    else if h1 : (n + 1) % 8 = 7 then last m c ⟨n + 1, hn⟩ h0 h1 (left c n (Nat.lt_of_succ_lt hn))
    else middle m c ⟨n + 1, hn⟩ h0 h1 (left c n (Nat.lt_of_succ_lt hn))

theorem left_first (c : Dev nD) (t : Fin cfg0.N) (h0 : t.val % 8 = 0) (h1 : ¬t.val % 8 = 7) : left m c t.val t.isLt = first m c t h0 h1 := by
  obtain ⟨n, hn⟩ := t
  cases n with
  | zero => exact rfl
  | succ n => exact (dif_pos h0).trans rfl

theorem left_middle (c : Dev nD) (t : Fin cfg0.N) (h0 : ¬t.val % 8 = 0) (h1 : ¬t.val % 8 = 7) :
    left m c t.val t.isLt = middle m c t h0 h1 (left m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem left_last (c : Dev nD) (t : Fin cfg0.N) (h0 : ¬t.val % 8 = 0) (h1 : t.val % 8 = 7) :
    left m c t.val t.isLt = last m c t h0 h1 (left m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The array the last point copies out. -/
def slabs (c : Dev nD) : Vec F S4x578x1024 .f32 := (runLast m c t0_7 (by decide) (by decide) (left m c 6 (by decide))).2.1 scM0_2.view.junk

/-- It fills the buffer it is laid out in, whatever that held. -/
theorem slabs_any (c : Dev nD) (t : Fin cfg0.N) (h0 : ¬t.val % 8 = 0) (h1 : t.val % 8 = 7) (acc : Vec F S1024x2432 .f32)
    (g : scM0_2.view.ty.Contents (Elt F)) : (runLast m c t h0 h1 acc).2.1 g = (runLast m c t h0 h1 acc).2.1 scM0_2.view.junk := by
  unfold runLast kernelLast
  dsimp only
  sl_unfold_words
  exact View.read_writes_of_cover _ _ _ _ _ (fun y => View.cover_of_tiledL (s := S4x578x1024) _ ![1, 578, 1024] (by sl_kernel_rfl) y)

/-- The result in the large memory after point `n`: anything until the last point, then the array it copies. -/
def carried (c : Dev nD) (n : ℕ) : sProp 𝕄 :=
  if n = 7 then hbPt0 c hbM0_0 ((Memref.isWhole_whole main_v0).unread (slabs m c)) else iprop(∃ f, hbPt0 c hbM0_0 f)

/-- What a point starts from: before the first one any sum and the result as the call found it, later both as the point before left them;
    with them the register of the generator and the counter of the copy at zero. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare (left m c n hn) ∗ (∃ d, owns (c : Thread nD τ) scM0_1 fullShare d) ∗ (∃ d, owns (c : Thread nD τ) scM0_2 fullShare d)) ∗ (∃ r, prngReg c r)
      ∗ iprop(semVal ((c : Thread nD τ), SemLoc.dma 12) 0) ∗ iprop(emp) ∗ iprop(carried m c (n)))

theorem PhiS_zero (c : Dev nD) (n : ℕ) (h : n ≤ cfg0.N) (hz : n = 0) : PhiS m c n h = Pipeline.ΦDRG osem0 spec0 H0 R0 (V m) (V m) c := by
  subst hz; rfl

theorem PhiS_succ (c : Dev nD) (n : ℕ) (hn : n < cfg0.N) :
    PhiS m c (n + 1) hn = iprop(iprop(owns (c : Thread nD τ) scM0_0 fullShare (left m c n hn) ∗ (∃ d, owns (c : Thread nD τ) scM0_1 fullShare d) ∗ (∃ d, owns (c : Thread nD τ) scM0_2 fullShare d)) ∗ (∃ r, prngReg c r)
      ∗ iprop(semVal ((c : Thread nD τ), SemLoc.dma 12) 0) ∗ iprop(emp) ∗ iprop(carried m c (n))) := rfl

theorem PhiS_pos (c : Dev nD) (n : ℕ) (h : n ≤ cfg0.N) (hz : n ≠ 0) :
    PhiS m c n h = iprop(iprop(owns (c : Thread nD τ) scM0_0 fullShare (left m c (n - 1) (by omega)) ∗ (∃ d, owns (c : Thread nD τ) scM0_1 fullShare d) ∗ (∃ d, owns (c : Thread nD τ) scM0_2 fullShare d)) ∗ (∃ r, prngReg c r)
      ∗ iprop(semVal ((c : Thread nD τ), SemLoc.dma 12) 0) ∗ iprop(emp) ∗ iprop(carried m c (n - 1))) := by
  cases n with
  | zero => exact absurd rfl hz
  | succ n => rfl

/-- The proof data: the six input arrays as the call finds them, their blocks left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- Before the last point the result may be anything. -/
theorem carried_any (c : Dev nD) (n : ℕ) (h : ¬n = 7) : carried m c n = iprop(∃ f, hbPt0 c hbM0_0 f) := if_neg h

/-- The last point's run leaves in it the array it copied, whatever it held. -/
theorem carried_last (c : Dev nD) (t : Fin cfg0.N) (h0 : ¬t.val % 8 = 0) (h1 : t.val % 8 = 7) :
    iprop(∃ g f, hbPt0 c hbM0_0 (View.write (Elt F) hbM0_0.view f ((runLast m c t h0 h1 (left m c (t.val - 1) (Nat.lt_of_le_of_lt (Nat.sub_le _ _) t.isLt))).2.1 g) Finset.univ))
      ⊢ carried m c t.val := by
  have hN : t.val < 8 := lt_of_lt_of_eq t.isLt (show cfg0.N = 8 from N_0)
  obtain rfl : t = t0_7 := Fin.ext (show t.val = 7 by omega)
  rw [show carried m c t0_7.val = hbPt0 c hbM0_0 ((Memref.isWhole_whole main_v0).unread (slabs m c)) from if_pos rfl]
  iintro ⟨%g, %f, H⟩
  rw [slabs_any, ← (Memref.isWhole_whole main_v0).eq_unread (View.read_write_univ _ _)]
  iexact H

set_option maxHeartbeats 3200000 in
/-- The body at any point: it finds its blocks, the sum and the result of the point before, and leaves what `left` and `carried` say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ, after0_0, after0_1, after0_2, after0_3, after0_4, after0_5]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · have h1 : ¬t.val % 8 = 7 := by omega
    have hz : t.val = 0 := by omega
    rw [PhiS_castSucc m c t, PhiS_zero m c _ _ hz, ends_eq m c (V m), carried_any m c t.val (by omega)]
    rw [left_first m c t h0 h1]
    unfold first
    iintro ⟨⟨⟨HS, HS1, HS2⟩, Hg, Hq, -, Hh⟩, ⟨%W, -, HW⟩, ⟨%d0, H0⟩, ⟨%d1, H1⟩, ⟨%d2, H2⟩, ⟨%d3, H3⟩, ⟨%d4, H4⟩, ⟨%d5, H5⟩⟩
    iapply ((runFirst m c t h0 h1).2 W _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HS1]; · iexact HS1
    isplitl [HS2]; · iexact HS2
    isplitl [Hq]; · iexact Hq
    isplitl [Hh]; · iexists _; iexact Hh
    isplitl [HW]; · iexact HW
    iintro ⟨H0, H1, H2, H3, H4, H5, ⟨%es, HS⟩, HS1, HS2, Hq, Hh, ⟨%W', HW'⟩⟩
    isplitl [HS HS1 HS2 Hg Hq Hh]
    · isplitl [HS HS1 HS2]
      · isplitl [HS]
        · unfold owns; iexists _; isplitr
          swap; · iexact HS
          ipureintro; exact View.read_writes_of_cover _ _ _ _ _ (first_covers m c t h0 h1)
        isplitl [HS1]; · iexact HS1
        iexact HS2
      isplitl [Hg]; · iexact Hg
      isplitl [Hq]; · iexact Hq
      isplitr [Hh]; · iempintro
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  by_cases h1 : t.val % 8 = 7
  · have hz : t.val ≠ 0 := by rintro h; omega
    rw [PhiS_castSucc m c t, PhiS_pos m c _ _ hz, carried_any m c (t.val - 1) (by omega)]
    rw [left_last m c t h0 h1]
    unfold last
    iintro ⟨⟨⟨HS, HS1, HS2⟩, Hg, Hq, -, Hh⟩, ⟨%W, -, HW⟩, ⟨%d0, H0⟩, ⟨%d1, H1⟩, ⟨%d2, H2⟩, ⟨%d3, H3⟩, ⟨%d4, H4⟩, ⟨%d5, H5⟩⟩
    iapply ((runLast m c t h0 h1 (left m c (t.val - 1) (Nat.lt_of_le_of_lt (Nat.sub_le _ _) t.isLt))).2.2 W _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HS1]; · iexact HS1
    isplitl [HS2]; · iexact HS2
    isplitl [Hq]; · iexact Hq
    isplitl [Hh]; · iexact Hh
    isplitl [HW]; · iexact HW
    iintro ⟨H0, H1, H2, H3, H4, H5, ⟨%es, HS⟩, HS1, HS2, Hq, Hh, ⟨%W', HW'⟩⟩
    isplitl [HS HS1 HS2 Hg Hq Hh]
    · isplitl [HS HS1 HS2]
      · isplitl [HS]
        · unfold owns; iexists _; isplitr
          swap; · iexact HS
          ipureintro; exact View.read_writes_of_cover _ _ _ _ _ (last_covers m c t h0 h1 _)
        isplitl [HS1]; · iexact HS1
        iexact HS2
      isplitl [Hg]; · iexact Hg
      isplitl [Hq]; · iexact Hq
      isplitr [Hh]; · iempintro
      iapply (carried_last m c t h0 h1); iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · have hz : t.val ≠ 0 := by rintro h; omega
    rw [PhiS_castSucc m c t, PhiS_pos m c _ _ hz, carried_any m c (t.val - 1) (by omega), carried_any m c t.val (by omega)]
    rw [left_middle m c t h0 h1]
    unfold middle
    iintro ⟨⟨⟨HS, HS1, HS2⟩, Hg, Hq, -, Hh⟩, ⟨%W, -, HW⟩, ⟨%d0, H0⟩, ⟨%d1, H1⟩, ⟨%d2, H2⟩, ⟨%d3, H3⟩, ⟨%d4, H4⟩, ⟨%d5, H5⟩⟩
    iapply ((runMiddle m c t h0 h1 (left m c (t.val - 1) (Nat.lt_of_le_of_lt (Nat.sub_le _ _) t.isLt))).2 W _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HS1]; · iexact HS1
    isplitl [HS2]; · iexact HS2
    isplitl [Hq]; · iexact Hq
    isplitl [Hh]; · iexact Hh
    isplitl [HW]; · iexact HW
    iintro ⟨H0, H1, H2, H3, H4, H5, ⟨%es, HS⟩, HS1, HS2, Hq, Hh, ⟨%W', HW'⟩⟩
    isplitl [HS HS1 HS2 Hg Hq Hh]
    · isplitl [HS HS1 HS2]
      · isplitl [HS]
        · unfold owns; iexists _; isplitr
          swap; · iexact HS
          ipureintro; exact View.read_writes_of_cover _ _ _ _ _ (middle_covers m c t h0 h1 _)
        isplitl [HS1]; · iexact HS1
        iexact HS2
      isplitl [Hg]; · iexact Hg
      isplitl [Hq]; · iexact Hq
      isplitr [Hh]; · iempintro
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The arrays after the call: the result at what the last point copied. -/
def G (c : Dev nD) : (b : Ref sig .tc) → Buf (Elt F) ((c : Thread nD τ).loc b) :=
  Function.update ((V m) c) main_v0 ((Memref.isWhole_whole main_v0).unread (slabs m c))

theorem G_result (c : Dev nD) : G m c main_v0 = (Memref.isWhole_whole main_v0).unread (slabs m c) := by
  unfold G; simp only [Function.update_self]

theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦDRG osem0 spec0 H0 R0 (V m) (G m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), ends_eq, G_result,
    show carried m c ((Fin.last cfg0.N).val - 1) = hbPt0 c hbM0_0 ((Memref.isWhole_whole main_v0).unread (slabs m c)) from if_pos (by rw [Fin.val_last]; have : cfg0.N = 8 := N_0; omega)]
  iintro ⟨⟨HS, HS1, HS2⟩, Hg, Hq, He, Hh⟩
  isplitl [HS HS1 HS2]
  · isplitl [HS]; · iexists _; iexact HS
    isplitl [HS1]; · iexact HS1
    iexact HS2
  isplitl [Hg]; · iexact Hg
  isplitl [Hq]; · iexact Hq
  isplitl [He]; · iexact He
  iexact Hh

set_option backward.isDefEq.respectTransparency.types false in
/-- Every run ends, with the result at the array the last point copied, and every counter at zero. -/
theorem run_main_quiescent : θ_run defs (onTc (τ := τ) (main (F := F))) (s₀ m ρ)
    (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := hin m) (hout := hout m)

/-- Every run ends with the result at the array the last point copied, the arguments as they were and every counter at zero. -/
theorem run_full : θ_run defs (onTc (τ := τ) (main (F := F))) ⟨m, fun _ => 0, ρ⟩ (fun r => (∀ c : Dev nD,
      r.2.mem ((c.tc : Thread nD τ).loc main_v0) = (Memref.isWhole_whole main_v0).unread (slabs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.written c (by decide : main_v0 ∈ R0)).trans (G_result m c),
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2)),
      ((h.1.toR c).1 3).trans (((dats m 0 c).arrAt_in 3 rfl _).trans (A_eq m c 3)),
      ((h.1.toR c).1 4).trans (((dats m 0 c).arrAt_in 4 rfl _).trans (A_eq m c 4)),
      ((h.1.toR c).1 5).trans (((dats m 0 c).arrAt_in 5 rfl _).trans (A_eq m c 5))⟩, h.2⟩) (run_main_quiescent m ρ)

/-- The frame: the arguments end unchanged and the counters at zero. -/
theorem frame : θ_run defs (onTc (τ := τ) (main (F := F))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).2, h.2⟩) (run_full m ρ)

/-- Every run ends with the result at the array the last point copied, and with the arguments as they were. -/
theorem run : θ_run defs (onTc (τ := τ) (main (F := F))) ⟨m, fun _ => 0, ρ⟩ (fun r => ∀ c : Dev nD,
      r.2.mem ((c.tc : Thread nD τ).loc main_v0) = (Memref.isWhole_whole main_v0).unread (slabs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h => h.1) (run_full m ρ)

end Cert.InWeight.Run

end
-- ==== Proof.InWeight.Joined.lean ====
/- Five arrays side by side, as the input projection's weight gradient takes them: the gradients of its query, its keys and values, its
   gate, its state inputs and its step sizes. -/
module

public import Idealize.ShloMosaic.Lib.Pipeline.ValueKit

@[expose] public section

noncomputable section

namespace Cert.InWeight

open Idealize.ShloMosaic

/-- The element in row `n` and column `x` of the five arrays side by side. -/
def joined {R : ℕ} (q : FVec Ideal ⟨2, ![R, 512]⟩ .bf16) (kv : FVec Ideal ⟨2, ![R, 256]⟩ .bf16) (z : FVec Ideal ⟨2, ![R, 512]⟩ .bf16)
    (xbc : FVec Ideal ⟨2, ![R, 1024]⟩ .bf16) (dt : FVec Ideal ⟨2, ![R, 128]⟩ .bf16) (n : Fin R) (x : Fin 2432) : EReal :=
  if h0 : (x : ℕ) < 512 then q (ix2 n ⟨x, h0⟩)
  else if h1 : (x : ℕ) - 512 < 256 then kv (ix2 n ⟨x - 512, h1⟩)
  else if h2 : (x : ℕ) - 512 - 256 < 512 then z (ix2 n ⟨x - 512 - 256, h2⟩)
  else if h3 : (x : ℕ) - 512 - 256 - 512 < 1024 then xbc (ix2 n ⟨x - 512 - 256 - 512, h3⟩)
  else dt (ix2 n ⟨x - 512 - 256 - 512 - 1024, by omega⟩)

end Cert.InWeight

end
-- ==== Proof.InWeight.Value.lean ====
/- What the input projection's weight-gradient kernel leaves in the result: at every place the sum over all tokens of the products of the
   layer's input and the five gradients side by side. -/
module

public import proofs.«01_k».proof.Proof.InWeight.Frame
public import proofs.«01_k».proof.Proof.InWeight.Joined

@[expose] public section

set_option maxRecDepth 16384

noncomputable section

namespace Cert.InWeight.Run

open Cert.InGradIdeal Cert.InGradIdeal.Gen Idealize.ShloMosaic Idealize.ShloMosaic.TcCoe Idealize.ShloMosaic.Tactic Idealize.SL.Sem
  Idealize.ShloMosaic.Pipeline

variable (m : (ℓ : Loc nD τ sig) → Buf (Elt Ideal) ℓ)

/-- A point's product, added to the sum it found. -/
theorem add_product (xs : FVec Ideal S1024x2432 .f32) (h : FVec Ideal S1024x1024 .bf16) (q : FVec Ideal S1024x512 .bf16) (kv : FVec Ideal S1024x256 .bf16)
    (z : FVec Ideal S1024x512 .bf16) (xbc : FVec Ideal S1024x1024 .bf16) (dt : FVec Ideal S1024x128 .bf16) (r : Fin 1024) (x : Fin 2432) :
    k0_pay2 (F := Ideal) q kv z xbc dt xs h (ix2 r x) = xs (ix2 r x) + ∑ k : Fin 1024, h (ix2 k r) * joined q kv z xbc dt k x := by
  unfold joined
  pointwise [k0_pay2]

/-- A point's part of the sum. -/
def part (c : Dev nD) (t : Fin cfg0.N) (y : S1024x2432.Idx) : EReal :=
  ∑ k : Fin 1024, (show FVec Ideal S1024x1024 .bf16 from iblk m c 0 t) (ix2 k (y 0))
    * joined (R := 1024) (iblk m c 1 t) (iblk m c 2 t) (iblk m c 3 t) (iblk m c 4 t) (iblk m c 5 t) k (y 1)

/-- The first point leaves its part. -/
theorem acc_first (c : Dev nD) (t : Fin cfg0.N) (h : t.val % 8 = 0) (y : S1024x2432.Idx) :
    left m c t.val t.isLt y = 0 + part m c t y := by
  rw [left_first m c t h (by omega)]
  unfold first runFirst kernelRun0_A
  frame_out
  obtain ⟨r, x, rfl⟩ : ∃ r x, y = ix2 r x := ⟨y 0, y 1, by idx_ext⟩
  rw [add_product]
  pointwise [k0_pay1]
  rfl

/-- Every later point adds its own. -/
theorem acc_later (c : Dev nD) (t : Fin cfg0.N) (h : ¬t.val % 8 = 0) (y : S1024x2432.Idx) :
    left m c t.val t.isLt y = left m c (t.val - 1) (Nat.lt_of_le_of_lt (Nat.sub_le _ _) t.isLt) y + part m c t y := by
  obtain ⟨r, x, rfl⟩ : ∃ r x, y = ix2 r x := ⟨y 0, y 1, by idx_ext⟩
  by_cases h1 : t.val % 8 = 7
  · rw [left_last m c t h h1]
    unfold last runLast kernelLast
    frame_out
    rw [add_product]
    exact congrArg₂ (· + ·) (congrFun (Memref.IsWhole.read_unread _ _) _) rfl
  · rw [left_middle m c t h h1]
    unfold middle runMiddle kernelRun0_B
    frame_out
    rw [add_product]
    exact congrArg₂ (· + ·) (congrFun (Memref.IsWhole.read_unread _ _) _) rfl

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

/-- All points' parts together are the sum over all tokens. -/
theorem sum_parts (c : Dev nD) (k : Fin 1024) (x : Fin 2432) :
    ∑ t : Fin cfg0.N, part m c t (ix2 k x) = ∑ n : Fin 8192, (show FVec Ideal S8192x1024 .bf16 from V m c main_arg0) (ix2 n k)
      * joined (R := 8192) (V m c main_arg1) (V m c main_arg2) (V m c main_arg3) (V m c main_arg4) (V m c main_arg5) n x := by
  refine Fin.sum_mul_add_congr (fun t p h => congrArg₂ (· * ·) ?_ ?_)
  · blk_point [iblk, V, idx t]
  · show joined (R := 1024) _ _ _ _ _ p x = joined (R := 8192) _ _ _ _ _ _ x
    unfold joined
    split_ifs
    all_goals blk_point [iblk, V, idx t]

/-! The last point turns its sum over, 128 columns at a time, and lays the rows out in four slabs of 578. -/

/-- The sum, as the buffer it is stored in is read. -/
abbrev summed (L : List (View.Piece (Elt Ideal) S1024x2432 .f32)) : FVec Ideal S1024x2432 .f32 :=
  VS0_0.read (Elt Ideal) (VS0_0.writes (Elt Ideal) VS0_0.junk L)

/-- 128 of its columns, stored as rows. -/
def strip (L : List (View.Piece (Elt Ideal) S1024x2432 .f32)) (o : ℕ) (h : ∀ a, (![o, 0] : Fin 2 → ℕ) a + S128x1024.size a ≤ S2432x1024.size a)
    (h' : ∀ a, (![0, o] : Fin 2 → ℕ) a + S1024x128.size a ≤ S1024x2432.size a) : View.Piece (Elt Ideal) S2432x1024 .f32 :=
  ⟨Rect.unit (s := S2432x1024) ![o, 0] S128x1024.size h,
    k0_pay8 (F := Ideal) (scM0_0.view.readCov L (Rect.unit (s := S1024x2432) ![0, o] S1024x128.size h').toLoadRect)⟩

theorem columns (L : List (View.Piece (Elt Ideal) S1024x2432 .f32)) (o : ℕ) (h') (ho : o + 128 ≤ 2432) (r : Fin 128) (k : Fin 1024) :
    k0_pay8 (F := Ideal) (scM0_0.view.readCov L (Rect.unit (s := S1024x2432) ![0, o] S1024x128.size h').toLoadRect) (ix2 r k)
      = summed L (ix2 k ⟨o + r, by omega⟩) := by
  pointwise [k0_pay8]
  refine congrArg (summed L) ?_
  idx_ext

theorem strip_at (L : List (View.Piece (Elt Ideal) S1024x2432 .f32)) (o : ℕ) (h h') (x : (strip L o h h').1.shape.Idx) :
    (strip L o h h').2 x = (fun y : S2432x1024.Idx => summed L (ix2 (y 1) (y 0))) ((strip L o h h').1.emb x) := by
  obtain ⟨r, k, rfl⟩ : ∃ (r : Fin 128) (k : Fin 1024), x = (ix2 r k : S128x1024.Idx) := ⟨x 0, x 1, by idx_ext⟩
  refine (columns L o h' (h 0) r k).trans (congrArg (summed L) ?_)
  unfold strip
  idx_ext

/-- The sum turned over: nineteen such pieces. -/
def turned (L : List (View.Piece (Elt Ideal) S1024x2432 .f32)) : List (View.Piece (Elt Ideal) S2432x1024 .f32) :=
  [ strip L 2304 inb_S2432x1024_S128x1024_2304_0 inb_S1024x2432_S1024x128_0_2304, strip L 2176 inb_S2432x1024_S128x1024_2176_0 inb_S1024x2432_S1024x128_0_2176,
    strip L 2048 inb_S2432x1024_S128x1024_2048_0 inb_S1024x2432_S1024x128_0_2048, strip L 1920 inb_S2432x1024_S128x1024_1920_0 inb_S1024x2432_S1024x128_0_1920,
    strip L 1792 inb_S2432x1024_S128x1024_1792_0 inb_S1024x2432_S1024x128_0_1792, strip L 1664 inb_S2432x1024_S128x1024_1664_0 inb_S1024x2432_S1024x128_0_1664,
    strip L 1536 inb_S2432x1024_S128x1024_1536_0 inb_S1024x2432_S1024x128_0_1536, strip L 1408 inb_S2432x1024_S128x1024_1408_0 inb_S1024x2432_S1024x128_0_1408,
    strip L 1280 inb_S2432x1024_S128x1024_1280_0 inb_S1024x2432_S1024x128_0_1280, strip L 1152 inb_S2432x1024_S128x1024_1152_0 inb_S1024x2432_S1024x128_0_1152,
    strip L 1024 inb_S2432x1024_S128x1024_1024_0 inb_S1024x2432_S1024x128_0_1024, strip L 896 inb_S2432x1024_S128x1024_896_0 inb_S1024x2432_S1024x128_0_896,
    strip L 768 inb_S2432x1024_S128x1024_768_0 inb_S1024x2432_S1024x128_0_768, strip L 640 inb_S2432x1024_S128x1024_640_0 inb_S1024x2432_S1024x128_0_640,
    strip L 512 inb_S2432x1024_S128x1024_512_0 inb_S1024x2432_S1024x128_0_512, strip L 384 inb_S2432x1024_S128x1024_384_0 inb_S1024x2432_S1024x128_0_384,
    strip L 256 inb_S2432x1024_S128x1024_256_0 inb_S1024x2432_S1024x128_0_256, strip L 128 inb_S2432x1024_S128x1024_128_0 inb_S1024x2432_S1024x128_0_128,
    strip L 0 inb_S2432x1024_S128x1024_0_0 inb_S1024x2432_S1024x128_0_0 ]

theorem turned_covers (L : List (View.Piece (Elt Ideal) S1024x2432 .f32)) (y : S2432x1024.Idx) : ∃ p ∈ turned L, y ∈ p.1.set :=
  View.cover_of_tiledL (s := S2432x1024) (turned L) ![128, 1024] (by sl_kernel_rfl) y

theorem turned_at (L : List (View.Piece (Elt Ideal) S1024x2432 .f32)) (y : S2432x1024.Idx) :
    scM0_1.view.read (Elt Ideal) (scM0_1.view.writes (Elt Ideal) scM0_1.view.junk (turned L)) y = summed L (ix2 (y 1) (y 0)) := by
  refine View.read_writes_apply_of_pieces _ _ (fun y : S2432x1024.Idx => summed L (ix2 (y 1) (y 0))) (turned L) ?_ y (turned_covers L y)
  unfold turned
  repeat' (first | exact fun p hp => absurd hp List.not_mem_nil | refine List.forall_mem_cons.2 ⟨strip_at L _ _ _, ?_⟩)

attribute [local irreducible] turned

/-- 578 rows of the turned sum, stored as a slab. -/
def slab (L : List (View.Piece (Elt Ideal) S1024x2432 .f32)) (j o : ℕ) (h : ∀ a, (![j, 0, 0] : Fin 3 → ℕ) a + S1x578x1024.size a ≤ S4x578x1024.size a)
    (h' : ∀ a, (![o, 0] : Fin 2 → ℕ) a + S578x1024.size a ≤ S2432x1024.size a) : View.Piece (Elt Ideal) S4x578x1024 .f32 :=
  ⟨Rect.unit (s := S4x578x1024) ![j, 0, 0] S1x578x1024.size h,
    k0_pay4 (F := Ideal) (scM0_1.view.readCov (turned L) (Rect.unit (s := S2432x1024) ![o, 0] S578x1024.size h').toLoadRect)⟩

/-- An element of the slabs. -/
def laid (L : List (View.Piece (Elt Ideal) S1024x2432 .f32)) (y : S4x578x1024.Idx) : EReal :=
  summed L (ix2 (y 2) ⟨578 * (y 0 : ℕ) + (y 1 : ℕ), by have h0 : (y 0 : ℕ) < 4 := (y 0).isLt; have h1 : (y 1 : ℕ) < 578 := (y 1).isLt; omega⟩)

theorem rows (T : List (View.Piece (Elt Ideal) S2432x1024 .f32)) (o : ℕ) (h') (ho : o + 578 ≤ 2432) (u : Fin 1) (r : Fin 578) (k : Fin 1024) :
    k0_pay4 (F := Ideal) (scM0_1.view.readCov T (Rect.unit (s := S2432x1024) ![o, 0] S578x1024.size h').toLoadRect) (ix3 u r k)
      = scM0_1.view.read (Elt Ideal) (scM0_1.view.writes (Elt Ideal) scM0_1.view.junk T) (ix2 ⟨o + r, by omega⟩ k) := by
  pointwise [k0_pay4]
  refine congrArg (scM0_1.view.read (Elt Ideal) (scM0_1.view.writes (Elt Ideal) scM0_1.view.junk T)) ?_
  idx_ext

theorem slab_place (j : ℕ) (h : ∀ a, (![j, 0, 0] : Fin 3 → ℕ) a + S1x578x1024.size a ≤ S4x578x1024.size a) (hj : j < 4) (u : Fin 1) (r : Fin 578) (k : Fin 1024) :
    (Rect.unit (s := S4x578x1024) ![j, 0, 0] S1x578x1024.size h).emb (ix3 u r k) = ix3 ⟨j, hj⟩ r k := by
  idx_ext

theorem slab_at (L : List (View.Piece (Elt Ideal) S1024x2432 .f32)) (j o : ℕ) (ho : o = 578 * j) (h h') (x : (slab L j o h h').1.shape.Idx) :
    (slab L j o h h').2 x = laid L ((slab L j o h h').1.emb x) := by
  obtain ⟨u, r, k, rfl⟩ : ∃ (u : Fin 1) (r : Fin 578) (k : Fin 1024), x = (ix3 u r k : S1x578x1024.Idx) := ⟨x 0, x 1, x 2, by idx_ext⟩
  subst ho
  exact (rows (turned L) (578 * j) h' (h' 0) u r k).trans ((turned_at L _).trans (congrArg (laid L) (slab_place j h (h 0) u r k)).symm)

/-- The array the last point copies is its sum, turned over and laid out. -/
theorem copied (c : Dev nD) (t : Fin cfg0.N) (h0 : ¬t.val % 8 = 0) (h1 : t.val % 8 = 7) (acc : Vec Ideal S1024x2432 .f32) (g : scM0_2.view.ty.Contents (Elt Ideal)) :
    (runLast m c t h0 h1 acc).2.1 g = scM0_2.view.read (Elt Ideal) (scM0_2.view.writes (Elt Ideal) g
      [ slab (runLast m c t h0 h1 acc).1 3 1734 inb_S4x578x1024_S1x578x1024_3_0_0 inb_S2432x1024_S578x1024_1734_0,
        slab (runLast m c t h0 h1 acc).1 2 1156 inb_S4x578x1024_S1x578x1024_2_0_0 inb_S2432x1024_S578x1024_1156_0,
        slab (runLast m c t h0 h1 acc).1 1 578 inb_S4x578x1024_S1x578x1024_1_0_0 inb_S2432x1024_S578x1024_578_0,
        slab (runLast m c t h0 h1 acc).1 0 0 inb_S4x578x1024_S1x578x1024_0_0_0 inb_S2432x1024_S578x1024_0_0 ]) := by
  unfold runLast kernelLast slab turned strip
  dsimp only
  sl_unfold_words
  rfl

theorem slabs_at (c : Dev nD) (j : Fin 4) (r : Fin 578) (k : Fin 1024) :
    slabs m c (ix3 j r k) = left m c t0_7.val t0_7.isLt (ix2 k ⟨578 * (j : ℕ) + r, by omega⟩) := by
  rw [left_last m c t0_7 (by decide) (by decide)]
  unfold slabs
  rw [copied]
  refine (View.read_writes_apply_of_pieces _ _ (laid _) _ ?_ (ix3 j r k)
    (View.cover_of_tiledL (s := S4x578x1024) _ ![1, 578, 1024] (by sl_kernel_rfl) _)).trans rfl
  exact List.forall_mem_cons.2 ⟨slab_at _ _ _ rfl _ _, List.forall_mem_cons.2 ⟨slab_at _ _ _ rfl _ _, List.forall_mem_cons.2 ⟨slab_at _ _ _ rfl _ _,
    List.forall_mem_cons.2 ⟨slab_at _ _ _ rfl _ _, fun p hp => absurd hp List.not_mem_nil⟩⟩⟩⟩

theorem out_at (c : Dev nD) (j : Fin 4) (r : Fin 578) (k : Fin 1024) :
    (show FVec Ideal S4x578x1024 .f32 from (Memref.isWhole_whole main_v0).unread (slabs m c)) (ix3 j r k)
      = ∑ n : Fin 8192, (show FVec Ideal S8192x1024 .bf16 from V m c main_arg0) (ix2 n k)
        * joined (R := 8192) (V m c main_arg1) (V m c main_arg2) (V m c main_arg3) (V m c main_arg4) (V m c main_arg5) n ⟨578 * (j : ℕ) + r, by omega⟩ := by
  refine (congrFun ((Memref.isWhole_whole main_v0).read_unread (slabs m c)) (ix3 j r k)).trans ?_
  rw [slabs_at, Pipeline.eq_sum_fin_of_reset_step_apply_last (fun n h => left m c n h) 8 (fun _ => 0)
      (part m c) (acc_first m c) (acc_later m c) (le_of_eq N_0) t0_7 rfl _, zero_add, sum_parts]

end Cert.InWeight.Run

end
-- ==== Proof.InWeight.Ref.lean ====
/- What the reference computes: the input projection's weight gradient, at an index. -/
module

public import proofs.«01_k».proof.Proof.Gen.InGradRefIdeal.Run
public import proofs.«01_k».proof.Proof.Gen.InGradRefIdeal.Read
public import proofs.«01_k».proof.Proof.InWeight.Joined

@[expose] public section

set_option maxRecDepth 16384

noncomputable section

namespace Cert.InWeight

open Idealize.ShloMosaic.StableHlo
open Cert.InGradRefIdeal Cert.InGradRefIdeal.Gen Cert.InGradRefIdeal.Read Idealize.ShloMosaic Idealize.ShloMosaic.TcCoe Idealize.SL.Sem

variable (h : FVec Ideal S8192x1024 .bf16) (q : FVec Ideal S8192x512 .bf16) (kv : FVec Ideal S8192x256 .bf16) (z : FVec Ideal S8192x512 .bf16)
  (xbc : FVec Ideal S8192x1024 .bf16) (dt : FVec Ideal S8192x128 .bf16)

/-- The five gradients side by side. -/
theorem ref_joined (n : Fin 8192) (x : Fin 2312) :
    val_main_v6 (F := Ideal) q kv z xbc dt (ix2 n x) = joined q kv z xbc dt n ⟨x, by omega⟩ := by
  unfold joined
  pointwise [val_main_v6, val_main_v5, val_main_v4, val_main_v3, val_main_v2, val_main_v1, val_main_v0]

/-- The whole weight's gradient. -/
theorem ref_weight (x : Fin 2312) (k : Fin 1024) :
    val_main_v12 (F := Ideal) h q kv z xbc dt (ix2 x k) = ∑ n : Fin 8192, h (ix2 n k) * joined q kv z xbc dt n ⟨x, by omega⟩ := by
  have e (n) := ref_joined q kv z xbc dt n x
  simp only [← e]
  clear e
  unfold val_main_v12 val_main_v11 val_main_v10
  generalize val_main_v6 (F := Ideal) q kv z xbc dt = w
  pointwise [val_main_v8]
  exact Finset.sum_congr rfl fun n _ => mul_comm _ _

/-- Its rows in four slabs. -/
theorem ref_grad (j : Fin 4) (r : Fin 578) (k : Fin 1024) :
    val_main_v13 (F := Ideal) h q kv z xbc dt (ix3 j r k)
      = ∑ n : Fin 8192, h (ix2 n k) * joined q kv z xbc dt n ⟨578 * (j : ℕ) + r, by omega⟩ := by
  rw [← ref_weight h q kv z xbc dt ⟨578 * (j : ℕ) + r, by omega⟩ k]
  pointwise [val_main_v13]
  exact congrArg _ (by idx_ext)

end Cert.InWeight

end
-- ==== Proof.InWeight.Claim.lean ====
/- The input projection's weight gradient: the kernel and the reference, launched with the same arrays, end with equal results. -/
module

public import proofs.«01_k».proof.Defs
public import proofs.«01_k».proof.Proof.InWeight.Same
public import proofs.«01_k».proof.Proof.InWeight.Value
public import proofs.«01_k».proof.Proof.InWeight.Ref
public import Idealize.ShloMosaic.Lib.Claim

@[expose] public section

noncomputable section

namespace Cert.InWeight

open Cert.InGradIdeal Idealize.ShloMosaic Idealize.ShloMosaic.TcCoe Idealize.SL.Sem

theorem frame_ideal : Cert.quiescent_InGradIdeal := fun m g _ => Run.frame m g

/-- The kernel's own program is the same text, so its frame is the one run read at the machine's floats. -/
theorem frame_kernel : Cert.quiescent_InGrad := fun m g _ => by
  rw [defs_same, main_same]
  exact Run.frame (F := Bits) m g

theorem ref_frame : Cert.quiescent_InGradRefIdeal := fun m g _ =>
  (θ_run _ _ _).mono (fun r h => ⟨fun c => (h c).2, sem_eq_zero_of_no_sems (by decide) r.2⟩) (Cert.InGradRefIdeal.Value.run m g)

/-- An array of slabs is known by its elements. -/
theorem slabs_ext {f g : S4x578x1024.Idx → EReal} (h : ∀ j r k, f (ix3 j r k) = g (ix3 j r k)) : f = g := by
  funext y
  obtain ⟨j, r, k, rfl⟩ : ∃ j r k, y = ix3 j r k := ⟨y 0, y 1, y 2, by idx_ext⟩
  exact h j r k

theorem agree : Cert.algebraic_InGradIdeal_InGradRefIdeal := by
  intro m g m' g' _ hargs
  refine ⟨fun c => (Memref.isWhole_whole main_v0).unread (Run.slabs m c), (θ_run _ _ _).mono (fun r h => h) (Run.run m g),
    (θ_run _ _ _).mono (fun r h c => ?_) (Cert.InGradRefIdeal.Value.run m' g')⟩
  obtain ⟨h0, h1, h2, h3, h4, h5⟩ := hargs c
  refine ⟨(h c).1.trans ((InGradRefIdeal.Read.val_main_v13_eq _ _ _ _ _ _).trans ?_), (h c).2⟩
  rw [h0, h1, h2, h3, h4, h5]
  exact slabs_ext fun j r k => (ref_grad _ _ _ _ _ _ j r k).trans (Run.out_at m c j r k).symm

end Cert.InWeight

end
-- ==== Proof.OutWeight.Args.lean ====
/- The arguments of the mixers' output weight gradient, shared by the two programs, what each result holds in the form the kernel computes it, and that
   for finite arguments the gate may be multiplied before the sum over the tokens as well as after it. -/
module

public import proofs.«01_k».proof.Proof.Common.Reals
public import Idealize.ShloMosaic.Lib.Pointwise

@[expose] public section

noncomputable section

namespace Cert.OutWeight

open Idealize.ShloMosaic

/-- The arrays both programs are given. -/
structure Args where
  y : FVec Ideal (⟨2, ![8192, 512]⟩ : Shape) .bf16
  dx : FVec Ideal (⟨2, ![8192, 1024]⟩ : Shape) .f32
  gate : FVec Ideal (⟨2, ![1, 1024]⟩ : Shape) .f32
  w : FVec Ideal (⟨2, ![512, 1024]⟩ : Shape) .f32

namespace Args

variable (a : Args)

/-- The sum over all tokens, before the gate. -/
def total (r : Fin 512) (x : Fin 1024) : EReal := ∑ n : Fin 8192, a.y (ix2 n r) * a.dx (ix2 n x)

/-- The weight's gradient. -/
def weightGrad (r : Fin 512) (x : Fin 1024) : EReal := a.total r x * a.gate (ix2 0 x)

/-- The gate's gradient, in the top row of eight. -/
def gateGrad (i : Fin 8) (x : Fin 1024) : EReal := if (i : ℕ) = 0 then ∑ r : Fin 512, a.total r x * a.w (ix2 r x) else 0

/-- Every argument is finite. -/
structure Fine : Prop where
  y : ∀ n r, ∃ v : ℝ, a.y (ix2 n r) = v
  dx : ∀ n x, ∃ v : ℝ, a.dx (ix2 n x) = v
  gate : ∀ x, ∃ v : ℝ, a.gate (ix2 0 x) = v
  w : ∀ r x, ∃ v : ℝ, a.w (ix2 r x) = v

variable {a}

/-- The gate multiplied into every token's row first. -/
theorem Fine.weight (h : a.Fine) (r : Fin 512) (x : Fin 1024) :
    ∑ n : Fin 8192, a.gate (ix2 0 x) * a.dx (ix2 n x) * a.y (ix2 n r) = a.weightGrad r x := by
  choose y hy using h.y
  choose d hd using h.dx
  choose g hg using h.gate
  unfold weightGrad total
  simp only [hy, hd, hg, ← EReal.coe_mul, ← Common.coe_sum]
  rw [Finset.sum_mul]
  exact congrArg _ (Finset.sum_congr rfl fun n _ => by ring)

/-- The gate's gradient by the product of the rows with the weight. -/
theorem Fine.top (h : a.Fine) (x : Fin 1024) :
    ∑ n : Fin 8192, a.dx (ix2 n x) * ∑ r : Fin 512, a.y (ix2 n r) * a.w (ix2 r x) = ∑ r : Fin 512, a.total r x * a.w (ix2 r x) := by
  choose y hy using h.y
  choose d hd using h.dx
  choose w hw using h.w
  unfold total
  simp only [hy, hd, hw, ← EReal.coe_mul, ← Common.coe_sum, Finset.mul_sum, Finset.sum_mul]
  rw [Finset.sum_comm]
  exact congrArg _ (Finset.sum_congr rfl fun r _ => Finset.sum_congr rfl fun n _ => by ring)

end Args

end Cert.OutWeight

end
-- ==== Proof.OutWeight.Value.lean ====
/- What the mixers' output weight-gradient kernel leaves in its two results: the sum over all tokens times the gate, and the gate's gradient. -/
module

public import proofs.«01_k».proof.Proof.Gen.OutGradIdeal.Value
public import proofs.«01_k».proof.Proof.OutWeight.Args
public import proofs.«01_k».proof.Proof.Common.RowStore
public import Idealize.ShloMosaic.Lib.Pipeline.ReadBack
public import Idealize.ShloMosaic.Lib.Pipeline.ValueKit

@[expose] public section

set_option maxRecDepth 16384

noncomputable section

namespace Cert.OutWeight

open Cert.OutGradIdeal Cert.OutGradIdeal.Gen Idealize.ShloMosaic Idealize.ShloMosaic.TcCoe Idealize.ShloMosaic.Tactic Idealize.SL.Sem
  Idealize.ShloMosaic.Pipeline

variable (m : (ℓ : Loc nD τ sig) → Buf (Elt Ideal) ℓ)

/-- The arrays the kernel is launched with. -/
def launched (c : Dev nD) : Args where
  y := m ((c : Thread nD τ).loc main_arg0)
  dx := m ((c : Thread nD τ).loc main_arg1)
  gate := m ((c : Thread nD τ).loc main_arg2)
  w := m ((c : Thread nD τ).loc main_arg3)

/-- A point's product, added to the sum it found. -/
theorem add_product (xs : FVec Ideal S512x1024 .f32) (a : FVec Ideal S1024x512 .bf16) (b : FVec Ideal S1024x1024 .f32) (r : Fin 512) (x : Fin 1024) :
    k0_pay2 (F := Ideal) xs a b (ix2 r x) = xs (ix2 r x) + ∑ k : Fin 1024, a (ix2 k r) * b (ix2 k x) := by
  pointwise [k0_pay2]

/-- A point's part of the sum. -/
def part (c : Dev nD) (t : Fin cfg0.N) (y : S512x1024.Idx) : EReal :=
  ∑ k : Fin 1024, (show FVec Ideal S1024x512 .bf16 from iblk m c 0 t) (ix2 k (y 0)) * (show FVec Ideal S1024x1024 .f32 from iblk m c 1 t) (ix2 k (y 1))

/-- The sum after point `n`; the last point goes on to multiply it by the gate, so there it is the sum before with that point's part. -/
def summed (c : Dev nD) (n : ℕ) (h : n < cfg0.N) (y : S512x1024.Idx) : EReal :=
  if n % 8 = 7 then (outsAt0 m c (n - 1) (Nat.lt_of_le_of_lt (Nat.sub_le _ _) h)).2.1 y + part m c ⟨n, h⟩ y else (outsAt0 m c n h).2.1 y

theorem sum_first (c : Dev nD) (t : Fin cfg0.N) (h : t.val % 8 = 0) (y : S512x1024.Idx) : summed m c t.val t.isLt y = 0 + part m c t y := by
  unfold summed
  rw [if_neg (by omega), outsAt0_A m c t h (by omega)]
  frame_out
  obtain ⟨r, x, rfl⟩ : ∃ r x, y = ix2 r x := ⟨y 0, y 1, by idx_ext⟩
  rw [add_product]
  pointwise [k0_pay1]
  rfl

theorem sum_later (c : Dev nD) (t : Fin cfg0.N) (h : ¬t.val % 8 = 0) (y : S512x1024.Idx) :
    summed m c t.val t.isLt y = summed m c (t.val - 1) (Nat.lt_of_le_of_lt (Nat.sub_le _ _) t.isLt) y + part m c t y := by
  unfold summed
  rw [if_neg (show ¬(t.val - 1) % 8 = 7 by omega)]
  split
  · rfl
  · rename_i h1
    rw [outsAt0_B m c t h h1]
    frame_out
    obtain ⟨r, x, rfl⟩ : ∃ r x, y = ix2 r x := ⟨y 0, y 1, by idx_ext⟩
    rw [add_product]
    exact congrArg₂ (· + ·) (congrFun (Memref.IsWhole.read_unread _ _) _) rfl

/-- The windows' block indices. -/
theorem idx : ∀ t : Fin cfg0.N, win0_0.index t = ![t.val, 0] ∧ win0_1.index t = ![t.val, 0] ∧ win0_2.index t = ![0, 0] ∧ win0_3.index t = ![0, 0]
    ∧ win0_4.index t = ![0, 0] :=
  (by decide +kernel : ∀ t : Fin grid0.N, _)

/-- All points' parts together are the sum over all tokens. -/
theorem sum_parts (c : Dev nD) (r : Fin 512) (x : Fin 1024) : ∑ t : Fin cfg0.N, part m c t (ix2 r x) = (launched m c).total r x := by
  unfold Args.total
  refine Fin.sum_mul_add_congr (fun t p h => congrArg₂ (· * ·) ?_ ?_)
  all_goals blk_point [iblk, V, idx t, launched]

theorem sum_all (c : Dev nD) (r : Fin 512) (x : Fin 1024) : summed m c t0_7.val t0_7.isLt (ix2 r x) = (launched m c).total r x := by
  rw [Pipeline.eq_sum_fin_of_reset_step_apply_last (fun n h => summed m c n h) 8 (fun _ => 0)
    (part m c) (sum_first m c) (sum_later m c) (le_of_eq N_0) t0_7 rfl _, zero_add, sum_parts]

/-- The gate and the weight, as every point reads them. -/
theorem gate_eq (c : Dev nD) (t : Fin cfg0.N) (x : Fin 1024) :
    (show FVec Ideal S1x1024 .f32 from iblk m c 2 t) (ix2 0 x) = (launched m c).gate (ix2 0 x) := by
  blk_point [iblk, V, idx t, launched]

theorem host_weight (c : Dev nD) (r : Fin 512) (x : Fin 1024) :
    (show FVec Ideal S512x1024 .bf16 from V m c main_v0) (ix2 r x) = (launched m c).w (ix2 r x) := by
  entry_read
  pointwise [launched]

theorem weight_eq (c : Dev nD) (t : Fin cfg0.N) (r : Fin 512) (x : Fin 1024) :
    (show FVec Ideal S512x1024 .bf16 from iblk m c 3 t) (ix2 r x) = (launched m c).w (ix2 r x) := by
  rw [← host_weight]
  blk_point [iblk, idx t]

/-- The last point's sum, as its later statements read it. -/
theorem last_sum (c : Dev nD) (r : Fin 512) (x : Fin 1024) :
    k0_pay2 (F := Ideal) (outsAt0 m c (t0_7.val - 1) (Nat.lt_of_le_of_lt (Nat.sub_le _ _) t0_7.isLt)).2.1 (iblk m c 0 t0_7) (iblk m c 1 t0_7) (ix2 r x)
      = (launched m c).total r x := by
  rw [← sum_all, add_product]
  rfl

/-- The copy leaves the weight's gradient in the result. -/
theorem weight_at (c : Dev nD) (r : Fin 512) (x : Fin 1024) :
    (show FVec Ideal S512x1024 .f32 from (outsAt0 m c t0_7.val t0_7.isLt).2.2) (ix2 r x) = (launched m c).weightGrad r x := by
  rw [outsAt0_C m c t0_7 (by decide) (by decide)]
  frame_out
  unfold hbw0_C_0 kernelRun0_C
  dsimp only
  sl_unfold_words
  refine (congrFun (View.write_whole_univ main_v1_0 _ _) (ix2 r x)).trans ?_
  frame_out
  refine (View.read_writes_cons_unit_of_mem _ _ _ _ _ (ix2 r x) (ix2 r x) rfl
    (Fin.forall_fin_two.mpr ⟨(Nat.zero_add _).symm, (Nat.zero_add _).symm⟩)).trans ?_
  pointwise [k0_pay5]
  exact congrArg₂ (· * ·) ((congrArg (fun f => k0_pay2 (F := Ideal) f _ _ _) (Memref.IsWhole.read_unread _ _)).trans (last_sum m c r x)) (gate_eq m c t0_7 x)

/-- The gate's gradient at the last point. -/
theorem gate_at (c : Dev nD) (i : Fin 8) (x : Fin 1024) :
    (outsAt0 m c t0_7.val t0_7.isLt).1 (ix2 i x) = (launched m c).gateGrad i x := by
  rw [outsAt0_C m c t0_7 (by decide) (by decide)]
  frame_out
  rw [Common.canon_top_row, View.canon_cons_unit_lit _ _ _ (by decide)]
  unfold Args.gateGrad
  refine if_congr Iff.rfl ?_ ?_
  · pointwise [k0_pay4]
    refine Finset.sum_congr rfl fun r _ => congrArg₂ (· * ·) ((congrArg (fun f => k0_pay2 (F := Ideal) f _ _ _) (Memref.IsWhole.read_unread _ _)).trans (last_sum m c r x)) (weight_eq m c t0_7 r x)
  · pointwise [k0_pay3]

theorem gate_array (c : Dev nD) : (dats m 0 c).arrAt 4 cfg0.N = fun y : S8x1024.Idx => (launched m c).gateGrad (y 0) (y 1) := by
  refine (dats m 0 c).arrAt_eq_of_after_last 4 t0_7 (by decide +kernel) _ fun y => ?_
  blk_simp
  rw [after0_4]
  obtain ⟨i, x, rfl⟩ : ∃ (i : Fin 8) (x : Fin 1024), y = ix2 i x := ⟨y 0, y 1, by idx_ext⟩
  exact gate_at m c i x

end Cert.OutWeight

end
-- ==== Proof.OutWeight.Ref.lean ====
/- What the reference computes for finite arguments, at an index. -/
module

public import proofs.«01_k».proof.Proof.Gen.OutGradRefIdeal.Run
public import proofs.«01_k».proof.Proof.Gen.OutGradRefIdeal.Read
public import proofs.«01_k».proof.Proof.OutWeight.Args
public import Idealize.ShloMosaic.Lib.Pipeline.ValueKit

@[expose] public section

set_option maxRecDepth 16384

noncomputable section

namespace Cert.OutWeight

open Idealize.ShloMosaic.StableHlo
open Cert.OutGradRefIdeal Cert.OutGradRefIdeal.Gen Cert.OutGradRefIdeal.Read Idealize.ShloMosaic Idealize.ShloMosaic.TcCoe Idealize.SL.Sem

variable {a : Args} (h : a.Fine)

include h

theorem ref_weight (r : Fin 512) (x : Fin 1024) : val_main_v10 (F := Ideal) a.y a.dx a.gate (ix2 r x) = a.weightGrad r x := by
  rw [← h.weight]
  pointwise [val_main_v10, val_main_v9, val_main_v5, val_main_v4, val_main_v0]

theorem ref_gate (i : Fin 8) (x : Fin 1024) : val_main_v12 (F := Ideal) a.y a.dx a.w (ix2 i x) = a.gateGrad i x := by
  unfold Args.gateGrad
  rw [← h.top]
  pointwise [val_main_v12, val_main_v11, val_main_v8, val_main_v7, val_main_v6, val_main_v1, val_main_v0, val_main_cst, val_main_cst_0]
  simp only [dite_eq_ite, Nat.lt_one_iff]

end Cert.OutWeight

end
-- ==== Proof.OutWeight.Pre.lean ====
/- What the precondition of the output weight's gradient says: every element of its four arguments is finite. -/
module

public import proofs.«01_k».proof.Pre_out_finite
public import proofs.«01_k».proof.Proof.Mlp.Pre
public import proofs.«01_k».proof.Proof.OutWeight.Args

@[expose] public section

set_option maxRecDepth 16384

noncomputable section

namespace Cert.OutWeight

open Idealize.ShloMosaic Cert.Mlp Cert.Pre_out_finite Cert.Pre_out_finite.Facts

variable [Cert.Pre_out_finite.Facts]

theorem pre_fine (a : Args) (h : fn (F := Ideal) a.y a.dx a.gate a.w = fun _ => 1#1) : a.Fine := by
  have h := congrFun h (fun b => b.elim0)
  obtain ⟨h, h3⟩ := both h
  obtain ⟨h, h2⟩ := both h
  obtain ⟨h0, h1⟩ := both h
  exact {
    y := fun n r => finite_of_all _ _ _ _ h0 (ix2 n r)
    dx := fun n x => finite_of_all _ _ _ _ h1 _
    gate := fun x => finite_of_all _ _ _ _ h2 _
    w := fun r x => finite_of_all _ _ _ _ h3 _ }

end Cert.OutWeight

end
-- ==== Proof.OutWeight.Claim.lean ====
/- The mixers' output weight gradient: the kernel and the reference, launched with the same finite arrays, end with equal results. -/
module

public import proofs.«01_k».proof.Defs
public import proofs.«01_k».proof.Proof.InProj.Ref
public import proofs.«01_k».proof.Proof.OutWeight.Value
public import proofs.«01_k».proof.Proof.OutWeight.Ref
public import proofs.«01_k».proof.Proof.OutWeight.Pre
public import Idealize.ShloMosaic.Lib.Claim

@[expose] public section

set_option maxRecDepth 16384

noncomputable section

namespace Cert.OutWeight

open Cert.OutGradIdeal Idealize.ShloMosaic Idealize.ShloMosaic.TcCoe Idealize.SL.Sem Cert.InProj

theorem ref_frame : Cert.quiescent_OutGradRefIdeal := fun m g _ =>
  (θ_run _ _ _).mono (fun r h => ⟨fun c => (h c).2.2, sem_eq_zero_of_no_sems (by decide) r.2⟩) (Cert.OutGradRefIdeal.Value.run m g)

variable [Cert.Pre_out_finite.Facts]

theorem agree : Cert.algebraic_OutGradIdeal_OutGradRefIdeal_pre_out_finite := by
  intro m g m' g' hpre hargs
  refine ⟨fun c => (fun y : S512x1024.Idx => (launched m c).weightGrad (y 0) (y 1)), fun c => (fun y : S8x1024.Idx => (launched m c).gateGrad (y 0) (y 1)),
    (θ_run _ _ _).mono (fun r h c => ?_) (Cert.OutGradIdeal.Value.run_blocks m g),
    (θ_run _ _ _).mono (fun r h c => ?_) (Cert.OutGradRefIdeal.Value.run m' g')⟩
  · obtain ⟨h0, h1, h2, h3, h4, h5⟩ := h c
    exact ⟨h5.trans (array_ext (weight_at m c)), h0.trans (gate_array m c), h1, h2, h3, h4⟩
  · obtain ⟨h0, h1, h2, h3⟩ := hargs c
    have hf : (launched m c).Fine := pre_fine _ (hpre c)
    refine ⟨(h c).1.trans ((OutGradRefIdeal.Read.val_main_v10_eq _ _ _).trans ?_), (h c).2.1.trans ((OutGradRefIdeal.Read.val_main_v12_eq _ _ _).trans ?_), (h c).2.2⟩
    · rw [h0, h1, h2]
      have e := array_ext (ref_weight hf)
      exact e
    · rw [h0, h1, h3]
      have e := array_ext (ref_gate hf)
      unfold launched at e
      exact e

end Cert.OutWeight

end
-- ==== Proof.InForward.Block.lean ====
/- What one grid point of the input projection's forward kernel computes, at an index: a row's projection, cut at the five results' columns. -/
module

public import proofs.«01_k».proof.Proof.Gen.InFwdIdeal.Value
public import proofs.«01_k».proof.Proof.InProj.Row
public import Idealize.ShloMosaic.Lib.Pointwise
public import Idealize.ShloMosaic.Lib.Pipeline.ReadBack
public import Idealize.ShloMosaic.Lib.Pipeline.ValueKit

@[expose] public section

set_option maxRecDepth 16384

noncomputable section

namespace Cert.InForward

open Cert.InFwdIdeal Cert.InFwdIdeal.Gen Idealize.ShloMosaic Idealize.ShloMosaic.TcCoe Idealize.SL.Sem Idealize.ShloMosaic.Pipeline Cert.InProj

/-- A row's projection onto row `j` of the transposed weight. -/
def projRow (a s : FVec Ideal S1x1024 .f32) (w : FVec Ideal S2432x1024 .bf16) (f : Fin 1024 → EReal) (j : Fin 2432) : EReal :=
  ∑ k, modulated f (fun l => a (ix2 0 l)) (fun l => s (ix2 0 l)) k * w (ix2 j k)

section

variable (v : FVec Ideal S512x1024 .f32) (a s : FVec Ideal S1x1024 .f32) (w : FVec Ideal S2432x1024 .bf16)

theorem lower (p : Fin 256) (j : Fin 2432) : k0_pay1 (F := Ideal) (View.ld v r0_0) (View.ld a r0_1) (View.ld s r0_1) (View.ld w r0_2) (ix2 p j)
    = projRow a s w (fun k => v (ix2 ⟨p, Nat.lt_trans p.isLt (by decide)⟩ k)) j := by
  pointwise [k0_pay1]
  rfl

theorem upper (p : Fin 256) (j : Fin 2432) : k0_pay7 (F := Ideal) (View.ld v r0_6) (View.ld a r0_1) (View.ld s r0_1) (View.ld w r0_2) (ix2 p j)
    = projRow a s w (fun k => v (ix2 ⟨256 + p, Nat.add_lt_add_left p.isLt 256⟩ k)) j := by
  pointwise [k0_pay7]
  rfl

/-- The query's columns. -/
theorem query_at (y : S512x512.Idx) : out0_4 (F := Ideal) v a s w y = projRow a s w (fun k => v (ix2 (y 0) k)) ⟨(y 1 : ℕ), Nat.lt_trans (y 1).isLt (by decide)⟩ := by
  unfold out0_4
  canon_tiles x h
  · obtain rfl : y = ix2 ⟨256 + (x 0 : ℕ), Nat.add_lt_add_left x0_lt 256⟩ (x 1) := by idx_ext
    pointwise [k0_pay8]
    exact upper v a s w _ _
  · obtain rfl : y = ix2 ⟨(x 0 : ℕ), Nat.lt_trans x0_lt (by decide)⟩ (x 1) := by idx_ext
    pointwise [k0_pay2]
    exact lower v a s w _ _

/-- The columns of the keys and values. -/
theorem kv_at (y : S512x256.Idx) : out0_5 (F := Ideal) v a s w y = projRow a s w (fun k => v (ix2 (y 0) k)) ⟨512 + (y 1 : ℕ), Nat.lt_of_lt_of_le (Nat.add_lt_add_left (y 1).isLt 512) (by decide)⟩ := by
  unfold out0_5
  canon_tiles x h
  · obtain rfl : y = ix2 ⟨256 + (x 0 : ℕ), Nat.add_lt_add_left x0_lt 256⟩ (x 1) := by idx_ext
    pointwise [k0_pay9]
    exact upper v a s w _ _
  · obtain rfl : y = ix2 ⟨(x 0 : ℕ), Nat.lt_trans x0_lt (by decide)⟩ (x 1) := by idx_ext
    pointwise [k0_pay3]
    exact lower v a s w _ _

/-- The scan's gate. -/
theorem z_at (y : S512x512.Idx) : out0_6 (F := Ideal) v a s w y = projRow a s w (fun k => v (ix2 (y 0) k)) ⟨768 + (y 1 : ℕ), Nat.lt_of_lt_of_le (Nat.add_lt_add_left (y 1).isLt 768) (by decide)⟩ := by
  unfold out0_6
  canon_tiles x h
  · obtain rfl : y = ix2 ⟨256 + (x 0 : ℕ), Nat.add_lt_add_left x0_lt 256⟩ (x 1) := by idx_ext
    pointwise [k0_pay10]
    exact upper v a s w _ _
  · obtain rfl : y = ix2 ⟨(x 0 : ℕ), Nat.lt_trans x0_lt (by decide)⟩ (x 1) := by idx_ext
    pointwise [k0_pay4]
    exact lower v a s w _ _

/-- The scan's inputs. -/
theorem xbc_at (y : S512x1024.Idx) : out0_7 (F := Ideal) v a s w y = projRow a s w (fun k => v (ix2 (y 0) k)) ⟨1280 + (y 1 : ℕ), Nat.lt_of_lt_of_le (Nat.add_lt_add_left (y 1).isLt 1280) (by decide)⟩ := by
  unfold out0_7
  canon_tiles x h
  · obtain rfl : y = ix2 ⟨256 + (x 0 : ℕ), Nat.add_lt_add_left x0_lt 256⟩ (x 1) := by idx_ext
    pointwise [k0_pay11]
    exact upper v a s w _ _
  · obtain rfl : y = ix2 ⟨(x 0 : ℕ), Nat.lt_trans x0_lt (by decide)⟩ (x 1) := by idx_ext
    pointwise [k0_pay5]
    exact lower v a s w _ _

/-- The scan's steps, with their padding. -/
theorem dt_at (y : S512x128.Idx) : out0_8 (F := Ideal) v a s w y = projRow a s w (fun k => v (ix2 (y 0) k)) ⟨2304 + (y 1 : ℕ), Nat.lt_of_lt_of_le (Nat.add_lt_add_left (y 1).isLt 2304) (by decide)⟩ := by
  unfold out0_8
  canon_tiles x h
  · obtain rfl : y = ix2 ⟨256 + (x 0 : ℕ), Nat.add_lt_add_left x0_lt 256⟩ (x 1) := by idx_ext
    pointwise [k0_pay12]
    exact upper v a s w _ _
  · obtain rfl : y = ix2 ⟨(x 0 : ℕ), Nat.lt_trans x0_lt (by decide)⟩ (x 1) := by idx_ext
    pointwise [k0_pay6]
    exact lower v a s w _ _

end

end Cert.InForward

end
-- ==== Proof.InForward.Args.lean ====
/- The arguments of the input projection's forward, shared by the two programs, and what its results hold in the form the kernel computes it. -/
module

public import proofs.«01_k».proof.Proof.InProj.Row

@[expose] public section

noncomputable section

namespace Cert.InForward

open Idealize.ShloMosaic Cert.InProj

/-- The arrays both programs are given. -/
structure Args where
  x : FVec Ideal (⟨2, ![8192, 1024]⟩ : Shape) .f32
  norm : FVec Ideal (⟨2, ![1, 1024]⟩ : Shape) .f32
  scale : FVec Ideal (⟨2, ![1, 1024]⟩ : Shape) .f32
  shift : FVec Ideal (⟨2, ![1, 1024]⟩ : Shape) .f32
  w : FVec Ideal (⟨2, ![1024, 2312]⟩ : Shape) .f32

namespace Args

variable (a : Args)

/-- Token `n`. -/
def row (n : Fin 8192) (k : Fin 1024) : EReal := a.x (ix2 n k)

/-- The norm's scale. -/
def gain (k : Fin 1024) : EReal := a.norm (ix2 0 k) * (1 + a.scale (ix2 0 k))

/-- The modulated row `n`. -/
def act (n : Fin 8192) (k : Fin 1024) : EReal := modulated (a.row n) a.gain (fun l => a.shift (ix2 0 l)) k

/-- The transposed weight, with rows of zeros below. -/
def weight (x : Fin 2432) (k : Fin 1024) : EReal := if h : (x : ℕ) < 2312 then a.w (ix2 k ⟨x, h⟩) else 0

/-- The projection of token `n`. -/
def proj (n : Fin 8192) (x : Fin 2432) : EReal := ∑ k, a.act n k * a.weight x k

/-- The query's columns of the projection. -/
def query (n : Fin 8192) (j : Fin 512) : EReal := a.proj n ⟨j, Nat.lt_trans j.isLt (by decide)⟩

/-- The columns of the keys and values. -/
def kv (n : Fin 8192) (j : Fin 256) : EReal := a.proj n ⟨512 + j, Nat.lt_of_lt_of_le (Nat.add_lt_add_left j.isLt 512) (by decide)⟩

/-- The columns of the scan's gate. -/
def z (n : Fin 8192) (j : Fin 512) : EReal := a.proj n ⟨768 + j, Nat.lt_of_lt_of_le (Nat.add_lt_add_left j.isLt 768) (by decide)⟩

/-- The columns of the scan's inputs. -/
def xbc (n : Fin 8192) (j : Fin 1024) : EReal := a.proj n ⟨1280 + j, Nat.lt_of_lt_of_le (Nat.add_lt_add_left j.isLt 1280) (by decide)⟩

/-- The columns of the scan's steps, with the padding's. -/
def dt (n : Fin 8192) (j : Fin 128) : EReal := a.proj n ⟨2304 + j, Nat.lt_of_lt_of_le (Nat.add_lt_add_left j.isLt 2304) (by decide)⟩

/-- The weight's columns without the padding. -/
theorem proj_of_lt (n : Fin 8192) (x : Fin 2432) (h : (x : ℕ) < 2312) : a.proj n x = ∑ k, a.act n k * a.w (ix2 k ⟨x, h⟩) :=
  Finset.sum_congr rfl fun k _ => by rw [weight, dif_pos h]

/-- The padding gives nothing. -/
theorem proj_of_not_lt (n : Fin 8192) (x : Fin 2432) (h : ¬(x : ℕ) < 2312) : a.proj n x = 0 :=
  Finset.sum_eq_zero fun k _ => by rw [weight, dif_neg h, mul_zero]

end Args

end Cert.InForward

end
-- ==== Proof.InForward.Array.lean ====
/- What the input projection's forward kernel leaves in its five result arrays, over the arrays it is launched with. -/
module

public import proofs.«01_k».proof.Proof.InForward.Block
public import proofs.«01_k».proof.Proof.InForward.Args

@[expose] public section

set_option maxRecDepth 16384

noncomputable section

namespace Cert.InForward

open Cert.InFwdIdeal Cert.InFwdIdeal.Gen Idealize.ShloMosaic Idealize.ShloMosaic.TcCoe Idealize.SL.Sem Idealize.ShloMosaic.Pipeline Cert.InProj

variable (m : (ℓ : Loc nD τ sig) → Buf (Elt Ideal) ℓ)

/-- The arrays the kernel is launched with. -/
def launched (c : Dev nD) : Args where
  x := m ((c : Thread nD τ).loc main_arg0)
  norm := m ((c : Thread nD τ).loc main_arg1)
  scale := m ((c : Thread nD τ).loc main_arg2)
  shift := m ((c : Thread nD τ).loc main_arg3)
  w := m ((c : Thread nD τ).loc main_arg4)

/-- Every window's block index. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] :=
  (by decide +kernel : ∀ t : Fin grid0.N, _)

/-- Row `p` of block `t` is a row of the whole array. -/
def token (t : Fin cfg0.N) (p : Fin 512) : Fin 8192 := ⟨t.val * 512 + p.val, by have : t.val < 16 := t.isLt; omega⟩

/-- The scale the host prepares. -/
theorem host_gain (c : Dev nD) (k : Fin 1024) :
    (show FVec Ideal S1x1024 .f32 from V m c main_v2) (ix2 0 k) = (launched m c).gain k := by
  entry_read
  pointwise [Args.gain, launched]

/-- The weight the host prepares. -/
theorem host_weight (c : Dev nD) (x : Fin 2432) (k : Fin 1024) :
    (show FVec Ideal S2432x1024 .bf16 from V m c main_v6) (ix2 x k) = (launched m c).weight x k := by
  entry_read
  pointwise [Args.weight, launched]

theorem x_eq (c : Dev nD) (t : Fin cfg0.N) (p : Fin 512) (k : Fin 1024) :
    (show FVec Ideal S512x1024 .f32 from iblk m c 0 t) (ix2 p k) = (launched m c).row (token t p) k := by
  unfold Args.row launched token
  blk_point [iblk, V, idx t]

theorem a_eq (c : Dev nD) (t : Fin cfg0.N) (k : Fin 1024) : (show FVec Ideal S1x1024 .f32 from iblk m c 1 t) (ix2 0 k) = (launched m c).gain k := by
  rw [← host_gain]
  blk_point [iblk, idx t]

theorem s_eq (c : Dev nD) (t : Fin cfg0.N) (k : Fin 1024) : (show FVec Ideal S1x1024 .f32 from iblk m c 2 t) (ix2 0 k) = (launched m c).shift (ix2 0 k) := by
  unfold launched
  blk_point [iblk, V, idx t]

theorem w_eq (c : Dev nD) (t : Fin cfg0.N) (x : Fin 2432) (k : Fin 1024) :
    (show FVec Ideal S2432x1024 .bf16 from iblk m c 3 t) (ix2 x k) = (launched m c).weight x k := by
  rw [← host_weight]
  blk_point [iblk, idx t]

/-- A row of block `t` projected is its token's projection. -/
theorem proj_eq (c : Dev nD) (t : Fin cfg0.N) (p : Fin 512) (j : Fin 2432) :
    projRow (iblk m c 1 t) (iblk m c 2 t) (iblk m c 3 t) (fun k => (show FVec Ideal S512x1024 .f32 from iblk m c 0 t) (ix2 p k)) j
      = (launched m c).proj (token t p) j := by
  unfold projRow Args.proj Args.act
  refine Finset.sum_congr rfl fun k _ => congrArg₂ (· * ·) ?_ (w_eq m c t j k)
  exact congrFun (congr (congrArg₂ modulated (funext (x_eq m c t p)) (funext (a_eq m c t))) (funext (s_eq m c t))) k

/-- The query. -/
theorem query_array (c : Dev nD) : (dats m 0 c).arrAt 4 cfg0.N = fun y : S8192x512.Idx => (launched m c).query (y 0) (y 1) := by
  refine (dats m 0 c).arrAt_eq_of_covers 4 _ (by decide +kernel) fun t _ y => ?_
  blk_simp
  rw [after0_4]
  refine (query_at _ _ _ _ y).trans ((proj_eq m c t (y 0) _).trans (congrArg₂ _ (Fin.ext ?_) (Fin.ext ?_)))
  all_goals blk_simp [idx t, token]

/-- The keys and values. -/
theorem kv_array (c : Dev nD) : (dats m 0 c).arrAt 5 cfg0.N = fun y : S8192x256.Idx => (launched m c).kv (y 0) (y 1) := by
  refine (dats m 0 c).arrAt_eq_of_covers 5 _ (by decide +kernel) fun t _ y => ?_
  blk_simp
  rw [after0_5]
  refine (kv_at _ _ _ _ y).trans ((proj_eq m c t (y 0) _).trans (congrArg₂ _ (Fin.ext ?_) (Fin.ext ?_)))
  all_goals blk_simp [idx t, token]

/-- The scan's gate. -/
theorem z_array (c : Dev nD) : (dats m 0 c).arrAt 6 cfg0.N = fun y : S8192x512.Idx => (launched m c).z (y 0) (y 1) := by
  refine (dats m 0 c).arrAt_eq_of_covers 6 _ (by decide +kernel) fun t _ y => ?_
  blk_simp
  rw [after0_6]
  refine (z_at _ _ _ _ y).trans ((proj_eq m c t (y 0) _).trans (congrArg₂ _ (Fin.ext ?_) (Fin.ext ?_)))
  all_goals blk_simp [idx t, token]

/-- The scan's inputs. -/
theorem xbc_array (c : Dev nD) : (dats m 0 c).arrAt 7 cfg0.N = fun y : S8192x1024.Idx => (launched m c).xbc (y 0) (y 1) := by
  refine (dats m 0 c).arrAt_eq_of_covers 7 _ (by decide +kernel) fun t _ y => ?_
  blk_simp
  rw [after0_7]
  refine (xbc_at _ _ _ _ y).trans ((proj_eq m c t (y 0) _).trans (congrArg₂ _ (Fin.ext ?_) (Fin.ext ?_)))
  all_goals blk_simp [idx t, token]

/-- The scan's steps. -/
theorem dt_array (c : Dev nD) : (dats m 0 c).arrAt 8 cfg0.N = fun y : S8192x128.Idx => (launched m c).dt (y 0) (y 1) := by
  refine (dats m 0 c).arrAt_eq_of_covers 8 _ (by decide +kernel) fun t _ y => ?_
  blk_simp
  rw [after0_8]
  refine (dt_at _ _ _ _ y).trans ((proj_eq m c t (y 0) _).trans (congrArg₂ _ (Fin.ext ?_) (Fin.ext ?_)))
  all_goals blk_simp [idx t, token]

end Cert.InForward

end
-- ==== Proof.InForward.Ref.lean ====
/- What the reference's input projection computes, at an index. -/
module

public import proofs.«01_k».proof.Proof.Gen.InFwdRefIdeal.Read
public import proofs.«01_k».proof.Proof.InForward.Args
public import Idealize.ShloMosaic.Lib.Pointwise
public import Idealize.ShloMosaic.Lib.Pipeline.ValueKit

@[expose] public section

set_option maxRecDepth 16384

noncomputable section

namespace Cert.InForward

open Cert.InFwdRefIdeal Cert.InFwdRefIdeal.Gen Cert.InFwdRefIdeal.Read Idealize.ShloMosaic Idealize.ShloMosaic.TcCoe Idealize.SL.Sem Cert.InProj

/-- The modulated row. -/
theorem ref_act (a : Args) (n : Fin 8192) (k : Fin 1024) :
    val_main_v16 (F := Ideal) a.x a.norm a.scale a.shift (ix2 n k) = a.act n k := by
  pointwise [val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]
  rfl

/-- The whole projection. -/
theorem ref_proj (a : Args) (n : Fin 8192) (x : Fin 2312) :
    val_main_v17 (F := Ideal) a.x a.norm a.scale a.shift a.w (ix2 n x) = a.proj n ⟨x, Nat.lt_trans x.isLt (by decide)⟩ := by
  rw [a.proj_of_lt n _ x.isLt]
  pointwise [val_main_v17]
  exact Finset.sum_congr rfl fun k _ => by rw [← ref_act]

theorem ref_query (a : Args) (n : Fin 8192) (j : Fin 512) : val_main_v22 (F := Ideal) a.x a.norm a.scale a.shift a.w (ix2 n j) = a.query n j := by
  pointwise [val_main_v22, val_main_v21]
  exact ref_proj a n _

theorem ref_kv (a : Args) (n : Fin 8192) (j : Fin 256) : val_main_v24 (F := Ideal) a.x a.norm a.scale a.shift a.w (ix2 n j) = a.kv n j := by
  pointwise [val_main_v24, val_main_v23]
  exact ref_proj a n _

theorem ref_z (a : Args) (n : Fin 8192) (j : Fin 512) : val_main_v25 (F := Ideal) a.x a.norm a.scale a.shift a.w (ix2 n j) = a.z n j := by
  pointwise [val_main_v25]
  exact ref_proj a n _

theorem ref_xbc (a : Args) (n : Fin 8192) (j : Fin 1024) : val_main_v26 (F := Ideal) a.x a.norm a.scale a.shift a.w (ix2 n j) = a.xbc n j := by
  pointwise [val_main_v26]
  exact ref_proj a n _

/-- Eight columns of steps, then zeros. -/
theorem ref_dt (a : Args) (n : Fin 8192) (j : Fin 128) : val_main_v20 (F := Ideal) a.x a.norm a.scale a.shift a.w (ix2 n j) = a.dt n j := by
  pointwise [val_main_v20, val_main_v19, val_main_v18, val_main_cst_3]
  split
  · exact ref_proj a n _
  · exact (a.proj_of_not_lt n _ (by show ¬2304 + (j : ℕ) < 2312; omega)).symm

end Cert.InForward

end
-- ==== Proof.InForward.Claim.lean ====
/- The input projection's forward: the kernel and the reference, launched with the same arrays, end with equal results. -/
module

public import proofs.«01_k».proof.Defs
public import proofs.«01_k».proof.Proof.Gen.InFwdRefIdeal.Run
public import proofs.«01_k».proof.Proof.InProj.Ref
public import proofs.«01_k».proof.Proof.InForward.Array
public import proofs.«01_k».proof.Proof.InForward.Ref
public import Idealize.ShloMosaic.Lib.Claim

@[expose] public section

noncomputable section

namespace Cert.InForward

open Cert.InFwdIdeal Idealize.ShloMosaic Idealize.ShloMosaic.TcCoe Idealize.SL.Sem Cert.InProj

theorem ref_frame : Cert.quiescent_InFwdRefIdeal := fun m g _ =>
  (θ_run _ _ _).mono (fun r h => ⟨fun c => (h c).2.2.2.2.2, sem_eq_zero_of_no_sems (by decide) r.2⟩) (Cert.InFwdRefIdeal.Value.run m g)

theorem agree : Cert.algebraic_InFwdIdeal_InFwdRefIdeal := by
  intro m g m' g' _ hargs
  refine ⟨fun c => (fun y : S8192x512.Idx => (launched m c).query (y 0) (y 1)), fun c => (fun y : S8192x256.Idx => (launched m c).kv (y 0) (y 1)),
    fun c => (fun y : S8192x512.Idx => (launched m c).z (y 0) (y 1)), fun c => (fun y : S8192x1024.Idx => (launched m c).xbc (y 0) (y 1)),
    fun c => (fun y : S8192x128.Idx => (launched m c).dt (y 0) (y 1)),
    (θ_run _ _ _).mono (fun r h c => ?_) (Cert.InFwdIdeal.Value.run_blocks m g),
    (θ_run _ _ _).mono (fun r h c => ?_) (Cert.InFwdRefIdeal.Value.run m' g')⟩
  · obtain ⟨h0, h1, h2, h3, h4, hkept⟩ := h c
    exact ⟨h0.trans (query_array m c), h1.trans (kv_array m c), h2.trans (z_array m c), h3.trans (xbc_array m c), h4.trans (dt_array m c), hkept⟩
  · obtain ⟨h0, h1, h2, h3, h4⟩ := hargs c
    obtain ⟨r0, r1, r2, r3, r4, hkept⟩ := h c
    refine ⟨r0.trans ((InFwdRefIdeal.Read.val_main_v22_eq _ _ _ _ _).trans ?_), r1.trans ((InFwdRefIdeal.Read.val_main_v24_eq _ _ _ _ _).trans ?_),
      r2.trans ((InFwdRefIdeal.Read.val_main_v25_eq _ _ _ _ _).trans ?_), r3.trans ((InFwdRefIdeal.Read.val_main_v26_eq _ _ _ _ _).trans ?_),
      r4.trans ((InFwdRefIdeal.Read.val_main_v20_eq _ _ _ _ _).trans ?_), hkept⟩
    all_goals rw [h0, h1, h2, h3, h4]
    · exact array_ext (ref_query (launched m c))
    · exact array_ext (ref_kv (launched m c))
    · exact array_ext (ref_z (launched m c))
    · exact array_ext (ref_xbc (launched m c))
    · exact array_ext (ref_dt (launched m c))

end Cert.InForward

end
-- ==== Proof.lean ====
module

public import proofs.«01_k».proof.Defs
public import proofs.«01_k».proof.Proof.Gen.InProjBwd
public import proofs.«01_k».proof.Proof.Gen.InProjBwd.Skeleton
public import proofs.«01_k».proof.Proof.Gen.InProjBwd.Launch
public import proofs.«01_k».proof.Proof.Gen.InProjBwd.Points
public import proofs.«01_k».proof.Proof.Gen.InProjBwd.Frame
public import proofs.«01_k».proof.Proof.Gen.InProjBwdIdeal
public import proofs.«01_k».proof.Proof.Gen.InProjBwdIdeal.Skeleton
public import proofs.«01_k».proof.Proof.Gen.InProjBwdIdeal.Launch
public import proofs.«01_k».proof.Proof.Gen.InProjBwdIdeal.Points
public import proofs.«01_k».proof.Proof.Gen.InProjBwdIdeal.Frame
public import proofs.«01_k».proof.Proof.Gen.InProjRefIdeal
public import proofs.«01_k».proof.Proof.Gen.InProjBwdIdeal.Value
public import proofs.«01_k».proof.Proof.Gen.InProjRefIdeal.Run
public import proofs.«01_k».proof.Proof.Gen.InProjRefIdeal.Read
public import proofs.«01_k».proof.Proof.InProj.Claim
public import proofs.«01_k».proof.Proof.Gen.MlpBwd
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame.RunB
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Pre_mlp_finite
public import proofs.«01_k».proof.Proof.Mlp.Claim
public import proofs.«01_k».proof.Proof.Gen.MlpFwd
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame.RunB
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.Fwd.Claim
public import proofs.«01_k».proof.Proof.Gen.GateUpGrad
public import proofs.«01_k».proof.Proof.Gen.GateUpGradIdeal
public import proofs.«01_k».proof.Proof.Gen.GateUpGradIdeal.Skeleton
public import proofs.«01_k».proof.Proof.Gen.GateUpGradIdeal.Launch
public import proofs.«01_k».proof.Proof.Gen.GateUpGradIdeal.Points
public import proofs.«01_k».proof.Proof.Gen.GateUpRefIdeal
public import proofs.«01_k».proof.Proof.Gen.GateUpRefIdeal.Run
public import proofs.«01_k».proof.Proof.Gen.GateUpRefIdeal.Read
public import proofs.«01_k».proof.Proof.GateUp.Claim
public import proofs.«01_k».proof.Proof.Gen.InGrad
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame.RunB
public import proofs.«01_k».proof.Proof.Gen.InGradRefIdeal
public import proofs.«01_k».proof.Proof.Gen.InGradRefIdeal.Run
public import proofs.«01_k».proof.Proof.Gen.InGradRefIdeal.Read
public import proofs.«01_k».proof.Proof.InWeight.Claim
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.OutGradRefIdeal.Read
public import proofs.«01_k».proof.Proof.Gen.Pre_out_finite
public import proofs.«01_k».proof.Proof.OutWeight.Claim
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.InForward.Claim
public import Idealize.ShloMosaic.Adequacy
public import Idealize.ShloMosaic.Init

@[expose] public section

noncomputable section

namespace Cert.Proof

open Idealize.ShloMosaic Idealize.SL.Sem Cert.InProjBwd

theorem claim : Cert.Claim :=
  ⟨Cert.InProjBwd.Gen.facts, Cert.InProjBwdIdeal.Gen.facts, Cert.InProjRefIdeal.Gen.facts, Cert.MlpBwd.Gen.facts, Cert.MlpBwdIdeal.Gen.facts,
    Cert.MlpRefIdeal.Gen.facts, Cert.MlpFwd.Gen.facts, Cert.MlpFwdIdeal.Gen.facts, Cert.MlpFwdRefIdeal.Gen.facts,
    Cert.GateUpGrad.Gen.facts, Cert.GateUpGradIdeal.Gen.facts, Cert.GateUpRefIdeal.Gen.facts,
    Cert.InGrad.Gen.facts, Cert.InGradIdeal.Gen.facts, Cert.InGradRefIdeal.Gen.facts,
    Cert.OutGrad.Gen.facts, Cert.OutGradIdeal.Gen.facts, Cert.OutGradRefIdeal.Gen.facts, Cert.InFwd.Gen.facts, Cert.InFwdIdeal.Gen.facts, Cert.InFwdRefIdeal.Gen.facts,
    Cert.Pre_mlp_finite.Gen.facts, Cert.Pre_out_finite.Gen.facts,
    fun m ρ _ => Cert.InProjBwd.Gen.frame m ρ, fun m ρ _ => Cert.InProjBwdIdeal.Gen.frame m ρ, Cert.InProj.ref_frame,
    Cert.Mlp.frame_kernel, Cert.Mlp.frame_ideal, fun m ρ _ => Cert.Mlp.frame_ideal m ρ trivial, Cert.Mlp.ref_frame, fun m ρ _ => Cert.Mlp.ref_frame m ρ trivial,
    Cert.Fwd.frame_kernel, Cert.Fwd.frame_ideal, Cert.Fwd.ref_frame,
    Cert.GateUp.frame_kernel, Cert.GateUp.frame_ideal, Cert.GateUp.ref_frame,
    Cert.InWeight.frame_kernel, Cert.InWeight.frame_ideal, Cert.InWeight.ref_frame,
    fun m ρ _ => Cert.OutGrad.Gen.frame m ρ, fun m ρ _ => Cert.OutGradIdeal.Gen.frame m ρ, fun m ρ _ => Cert.OutGradIdeal.Gen.frame m ρ,
    Cert.OutWeight.ref_frame, fun m ρ _ => Cert.OutWeight.ref_frame m ρ trivial,
    fun m ρ _ => Cert.InFwd.Gen.frame m ρ, fun m ρ _ => Cert.InFwdIdeal.Gen.frame m ρ, Cert.InForward.ref_frame,
    trivial, Cert.InProj.agree, trivial, Cert.Mlp.agree, trivial, Cert.Fwd.agree, trivial, Cert.GateUp.agree,
    trivial, Cert.InWeight.agree, trivial, Cert.OutWeight.agree, trivial, Cert.InForward.agree⟩

end Cert.Proof

end
